-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x20000x21 : Shape := ⟨3, ![1, 20000, 21]⟩
abbrev S1x20000x4 : Shape := ⟨3, ![1, 20000, 4]⟩
abbrev S20000x4 : Shape := ⟨2, ![20000, 4]⟩
abbrev S20000x21 : Shape := ⟨2, ![20000, 21]⟩
abbrev S21x20000 : Shape := ⟨2, ![21, 20000]⟩
abbrev S4x20000 : Shape := ⟨2, ![4, 20000]⟩
abbrev S1x128 : Shape := ⟨2, ![1, 128]⟩
abbrev S1x100 : Shape := ⟨2, ![1, 100]⟩
abbrev S100 : Shape := ⟨1, ![100]⟩
abbrev S100x1 : Shape := ⟨2, ![100, 1]⟩
abbrev S100x4 : Shape := ⟨2, ![100, 4]⟩
abbrev S20000 : Shape := ⟨1, ![20000]⟩
abbrev S1x20000 : Shape := ⟨2, ![1, 20000]⟩
abbrev S20x20000 : Shape := ⟨2, ![20, 20000]⟩
abbrev S20x1 : Shape := ⟨2, ![20, 1]⟩
abbrev S1x20x20000 : Shape := ⟨3, ![1, 20, 20000]⟩
abbrev S1 : Shape := ⟨1, ![1]⟩
abbrev S1x1x1 : Shape := ⟨3, ![1, 1, 1]⟩
abbrev S1x1x20000 : Shape := ⟨3, ![1, 1, 20000]⟩

abbrev nBuf : Space → Nat
  | .hbm => 31
  | .vmem => 9
  | .smem => 0
  | _ => 0

abbrev bufTy : (tb : Table) → Fin (tcTables nBuf tb) → BufTy
  | .hbm, ⟨0, _⟩ => ⟨S1x20000x21, .f32⟩
  | .hbm, ⟨1, _⟩ => ⟨S1x20000x4, .f32⟩
  | .hbm, ⟨2, _⟩ => ⟨S20000x4, .f32⟩
  | .hbm, ⟨3, _⟩ => ⟨S20000x21, .f32⟩
  | .hbm, ⟨4, _⟩ => ⟨S21x20000, .f32⟩
  | .hbm, ⟨5, _⟩ => ⟨S20000x4, .f32⟩
  | .hbm, ⟨6, _⟩ => ⟨S4x20000, .f32⟩
  | .hbm, ⟨7, _⟩ => ⟨S4x20000, .f32⟩
  | .hbm, ⟨8, _⟩ => ⟨S1x128, .f32⟩
  | .hbm, ⟨9, _⟩ => ⟨S1x128, .i32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x100, .f32⟩
  | .hbm, ⟨15, _⟩ => ⟨S100, .f32⟩
  | .hbm, ⟨16, _⟩ => ⟨S1x100, .i32⟩
  | .hbm, ⟨17, _⟩ => ⟨S100, .i32⟩
  | .hbm, ⟨18, _⟩ => ⟨S1x100, .f32⟩
  | .hbm, ⟨19, _⟩ => ⟨S100, .f32⟩
  | .hbm, ⟨20, _⟩ => ⟨S1x100, .f32⟩
  | .hbm, ⟨21, _⟩ => ⟨S100, .f32⟩
  | .hbm, ⟨22, _⟩ => ⟨S1x100, .f32⟩
  | .hbm, ⟨23, _⟩ => ⟨S100, .f32⟩
  | .hbm, ⟨24, _⟩ => ⟨S1x100, .f32⟩
  | .hbm, ⟨25, _⟩ => ⟨S100, .f32⟩
  | .hbm, ⟨26, _⟩ => ⟨S100x1, .f32⟩
  | .hbm, ⟨27, _⟩ => ⟨S100x1, .f32⟩
  | .hbm, ⟨28, _⟩ => ⟨S100x1, .f32⟩
  | .hbm, ⟨29, _⟩ => ⟨S100x1, .f32⟩
  | .hbm, ⟨30, _⟩ => ⟨S100x4, .f32⟩
  | .local _ .vmem, ⟨0, _⟩ => ⟨S21x20000, .f32⟩
  | .local _ .vmem, ⟨1, _⟩ => ⟨S4x20000, .f32⟩
  | .local _ .vmem, ⟨2, _⟩ => ⟨S4x20000, .f32⟩
  | .local _ .vmem, ⟨3, _⟩ => ⟨S1x128, .f32⟩
  | .local _ .vmem, ⟨4, _⟩ => ⟨S1x128, .i32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | _, _ => ⟨S1x20000x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5_0 : Ref sig .tc := ⟨.hbm, 8, rfl⟩
abbrev main_call0_v5_1 : Ref sig .tc := ⟨.hbm, 9, rfl⟩
abbrev main_call0_v5_2 : Ref sig .tc := ⟨.hbm, 10, rfl⟩
abbrev main_call0_v5_3 : Ref sig .tc := ⟨.hbm, 11, rfl⟩
abbrev main_call0_v5_4 : Ref sig .tc := ⟨.hbm, 12, rfl⟩
abbrev main_call0_v5_5 : Ref sig .tc := ⟨.hbm, 13, rfl⟩
abbrev main_call0_v6 : Ref sig .tc := ⟨.hbm, 14, rfl⟩
abbrev main_v0_1 : Ref sig .tc := ⟨.hbm, 15, rfl⟩
abbrev main_call0_v8 : Ref sig .tc := ⟨.hbm, 16, rfl⟩
abbrev main_v0_2 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_v0_0 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_23 : BitVec 32 := 0#32
  let c100_i32 : BitVec 32 := 100#32
  let v83 : BitVec 32 := Scalar.addi c0_i32_23 c100_i32
  let c1_i32 : BitVec 32 := 1#32
  ⟨c0_i32_23, v83, c1_i32⟩
abbrev stage0_0 : Fin 1 → Memref sig .tc .vmem S21x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S1x20000x21 : Shape := ⟨3, ![1, 20000, 21]⟩
abbrev S1x20000x4 : Shape := ⟨3, ![1, 20000, 4]⟩
abbrev S20000x4 : Shape := ⟨2, ![20000, 4]⟩
abbrev S_ : Shape := ⟨0, ![]⟩
abbrev S1x20000 : Shape := ⟨2, ![1, 20000]⟩
abbrev S1x20000x1 : Shape := ⟨3, ![1, 20000, 1]⟩
abbrev S1x20000x2 : Shape := ⟨3, ![1, 20000, 2]⟩
abbrev S20000x2 : Shape := ⟨2, ![20000, 2]⟩
abbrev S20000x21 : Shape := ⟨2, ![20000, 21]⟩
abbrev S20000x1x4 : Shape := ⟨3, ![20000, 1, 4]⟩
abbrev S20000x21x4 : Shape := ⟨3, ![20000, 21, 4]⟩
abbrev S21 : Shape := ⟨1, ![21]⟩
abbrev S1x21 : Shape := ⟨2, ![1, 21]⟩
abbrev S20000x20x4 : Shape := ⟨3, ![20000, 20, 4]⟩
abbrev S400000x4 : Shape := ⟨2, ![400000, 4]⟩
abbrev S20000x20 : Shape := ⟨2, ![20000, 20]⟩
abbrev S400000 : Shape := ⟨1, ![400000]⟩
abbrev S400000x1 : Shape := ⟨2, ![400000, 1]⟩
abbrev S100 : Shape := ⟨1, ![100]⟩
abbrev S1 : Shape := ⟨1, ![1]⟩
abbrev S1x4 : Shape := ⟨2, ![1, 4]⟩
abbrev S4 : Shape := ⟨1, ![4]⟩
abbrev S2 : Shape := ⟨1, ![2]⟩
abbrev S400000x2 : Shape := ⟨2, ![400000, 2]⟩
abbrev S1x2 : Shape := ⟨2, ![1, 2]⟩
abbrev S100x1 : Shape := ⟨2, ![100, 1]⟩
abbrev S100x4 : Shape := ⟨2, ![100, 4]⟩

abbrev nBuf : Space → Nat
  | .hbm => 231
  | .vmem => 0
  | .smem => 0
  | _ => 0

abbrev hbmTy0_0 (i : Nat) : BufTy := match i % 128 with
  | 0 => ⟨S1x20000x21, .f32⟩
  | 1 => ⟨S1x20000x4, .f32⟩
  | 2 => ⟨S20000x4, .f32⟩
  | 3 => ⟨S_, .f32⟩
  | 4 => ⟨S1x20000, .f32⟩
  | 5 => ⟨S_, .f32⟩
  | 6 => ⟨S1x20000, .f32⟩
  | 7 => ⟨S1x20000, .f32⟩
  | 8 => ⟨S1x20000x1, .f32⟩
  | 9 => ⟨S1x20000x21, .f32⟩
  | 10 => ⟨S1x20000x21, .f32⟩
  | 11 => ⟨S1x20000x21, .f32⟩
  | 12 => ⟨S_, .f32⟩
  | 13 => ⟨S1x20000, .f32⟩
  | 14 => ⟨S1x20000x1, .f32⟩
  | 15 => ⟨S1x20000x21, .f32⟩
  | 16 => ⟨S1x20000x21, .f32⟩
  | 17 => ⟨S1x20000x2, .f32⟩
  | 18 => ⟨S_, .f32⟩
  | 19 => ⟨S1x20000x2, .f32⟩
  | 20 => ⟨S1x20000x2, .f32⟩
  | 21 => ⟨S20000x2, .f32⟩
  | 22 => ⟨S1x20000x2, .f32⟩
  | 23 => ⟨S1x20000x2, .f32⟩
  | 24 => ⟨S20000x2, .f32⟩
  | 25 => ⟨S1x20000x2, .f32⟩
  | 26 => ⟨S1x20000x2, .f32⟩
  | 27 => ⟨S1x20000x2, .f32⟩
  | 28 => ⟨S_, .f32⟩
  | 29 => ⟨S1x20000x2, .f32⟩
  | 30 => ⟨S1x20000x2, .f32⟩
  | 31 => ⟨S1x20000x2, .f32⟩
  | 32 => ⟨S20000x2, .f32⟩
  | 33 => ⟨S1x20000x2, .f32⟩
  | 34 => ⟨S1x20000x2, .f32⟩
  | 35 => ⟨S1x20000x4, .f32⟩
  | 36 => ⟨S1x20000x2, .f32⟩
  | 37 => ⟨S1x20000x2, .f32⟩
  | 38 => ⟨S_, .f32⟩
  | 39 => ⟨S1x20000x2, .f32⟩
  | 40 => ⟨S1x20000x2, .f32⟩
  | 41 => ⟨S1x20000x2, .f32⟩
  | 42 => ⟨S1x20000x2, .f32⟩
  | 43 => ⟨S1x20000x2, .f32⟩
  | 44 => ⟨S_, .f32⟩
  | 45 => ⟨S1x20000x2, .f32⟩
  | 46 => ⟨S1x20000x2, .f32⟩
  | 47 => ⟨S1x20000x2, .f32⟩
  | 48 => ⟨S1x20000x4, .f32⟩
  | 49 => ⟨S20000x21, .f32⟩
  | 50 => ⟨S20000x4, .f32⟩
  | 51 => ⟨S20000x1x4, .f32⟩
  | 52 => ⟨S20000x21x4, .f32⟩
  | 53 => ⟨S21, .i32⟩
  | 54 => ⟨S1x21, .i32⟩
  | 55 => ⟨S20000x21, .i32⟩
  | 56 => ⟨S20000x20x4, .f32⟩
  | 57 => ⟨S400000x4, .f32⟩
  | 58 => ⟨S20000x20, .i32⟩
  | 59 => ⟨S400000, .i32⟩
  | 60 => ⟨S20000x20, .f32⟩
  | 61 => ⟨S400000, .f32⟩
  | 62 => ⟨S_, .f32⟩
  | 63 => ⟨S400000x4, .f32⟩
  | 64 => ⟨S400000x4, .f32⟩
  | 65 => ⟨S_, .f32⟩
  | 66 => ⟨S400000, .f32⟩
  | 67 => ⟨S400000, .i1⟩
  | 68 => ⟨S_, .f32⟩
  | 69 => ⟨S_, .f32⟩
  | 70 => ⟨S400000, .f32⟩
  | 71 => ⟨S400000, .f32⟩
  | 72 => ⟨S400000, .f32⟩
  | 73 => ⟨S_, .f32⟩
  | 74 => ⟨S400000, .f32⟩
  | 75 => ⟨S400000, .f32⟩
  | 76 => ⟨S400000x1, .f32⟩
  | 77 => ⟨S400000x4, .f32⟩
  | 78 => ⟨S400000x4, .f32⟩
  | 79 => ⟨S_, .i32⟩
  | 80 => ⟨S100, .i32⟩
  | 81 => ⟨S_, .i1⟩
  | 82 => ⟨S100, .i1⟩
  | 83 => ⟨S_, .i32⟩
  | 84 => ⟨S400000x4, .f32⟩
  | 85 => ⟨S_, .i32⟩
  | 86 => ⟨S400000, .f32⟩
  | 87 => ⟨S100, .i32⟩
  | 88 => ⟨S100, .i1⟩
  | 89 => ⟨S_, .i32⟩
  | 90 => ⟨S_, .i1⟩
  | 91 => ⟨S400000, .i32⟩
  | 92 => ⟨S_, .f32⟩
  | 93 => ⟨S_, .i32⟩
  | 94 => ⟨S_, .f32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S1, .f32⟩
  | 102 => ⟨S_, .f32⟩
  | 103 => ⟨S_, .f32⟩
  | 104 => ⟨S_, .i1⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S1x4, .f32⟩
  | 119 => ⟨S4, .f32⟩
  | 120 => ⟨S2, .f32⟩
  | 121 => ⟨S400000x2, .f32⟩
  | 122 => ⟨S1x2, .f32⟩
  | 123 => ⟨S400000x2, .f32⟩
  | 124 => ⟨S400000x2, .f32⟩
  | 125 => ⟨S2, .f32⟩
  | 126 => ⟨S400000x2, .f32⟩
  | 127 => ⟨S1x2, .f32⟩
  | _ => ⟨S1x20000x21, .f32⟩

abbrev hbmTy0_1 (i : Nat) : BufTy := match i % 128 with
  | 0 => ⟨S400000x2, .f32⟩
  | 1 => ⟨S400000x2, .f32⟩
  | 2 => ⟨S400000x2, .f32⟩
  | 3 => ⟨S_, .f32⟩
  | 4 => ⟨S_, .f32⟩
  | 5 => ⟨S400000x2, .f32⟩
  | 6 => ⟨S400000x2, .f32⟩
  | 7 => ⟨S400000x1, .f32⟩
  | 8 => ⟨S400000, .f32⟩
  | 9 => ⟨S400000x1, .f32⟩
  | 10 => ⟨S400000, .f32⟩
  | 11 => ⟨S400000, .f32⟩
  | 12 => ⟨S1, .f32⟩
  | 13 => ⟨S_, .f32⟩
  | 14 => ⟨S1, .f32⟩
  | 15 => ⟨S_, .f32⟩
  | 16 => ⟨S_, .f32⟩
  | 17 => ⟨S1, .f32⟩
  | 18 => ⟨S_, .f32⟩
  | 19 => ⟨S1, .f32⟩
  | 20 => ⟨S_, .f32⟩
  | 21 => ⟨S_, .f32⟩
  | 22 => ⟨S_, .f32⟩
  | 23 => ⟨S400000x1, .f32⟩
  | 24 => ⟨S400000, .f32⟩
  | 25 => ⟨S400000x1, .f32⟩
  | 26 => ⟨S400000, .f32⟩
  | 27 => ⟨S400000, .f32⟩
  | 28 => ⟨S400000x1, .f32⟩
  | 29 => ⟨S400000, .f32⟩
  | 30 => ⟨S400000x1, .f32⟩
  | 31 => ⟨S400000, .f32⟩
  | 32 => ⟨S400000, .f32⟩
  | 33 => ⟨S400000, .f32⟩
  | 34 => ⟨S400000, .f32⟩
  | 35 => ⟨S400000, .f32⟩
  | 36 => ⟨S400000, .f32⟩
  | 37 => ⟨S_, .f32⟩
  | 38 => ⟨S400000, .f32⟩
  | 39 => ⟨S400000, .f32⟩
  | 40 => ⟨S400000, .f32⟩
  | 41 => ⟨S_, .f32⟩
  | 42 => ⟨S400000, .f32⟩
  | 43 => ⟨S400000, .i1⟩
  | 44 => ⟨S_, .f32⟩
  | 45 => ⟨S_, .f32⟩
  | 46 => ⟨S400000, .f32⟩
  | 47 => ⟨S400000, .f32⟩
  | 48 => ⟨S_, .i32⟩
  | 49 => ⟨S_, .i1⟩
  | 50 => ⟨S_, .i32⟩
  | 51 => ⟨S_, .i32⟩
  | 52 => ⟨S_, .i32⟩
  | 53 => ⟨S1, .i32⟩
  | 54 => ⟨S_, .f32⟩
  | 55 => ⟨S400000, .f32⟩
  | 56 => ⟨S1, .i32⟩
  | 57 => ⟨S100, .i32⟩
  | 58 => ⟨S1, .i1⟩
  | 59 => ⟨S100, .i1⟩
  | 60 => ⟨S_, .i32⟩
  | 61 => ⟨S_, .i32⟩
  | 62 => ⟨S100x1, .i1⟩
  | 63 => ⟨S_, .i32⟩
  | 64 => ⟨S100, .i32⟩
  | 65 => ⟨S100, .i1⟩
  | 66 => ⟨S_, .i32⟩
  | 67 => ⟨S100, .i32⟩
  | 68 => ⟨S100, .i32⟩
  | 69 => ⟨S100, .i32⟩
  | 70 => ⟨S100x1, .i32⟩
  | 71 => ⟨S100x4, .f32⟩
  | 72 => ⟨S_, .f32⟩
  | 73 => ⟨S_, .f32⟩
  | 74 => ⟨S100x4, .i1⟩
  | 75 => ⟨S100x4, .f32⟩
  | 76 => ⟨S100x4, .f32⟩
  | 77 => ⟨S_, .i32⟩
  | 78 => ⟨S100, .i32⟩
  | 79 => ⟨S100, .i1⟩
  | 80 => ⟨S_, .i32⟩
  | 81 => ⟨S100, .i32⟩
  | 82 => ⟨S100, .i32⟩
  | 83 => ⟨S100, .i32⟩
  | 84 => ⟨S100x1, .i32⟩
  | 85 => ⟨S100, .f32⟩
  | 86 => ⟨S_, .f32⟩
  | 87 => ⟨S_, .f32⟩
  | 88 => ⟨S100, .f32⟩
  | 89 => ⟨S100, .f32⟩
  | 90 => ⟨S_, .i32⟩
  | 91 => ⟨S100, .i32⟩
  | 92 => ⟨S100, .i1⟩
  | 93 => ⟨S_, .i32⟩
  | 94 => ⟨S100, .i32⟩
  | 95 => ⟨S100, .i32⟩
  | 96 => ⟨S100, .i32⟩
  | 97 => ⟨S100x1, .i32⟩
  | 98 => ⟨S100, .i32⟩
  | 99 => ⟨S_, .i32⟩
  | 100 => ⟨S_, .i32⟩
  | 101 => ⟨S100, .i32⟩
  | 102 => ⟨S100, .i32⟩
  | _ => ⟨S1x20000x21, .f32⟩

abbrev hbmTy (i : Nat) : BufTy := match i / 128 with
  | 0 => hbmTy0_0 i
  | 1 => hbmTy0_1 i
  | _ => ⟨S1x20000x21, .f32⟩

abbrev bufTy : (tb : Table) → Fin (tcTables nBuf tb) → BufTy
  | .hbm, ⟨i, _⟩ => hbmTy i
  | _, _ => ⟨S1x20000x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_call0_v0 : Ref sig .tc := ⟨.hbm, 69, rfl⟩
abbrev main_call0_v1 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c : Ref sig .tc := ⟨.hbm, 79, rfl⟩
abbrev main_v63 : Ref sig .tc := ⟨.hbm, 80, rfl⟩
abbrev main_c_10 : Ref sig .tc := ⟨.hbm, 81, rfl⟩
abbrev main_v64 : Ref sig .tc := ⟨.hbm, 82, rfl⟩
abbrev main_c_11 : Ref sig .tc := ⟨.hbm, 83, rfl⟩
abbrev main_v65_0 : Ref sig .tc := ⟨.hbm, 84, rfl⟩
abbrev main_v65_1 : Ref sig .tc := ⟨.hbm, 85, rfl⟩
abbrev main_v65_2 : Ref sig .tc := ⟨.hbm, 86, rfl⟩
abbrev main_v65_3 : Ref sig .tc := ⟨.hbm, 87, rfl⟩
abbrev main_v65_4 : Ref sig .tc := ⟨.hbm, 88, rfl⟩
abbrev main_while0c_c_25 : Ref sig .tc := ⟨.hbm, 89, rfl⟩
abbrev main_while0c_v91 : Ref sig .tc := ⟨.hbm, 90, rfl⟩
abbrev main_while0b_call1_v0 : Ref sig .tc := ⟨.hbm, 91, rfl⟩
abbrev main_while0b_call1_cst : Ref sig .tc := ⟨.hbm, 92, rfl⟩
abbrev main_while0b_call1_c : Ref sig .tc := ⟨.hbm, 93, rfl⟩
abbrev main_while0b_call1_v1_0 : Ref sig .tc := ⟨.hbm, 94, rfl⟩
abbrev main_while0b_v91 : Ref sig .tc := ⟨.hbm, 95, rfl⟩
abbrev main_while0b_c_25 : Ref sig .tc := ⟨.hbm, 96, rfl⟩
abbrev main_while0b_v92 : Ref sig .tc := ⟨.hbm, 97, rfl⟩
abbrev main_while0b_c_26 : Ref sig .tc := ⟨.hbm, 98, rfl⟩
abbrev main_while0b_v93 : Ref sig .tc := ⟨.hbm, 99, rfl⟩
abbrev main_while0b_v94 : Ref sig .tc := ⟨.hbm, 100, rfl⟩
abbrev main_while0b_v95 : Ref sig .tc := ⟨.hbm, 101, rfl⟩
abbrev main_while0b_v96 : Ref sig .tc := ⟨.hbm, 102, rfl⟩
abbrev main_while0b_cst_27 : Ref sig .tc := ⟨.hbm, 103, rfl⟩
abbrev main_while0b_v97 : Ref sig .tc := ⟨.hbm, 104, rfl⟩
abbrev main_while0b_c_28 : Ref sig .tc := ⟨.hbm, 105, rfl⟩
abbrev main_while0b_v98 : Ref sig .tc := ⟨.hbm, 106, rfl⟩
abbrev main_while0b_c_29 : Ref sig .tc := ⟨.hbm, 107, rfl⟩
abbrev main_while0b_v99 : Ref sig .tc := ⟨.hbm, 108, rfl⟩
abbrev main_while0b_v100 : Ref sig .tc := ⟨.hbm, 109, rfl⟩
abbrev main_while0b_c_30 : Ref sig .tc := ⟨.hbm, 110, rfl⟩
abbrev main_while0b_c_31 : Ref sig .tc := ⟨.hbm, 111, rfl⟩
abbrev main_while0b_v101 : Ref sig .tc := ⟨.hbm, 112, rfl⟩
abbrev main_while0b_c_32 : Ref sig .tc := ⟨.hbm, 113, rfl⟩
abbrev main_while0b_c_33 : Ref sig .tc := ⟨.hbm, 114, rfl⟩
abbrev main_while0b_v102 : Ref sig .tc := ⟨.hbm, 115, rfl⟩
abbrev main_while0b_c_34 : Ref sig .tc := ⟨.hbm, 116, rfl⟩
abbrev main_while0b_v103 : Ref sig .tc := ⟨.hbm, 117, rfl⟩
abbrev main_while0b_v104 : Ref sig .tc := ⟨.hbm, 118, rfl⟩
abbrev main_while0b_v105 : Ref sig .tc := ⟨.hbm, 119, rfl⟩
abbrev main_while0b_v106 : Ref sig .tc := ⟨.hbm, 120, rfl⟩
abbrev main_while0b_v107 : Ref sig .tc := ⟨.hbm, 121, rfl⟩
abbrev main_while0b_v108 : Ref sig .tc := ⟨.hbm, 122, rfl⟩
abbrev main_while0b_v109 : Ref sig .tc := ⟨.hbm, 123, rfl⟩
abbrev main_while0b_v110 : Ref sig .tc := ⟨.hbm, 124, rfl⟩
abbrev main_while0b_v111 : Ref sig .tc := ⟨.hbm, 125, rfl⟩
abbrev main_while0b_v112 : Ref sig .tc := ⟨.hbm, 126, rfl⟩
abbrev main_while0b_v113 : Ref sig .tc := ⟨.hbm, 127, rfl⟩
abbrev main_while0b_v114 : Ref sig .tc := ⟨.hbm, 128, rfl⟩
abbrev main_while0b_v115 : Ref sig .tc := ⟨.hbm, 129, rfl⟩
abbrev main_while0b_v116 : Ref sig .tc := ⟨.hbm, 130, rfl⟩
abbrev main_while0b_cst_35 : Ref sig .tc := ⟨.hbm, 131, rfl⟩
abbrev main_while0b_call2_v0 : Ref sig .tc := ⟨.hbm, 132, rfl⟩
abbrev main_while0b_call2_v1 : Ref sig .tc := ⟨.hbm, 133, rfl⟩
abbrev main_while0b_v117 : Ref sig .tc := ⟨.hbm, 134, rfl⟩
abbrev main_while0b_v118 : Ref sig .tc := ⟨.hbm, 135, rfl⟩
abbrev main_while0b_v119 : Ref sig .tc := ⟨.hbm, 136, rfl⟩
abbrev main_while0b_v120 : Ref sig .tc := ⟨.hbm, 137, rfl⟩
abbrev main_while0b_v121 : Ref sig .tc := ⟨.hbm, 138, rfl⟩
abbrev main_while0b_v122 : Ref sig .tc := ⟨.hbm, 139, rfl⟩
abbrev main_while0b_v123 : Ref sig .tc := ⟨.hbm, 140, rfl⟩
abbrev main_while0b_v124 : Ref sig .tc := ⟨.hbm, 141, rfl⟩
abbrev main_while0b_v125 : Ref sig .tc := ⟨.hbm, 142, rfl⟩
abbrev main_while0b_v126 : Ref sig .tc := ⟨.hbm, 143, rfl⟩
abbrev main_while0b_v127 : Ref sig .tc := ⟨.hbm, 144, rfl⟩
abbrev main_while0b_v128 : Ref sig .tc := ⟨.hbm, 145, rfl⟩
abbrev main_while0b_v129 : Ref sig .tc := ⟨.hbm, 146, rfl⟩
abbrev main_while0b_v130 : Ref sig .tc := ⟨.hbm, 147, rfl⟩
abbrev main_while0b_v131 : Ref sig .tc := ⟨.hbm, 148, rfl⟩
abbrev main_while0b_v132 : Ref sig .tc := ⟨.hbm, 149, rfl⟩
abbrev main_while0b_v133 : Ref sig .tc := ⟨.hbm, 150, rfl⟩
abbrev main_while0b_v134 : Ref sig .tc := ⟨.hbm, 151, rfl⟩
abbrev main_while0b_v135 : Ref sig .tc := ⟨.hbm, 152, rfl⟩
abbrev main_while0b_v136 : Ref sig .tc := ⟨.hbm, 153, rfl⟩
abbrev main_while0b_v137 : Ref sig .tc := ⟨.hbm, 154, rfl⟩
abbrev main_while0b_v138 : Ref sig .tc := ⟨.hbm, 155, rfl⟩
abbrev main_while0b_v139 : Ref sig .tc := ⟨.hbm, 156, rfl⟩
abbrev main_while0b_v140 : Ref sig .tc := ⟨.hbm, 157, rfl⟩
abbrev main_while0b_v141 : Ref sig .tc := ⟨.hbm, 158, rfl⟩
abbrev main_while0b_v142 : Ref sig .tc := ⟨.hbm, 159, rfl⟩
abbrev main_while0b_v143 : Ref sig .tc := ⟨.hbm, 160, rfl⟩
abbrev main_while0b_v144 : Ref sig .tc := ⟨.hbm, 161, rfl⟩
abbrev main_while0b_v145 : Ref sig .tc := ⟨.hbm, 162, rfl⟩
abbrev main_while0b_v146 : Ref sig .tc := ⟨.hbm, 163, rfl⟩
abbrev main_while0b_v147 : Ref sig .tc := ⟨.hbm, 164, rfl⟩
abbrev main_while0b_cst_36 : Ref sig .tc := ⟨.hbm, 165, rfl⟩
abbrev main_while0b_v148 : Ref sig .tc := ⟨.hbm, 166, rfl⟩
abbrev main_while0b_v149 : Ref sig .tc := ⟨.hbm, 167, rfl⟩
abbrev main_while0b_v150 : Ref sig .tc := ⟨.hbm, 168, rfl⟩
abbrev main_while0b_cst_37 : Ref sig .tc := ⟨.hbm, 169, rfl⟩
abbrev main_while0b_v151 : Ref sig .tc := ⟨.hbm, 170, rfl⟩
abbrev main_while0b_v152 : Ref sig .tc := ⟨.hbm, 171, rfl⟩
abbrev main_while0b_cst_38 : Ref sig .tc := ⟨.hbm, 172, rfl⟩
abbrev main_while0b_call3_v0 : Ref sig .tc := ⟨.hbm, 173, rfl⟩
abbrev main_while0b_call3_v1 : Ref sig .tc := ⟨.hbm, 174, rfl⟩
abbrev main_while0b_v153 : Ref sig .tc := ⟨.hbm, 175, rfl⟩
abbrev main_while0b_c_39 : Ref sig .tc := ⟨.hbm, 176, rfl⟩
abbrev main_while0b_v154 : Ref sig .tc := ⟨.hbm, 177, rfl⟩
abbrev main_while0b_c_40 : Ref sig .tc := ⟨.hbm, 178, rfl⟩
abbrev main_while0b_v155 : Ref sig .tc := ⟨.hbm, 179, rfl⟩
abbrev main_while0b_v156 : Ref sig .tc := ⟨.hbm, 180, rfl⟩
abbrev main_while0b_v157 : Ref sig .tc := ⟨.hbm, 181, rfl⟩
abbrev main_while0b_cst_41 : Ref sig .tc := ⟨.hbm, 182, rfl⟩
abbrev main_while0b_v158 : Ref sig .tc := ⟨.hbm, 183, rfl⟩
abbrev main_while0b_call4_v0 : Ref sig .tc := ⟨.hbm, 184, rfl⟩
abbrev main_while0b_v159 : Ref sig .tc := ⟨.hbm, 185, rfl⟩
abbrev main_while0b_call5_v0 : Ref sig .tc := ⟨.hbm, 186, rfl⟩
abbrev main_while0b_v160 : Ref sig .tc := ⟨.hbm, 187, rfl⟩
abbrev main_while0b_c_42 : Ref sig .tc := ⟨.hbm, 188, rfl⟩
abbrev main_while0b_v161 : Ref sig .tc := ⟨.hbm, 189, rfl⟩
abbrev main_v66 : Ref sig .tc := ⟨.hbm, 190, rfl⟩
abbrev main_c_12 : Ref sig .tc := ⟨.hbm, 191, rfl⟩
abbrev main_v67 : Ref sig .tc := ⟨.hbm, 192, rfl⟩
abbrev main_v68 : Ref sig .tc := ⟨.hbm, 193, rfl⟩
abbrev main_c_13 : Ref sig .tc := ⟨.hbm, 194, rfl⟩
abbrev main_v69 : Ref sig .tc := ⟨.hbm, 195, rfl⟩
abbrev main_v70 : Ref sig .tc := ⟨.hbm, 196, rfl⟩
abbrev main_v71 : Ref sig .tc := ⟨.hbm, 197, rfl⟩
abbrev main_v72 : Ref sig .tc := ⟨.hbm, 198, rfl⟩
abbrev main_v73 : Ref sig .tc := ⟨.hbm, 199, rfl⟩
abbrev main_cst_14 : Ref sig .tc := ⟨.hbm, 200, rfl⟩
abbrev main_call6_v0 : Ref sig .tc := ⟨.hbm, 201, rfl⟩
abbrev main_call6_v1 : Ref sig .tc := ⟨.hbm, 202, rfl⟩
abbrev main_call6_v2 : Ref sig .tc := ⟨.hbm, 203, rfl⟩
abbrev main_v74 : Ref sig .tc := ⟨.hbm, 204, rfl⟩
abbrev main_c_15 : Ref sig .tc := ⟨.hbm, 205, rfl⟩
abbrev main_v75 : Ref sig .tc := ⟨.hbm, 206, rfl⟩
abbrev main_v76 : Ref sig .tc := ⟨.hbm, 207, rfl⟩
abbrev main_c_16 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_cst_17 : Ref sig .tc := ⟨.hbm, 214, rfl⟩
abbrev main_call7_v0 : Ref sig .tc := ⟨.hbm, 215, rfl⟩
abbrev main_call7_v1 : Ref sig .tc := ⟨.hbm, 216, rfl⟩
abbrev main_v82 : Ref sig .tc := ⟨.hbm, 217, rfl⟩
abbrev main_c_18 : Ref sig .tc := ⟨.hbm, 218, rfl⟩
abbrev main_v83 : Ref sig .tc := ⟨.hbm, 219, rfl⟩
abbrev main_v84 : Ref sig .tc := ⟨.hbm, 220, rfl⟩
abbrev main_c_19 : Ref sig .tc := ⟨.hbm, 221, rfl⟩
abbrev main_v85 : Ref sig .tc := ⟨.hbm, 222, rfl⟩
abbrev main_v86 : Ref sig .tc := ⟨.hbm, 223, rfl⟩
abbrev main_v87 : Ref sig .tc := ⟨.hbm, 224, rfl⟩
abbrev main_v88 : Ref sig .tc := ⟨.hbm, 225, rfl⟩
abbrev main_v89 : Ref sig .tc := ⟨.hbm, 226, rfl⟩
abbrev main_c_20 : Ref sig .tc := ⟨.hbm, 227, rfl⟩
abbrev main_call8_v0 : Ref sig .tc := ⟨.hbm, 228, rfl⟩
abbrev main_call8_v1 : Ref sig .tc := ⟨.hbm, 229, rfl⟩
abbrev main_v90 : Ref sig .tc := ⟨.hbm, 230, rfl⟩

abbrev nD : Nat := 1
abbrev τ : Topo := Topo.v7x

variable {F : FTy → Type} [FloatOps F]

def κ : String → Option EReal := fun
  | "neg" => some ⊥
  | _ => none

abbrev main_while0_count : Scf.Loop 32 := ⟨0#32, 100#32, 1#32⟩
-- ==== Proof.KernelIdealRun.lean ====
/- The run of `KernelIdeal` and what it leaves: the kernel's loop computes on values only, so it is a fold of one function,
   `trip`; the six results' blocks are components of that fold over the three input blocks. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loop carries: the remaining scores, then the rows of kept scores, labels and the four box sides. -/
abbrev Carry (F : FTy → Type) : Type :=
  FVec F S20x20000 .f32 × FVec F S1x128 .f32 × IVec S1x128 32 × FVec F S1x128 .f32 × FVec F S1x128 .f32
    × FVec F S1x128 .f32 × FVec F S1x128 .f32

/-- The flat index the trip takes: the least one at which the remaining scores are at their maximum. -/
def pick (S : FVec F S20x20000 .f32) : BitVec 32 := extractAt ![0, 0, 0] (k0_pay2 k0_pay30 S) inpos_S1x1x1_p0_0_0

/-- The class of flat index `b`: its remainder by 20, made non-negative. -/
def clsOf (b : BitVec 32) : BitVec 32 :=
  let v121 : BitVec 1 := Scalar.cmpi .eq 20#32 0#32
  let v122 : BitVec 32 := Scalar.select v121 1#32 20#32
  let v123 : BitVec 32 := Scalar.remsi b v122
  let v124 : BitVec 1 := Scalar.cmpi .ne v123 0#32
  let v125 : BitVec 1 := Scalar.cmpi .slt v123 0#32
  let v126 : BitVec 1 := Scalar.cmpi .slt v122 0#32
  let v127 : BitVec 1 := Scalar.xori v125 v126
  let v128 : BitVec 1 := Scalar.andi v127 v124
  let v129 : BitVec 32 := Scalar.addi v123 v122
  Scalar.select v128 v129 v123

/-- Whether the maximum of the remaining scores is one a kept box may have. -/
def live (S : FVec F S20x20000 .f32) : BitVec 1 := Scalar.cmpf .ogt (k0_pay1 S) (Scalar.ofBits .f32 0xE0AD78EC#32)

/-- The column numbers of a row of 20000. -/
abbrev cols : IVec S20x20000 32 := iota .tc S20x20000 32 [1] iota_S20x20000_d1_w32

/-- One trip of the loop on the values it carries, from the six rows computed before the loop (centre, size, and the
    left side before and after its scaling). -/
def trip (v22 v29 v35 v41 v44 v45 : FVec F S1x20000 .f32) (k : Fin k0_t1_loop.trips) (a : Carry F) : Carry F :=
  (k0_pay34 v22 v29 v35 v41 v44 v45 a.1 (pick a.1)
     (k0_pay10 (k0_pay25 v44 v45) (k0_pay26 v29 v41) (k0_pay27 v22 v35) (k0_pay28 v29 v41) (k0_pay3 cols) (k0_pay4 k0_pay30 a.1))
     (k0_pay12 (k0_pay25 v44 v45) (k0_pay31 (F := F)) (clsOf (pick a.1)) (k0_pay3 cols) (k0_pay4 k0_pay30 a.1))
     (k0_pay13 (k0_pay26 v29 v41) (k0_pay31 (F := F)) (clsOf (pick a.1)) (k0_pay3 cols) (k0_pay4 k0_pay30 a.1))
     (k0_pay14 (k0_pay27 v22 v35) (k0_pay31 (F := F)) (clsOf (pick a.1)) (k0_pay3 cols) (k0_pay4 k0_pay30 a.1))
     (k0_pay15 (k0_pay28 v29 v41) (k0_pay31 (F := F)) (clsOf (pick a.1)) (k0_pay3 cols) (k0_pay4 k0_pay30 a.1)),
   k0_pay36 a.2.1 (Scf.iv 0#32 1#32 k) (k0_pay1 a.1) (live a.1),
   k0_pay37 a.2.2.1 (Scf.iv 0#32 1#32 k) (live a.1) (clsOf (pick a.1)),
   k0_pay38 a.2.2.2.1 (Scf.iv 0#32 1#32 k) (live a.1) (k0_pay6 (k0_pay25 v44 v45) (k0_pay3 cols) (k0_pay4 k0_pay30 a.1)),
   k0_pay39 a.2.2.2.2.1 (Scf.iv 0#32 1#32 k) (live a.1) (k0_pay7 (k0_pay26 v29 v41) (k0_pay3 cols) (k0_pay4 k0_pay30 a.1)),
   k0_pay40 a.2.2.2.2.2.1 (Scf.iv 0#32 1#32 k) (live a.1) (k0_pay8 (k0_pay27 v22 v35) (k0_pay3 cols) (k0_pay4 k0_pay30 a.1)),
   k0_pay41 a.2.2.2.2.2.2 (Scf.iv 0#32 1#32 k) (live a.1) (k0_pay9 (k0_pay28 v29 v41) (k0_pay3 cols) (k0_pay4 k0_pay30 a.1)))

/-- What the loop starts from: the class scores at and below the threshold masked, and empty rows. -/
def start (v11 : FVec F S20x20000 .f32) : Carry F :=
  (k0_pay29 v11, k0_pay32 (F := F), k0_pay33, k0_pay32 (F := F), k0_pay32 (F := F), k0_pay32 (F := F), k0_pay32 (F := F))

/-- The loop's region returns `trip`, issuing nothing. -/
theorem region_eq (arg0 : Memref sig .tc .vmem S21x20000 .f32) (harg0 : arg0.IsWhole) (arg1 : Memref sig .tc .vmem S4x20000 .f32) (harg1 : arg1.IsWhole) (arg2 : Memref sig .tc .vmem S4x20000 .f32) (harg2 : arg2.IsWhole) (arg3 : Memref sig .tc .vmem S1x128 .f32) (harg3 : arg3.IsWhole) (arg4 : Memref sig .tc .vmem S1x128 .i32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (v11 : FVec F S20x20000 .f32) (v22 v29 v35 v41 v44 v45 : FVec F S1x20000 .f32)
    (k : Fin k0_t1_loop.trips) (a : Carry F) :
    k0_t1_body (F := F) arg0 harg0 arg1 harg1 arg2 harg2 arg3 harg3 arg4 harg4 arg5 harg5 arg6 harg6 arg7 harg7 arg8 harg8 v11 v22 v29 v35 v41 v44 v45 cols k a = .ret (trip v22 v29 v35 v41 v44 v45 k a) := rfl

/-- What the loop leaves, from the three input blocks (scores, offsets, priors). -/
def final (x0 : FVec F S21x20000 .f32) (x1 x2 : FVec F S4x20000 .f32) : Carry F :=
  Scf.fold (trip (k0_pay19 x1 x2) (k0_pay20 x1 x2) (k0_pay21 x1 x2) (k0_pay22 x1 x2) (k0_pay23 x1 x2) (k0_pay24 (F := F)))
    (start (k0_pay16 x0))

/-- So the loop returns its fold. -/
theorem loop_eq (arg0 : Memref sig .tc .vmem S21x20000 .f32) (harg0 : arg0.IsWhole) (arg1 : Memref sig .tc .vmem S4x20000 .f32) (harg1 : arg1.IsWhole) (arg2 : Memref sig .tc .vmem S4x20000 .f32) (harg2 : arg2.IsWhole) (arg3 : Memref sig .tc .vmem S1x128 .f32) (harg3 : arg3.IsWhole) (arg4 : Memref sig .tc .vmem S1x128 .i32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (v11 : FVec F S20x20000 .f32) (v22 v29 v35 v41 v44 v45 : FVec F S1x20000 .f32) (a : Carry F) :
    Scf.Loop.for k0_t1_loop k0_t1_ok a (k0_t1_body (F := F) arg0 harg0 arg1 harg1 arg2 harg2 arg3 harg3 arg4 harg4 arg5 harg5 arg6 harg6 arg7 harg7 arg8 harg8 v11 v22 v29 v35 v41 v44 v45 cols)
      = .ret (Scf.fold (trip v22 v29 v35 v41 v44 v45) a) :=
  Scf.for_pure _ _ _ k0_t1_ok a _ (trip v22 v29 v35 v41 v44 v45)
    (region_eq arg0 harg0 arg1 harg1 arg2 harg2 arg3 harg3 arg4 harg4 arg5 harg5 arg6 harg6 arg7 harg7 arg8 harg8 v11 v22 v29 v35 v41 v44 v45)

/-- The part of the kernel that holds the loop: the fold, then the first result's store. -/
theorem part4_eq (arg0 : Memref sig .tc .vmem S21x20000 .f32) (harg0 : arg0.IsWhole) (arg1 : Memref sig .tc .vmem S4x20000 .f32) (harg1 : arg1.IsWhole) (arg2 : Memref sig .tc .vmem S4x20000 .f32) (harg2 : arg2.IsWhole) (arg3 : Memref sig .tc .vmem S1x128 .f32) (harg3 : arg3.IsWhole) (arg4 : Memref sig .tc .vmem S1x128 .i32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (v11 : FVec F S20x20000 .f32) (v22 v29 v35 v41 v44 v45 : FVec F S1x20000 .f32) :
    k0_part4 (F := F) arg0 harg0 arg1 harg1 arg2 harg2 arg3 harg3 arg4 harg4 arg5 harg5 arg6 harg6 arg7 harg7 arg8 harg8 v11 v22 v29 v35 v41 v44 v45 = (do
      let v85 : Vec F S1x128 .f32 ← Prog.lift (.load arg3 (Rect.unit (s := S1x128) ![0, 0] S1x128.size inb_S1x128_S1x128_0_0).toLoadRect (View.loadsAt_vmem h_S1x128))
      Prog.lift (.store arg3 (Rect.unit (s := S1x128) ![0, 0] S1x128.size inb_S1x128_S1x128_0_0) (Scf.fold (trip v22 v29 v35 v41 v44 v45) (start v11)).2.1 Finset.univ (View.stores_vmem_bits_univ h_S1x128 rfl) (.inl rfl))
      pure ⟨(Scf.fold (trip v22 v29 v35 v41 v44 v45) (start v11)).2.2.1, (Scf.fold (trip v22 v29 v35 v41 v44 v45) (start v11)).2.2.2.1,
        (Scf.fold (trip v22 v29 v35 v41 v44 v45) (start v11)).2.2.2.2.1, (Scf.fold (trip v22 v29 v35 v41 v44 v45) (start v11)).2.2.2.2.2.1,
        (Scf.fold (trip v22 v29 v35 v41 v44 v45) (start v11)).2.2.2.2.2.2⟩) := by
  rw [k0_part4_eq_skeleton]
  unfold k0_part4_skel
  have h := loop_eq arg0 harg0 arg1 harg1 arg2 harg2 arg3 harg3 arg4 harg4 arg5 harg5 arg6 harg6 arg7 harg7 arg8 harg8 v11 v22 v29 v35 v41 v44 v45 (start v11)
  unfold start at h
  dsimp only
  rw [h]
  rfl

/-- A buffer read through the rectangle at the origin is the block. -/
theorem whole_read {sp : Space} {S : Shape} {e : EltTy} (a : Memref sig .tc sp S e) (f : a.view.ty.Contents (Elt F))
    {off : Fin S.rank → Nat} (h : off = fun _ => 0) (inb : ∀ i, off i + S.size i ≤ S.size i) :
    a.view.readAt (Elt F) (Rect.unit off S.size inb).toLoadRect f = a.view.read (Elt F) f := by
  rw [View.readAt_eq_ld]; exact View.ld_unit_zero h inb _

/-- A block written through the rectangle at the origin holds what was written. -/
theorem whole_write {sp : Space} {S : Shape} {e : EltTy} (a : Memref sig .tc sp S e) (f : a.view.ty.Contents (Elt F))
    {off : Fin S.rank → Nat} (h : off = fun _ => 0) (inb : ∀ i, off i + S.size i ≤ S.size i) (x : S.Idx → Elt F e) :
    a.view.read (Elt F) (a.view.writes (Elt F) f [⟨Rect.unit off S.size inb, x⟩]) = x := by
  subst h
  rw [View.read_writes_eq_canon _ _ _ (fun y => ⟨_, List.mem_singleton_self _, by
    show y ∈ (Rect.whole S).set; rw [Rect.set_whole]; exact Finset.mem_univ y⟩), View.canon_unit_zero rfl]

/-- The origin of a matrix, as a constant function. -/
theorem origin2 : (![0, 0] : Fin 2 → Nat) = fun _ => 0 := by funext i; fin_cases i <;> rfl

set_option maxHeartbeats 4000000 in
/-- The kernel body on whole buffers, the inputs' read as `x0`, `x1`, `x2` and the outputs' at anything: it leaves the
    inputs as they were and each output at its component of `final x0 x1 x2`. -/
theorem sound_kernel (c : Dev nD) (E : Set ℕ) (arg0 : Memref sig .tc .vmem S21x20000 .f32) (harg0 : arg0.IsWhole) (arg1 : Memref sig .tc .vmem S4x20000 .f32) (harg1 : arg1.IsWhole) (arg2 : Memref sig .tc .vmem S4x20000 .f32) (harg2 : arg2.IsWhole) (arg3 : Memref sig .tc .vmem S1x128 .f32) (harg3 : arg3.IsWhole) (arg4 : Memref sig .tc .vmem S1x128 .i32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (x0 : FVec F S21x20000 .f32) (x1 x2 : FVec F S4x20000 .f32) (K : PUnit → sProp 𝕄) :
    iprop(owns c arg0 fullShare x0 ∗ owns c arg1 fullShare x1 ∗ owns c arg2 fullShare x2
        ∗ (∃ d, owns c arg3 fullShare d) ∗ (∃ d, owns c arg4 fullShare d) ∗ (∃ d, owns c arg5 fullShare d)
        ∗ (∃ d, owns c arg6 fullShare d) ∗ (∃ d, owns c arg7 fullShare d) ∗ (∃ d, owns c arg8 fullShare d)
        ∗ (iprop(owns c arg0 fullShare x0 ∗ owns c arg1 fullShare x1 ∗ owns c arg2 fullShare x2
            ∗ owns c arg3 fullShare (final x0 x1 x2).2.1 ∗ owns c arg4 fullShare (final x0 x1 x2).2.2.1
            ∗ owns c arg5 fullShare (final x0 x1 x2).2.2.2.1 ∗ owns c arg6 fullShare (final x0 x1 x2).2.2.2.2.1
            ∗ owns c arg7 fullShare (final x0 x1 x2).2.2.2.2.2.1 ∗ owns c arg8 fullShare (final x0 x1 x2).2.2.2.2.2.2)
          -∗ K ⟨⟩))
      ⊢ wp frame (wpE (defs₀ (F := F)) Variants.none c none) E (cc0__nms_kernel arg0 harg0 arg1 harg1 arg2 harg2 arg3 harg3 arg4 harg4 arg5 harg5 arg6 harg6 arg7 harg7 arg8 harg8) K := by
  rw [cc0__nms_kernel_eq_skeleton]
  unfold cc0__nms_kernel_skel
  simp only [k0_part3_eq_skeleton, part4_eq]
  unfold k0_part3_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec
  sl_step
  have e0 := hf0 ▸ whole_read arg0 f0 origin2 inb_S21x20000_S21x20000_0_0
  have e1 := hf1 ▸ whole_read arg1 f1 origin2 inb_S4x20000_S4x20000_0_0
  have e2 := hf2 ▸ whole_read arg2 f2 origin2 inb_S4x20000_S4x20000_0_0
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    refine (whole_write arg3 _ origin2 _ _).trans ?_
    simp only [e0, e1, e2]; rfl
  isplitl [H4]
  · iexists _; isplitr
    swap; · iexact H4
    ipureintro
    refine (whole_write arg4 _ origin2 _ _).trans ?_
    simp only [e0, e1, e2]; rfl
  isplitl [H5]
  · iexists _; isplitr
    swap; · iexact H5
    ipureintro
    refine (whole_write arg5 _ origin2 _ _).trans ?_
    simp only [e0, e1, e2]; rfl
  isplitl [H6]
  · iexists _; isplitr
    swap; · iexact H6
    ipureintro
    refine (whole_write arg6 _ origin2 _ _).trans ?_
    simp only [e0, e1, e2]; rfl
  isplitl [H7]
  · iexists _; isplitr
    swap; · iexact H7
    ipureintro
    refine (whole_write arg7 _ origin2 _ _).trans ?_
    simp only [e0, e1, e2]; rfl
  iexists _; isplitr
  swap; · iexact H8
  ipureintro
  refine (whole_write arg8 _ origin2 _ _).trans ?_
  simp only [e0, e1, e2]; rfl

/-! ## The launch's proof data -/

variable (m : (ℓ : Loc nD τ sig) → Buf (Elt F) ℓ) (ρ : Dev nD → PrngReg)

/-- What the body leaves of the loop's carry at point `t`, from the three input blocks there. -/
def finalAt (c : Dev nD) (t : Fin cfg0.N) : Carry F := final (iblk m c 0 t) (iblk m c 1 t) (iblk m c 2 t)

/-- Each input block stays as it is; each output block is its component of the loop's last carry. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (finalAt m c t).2.1
    | ⟨4, _⟩ => (finalAt m c t).2.2.1
    | ⟨5, _⟩ => (finalAt m c t).2.2.2.1
    | ⟨6, _⟩ => (finalAt m c t).2.2.2.2.1
    | ⟨7, _⟩ => (finalAt m c t).2.2.2.2.2.1
    | ⟨8, _⟩ => (finalAt m c t).2.2.2.2.2.2
  Φ _ := Pipeline.ΦA spec0 c
  q _ := fullShare
  owed _ := 0

/-- An array's contents before the region are those the program has put there. -/
theorem A_eq (c : Dev nD) (w : Fin cfg0.W) : (dats m 0 c).A w = V m c (Pipeline.arrRef spec0 w) := by dsimp only [dats]

/-- Window 0 holds after a step what it held before: its block of the input. -/
theorem after_0 (c : Dev nD) (t : Fin cfg0.N) : (dats m 0 c).after 0 t = iblk m c 0 t := by dsimp only [dats]
/-- Window 1 holds after a step what it held before: its block of the input. -/
theorem after_1 (c : Dev nD) (t : Fin cfg0.N) : (dats m 0 c).after 1 t = iblk m c 1 t := by dsimp only [dats]
/-- Window 2 holds after a step what it held before: its block of the input. -/
theorem after_2 (c : Dev nD) (t : Fin cfg0.N) : (dats m 0 c).after 2 t = iblk m c 2 t := by dsimp only [dats]
/-- Window 3 holds after a step its part of what the loop ends with. -/
theorem after_3 (c : Dev nD) (t : Fin cfg0.N) : (dats m 0 c).after 3 t = (finalAt m c t).2.1 := by dsimp only [dats]
/-- Window 4 holds after a step its part of what the loop ends with. -/
theorem after_4 (c : Dev nD) (t : Fin cfg0.N) : (dats m 0 c).after 4 t = (finalAt m c t).2.2.1 := by dsimp only [dats]
/-- Window 5 holds after a step its part of what the loop ends with. -/
theorem after_5 (c : Dev nD) (t : Fin cfg0.N) : (dats m 0 c).after 5 t = (finalAt m c t).2.2.2.1 := by dsimp only [dats]
/-- Window 6 holds after a step its part of what the loop ends with. -/
theorem after_6 (c : Dev nD) (t : Fin cfg0.N) : (dats m 0 c).after 6 t = (finalAt m c t).2.2.2.2.1 := by dsimp only [dats]
/-- Window 7 holds after a step its part of what the loop ends with. -/
theorem after_7 (c : Dev nD) (t : Fin cfg0.N) : (dats m 0 c).after 7 t = (finalAt m c t).2.2.2.2.2.1 := by dsimp only [dats]
/-- Window 8 holds after a step its part of what the loop ends with. -/
theorem after_8 (c : Dev nD) (t : Fin cfg0.N) : (dats m 0 c).after 8 t = (finalAt m c t).2.2.2.2.2.2 := by dsimp only [dats]

/-- Window 0 holds before a step its block of the input. -/
theorem before_0 (c : Dev nD) (t : Fin cfg0.N) (d) : (dats m 0 c).before 0 t d = iblk m c 0 t :=
  before0_0_of m (dats m 0 c) (A_eq m c 0) (after_0 m c) t d
/-- Window 1 holds before a step its block of the input. -/
theorem before_1 (c : Dev nD) (t : Fin cfg0.N) (d) : (dats m 0 c).before 1 t d = iblk m c 1 t :=
  before0_1_of m (dats m 0 c) (A_eq m c 1) (after_1 m c) t d
/-- Window 2 holds before a step its block of the input. -/
theorem before_2 (c : Dev nD) (t : Fin cfg0.N) (d) : (dats m 0 c).before 2 t d = iblk m c 2 t :=
  before0_2_of m (dats m 0 c) (A_eq m c 2) (after_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d))
    ∗ (∃ d, owns c (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ owns c (st0_5 t) fullShare ((dats m 0 c).after 5 t)
    ∗ owns c (st0_6 t) fullShare ((dats m 0 c).after 6 t)
    ∗ owns c (st0_7 t) fullShare ((dats m 0 c).after 7 t)
    ∗ owns c (st0_8 t) fullShare ((dats m 0 c).after 8 t))

set_option maxHeartbeats 2000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold finalAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The region's body at a grid point is the body of the kernel at that point's buffers. -/
theorem body_row (t : Fin cfg0.N) : defs₀ (F := F) .tc cfg0.body (cfg0.bodyArgs t (cfg0.slots t)) = bodyAt0 t := by
  unfold defs₀; rw [Defs.onTc_tc]

set_option maxHeartbeats 2000000 in
/-- The body meets the launch's obligation. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

-- the launch theorem's implicit arguments are found by unifying its conclusion with this one
set_option backward.isDefEq.respectTransparency.types false in
set_option maxHeartbeats 4000000 in
/-- Every execution of `@main` ends with every array of the launch at what the proof data compute, every other buffer
    at what the operations behind it leave, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun _ _ => ite_self _) (howed := fun _ _ => rfl) (V₀ := V0 m)
    (opss := [hostOps1]) (hsub := sfx_sub) (hfresh := sfx_fresh) (hkeep := sfx_keeps)
    (hmain := hmain m Variants.none) (hA := A_eq m) (hΦ := fun _ _ => rfl) (Q' := fun r => Pipeline.FramePost cfgs (dats m) 0 (Pipeline.afterTail₀ cfgs (dats m) 0 (V0 m) [hostOps1]) r ∧ r.2.sem = fun _ => 0)
    (hQ' := fun _ h => h)

/-- Every execution leaves the arguments as they were and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩,
    h.2⟩) (run_main m ρ)

end Cert.KernelIdeal.Nms

end
-- ==== Proof.RefOps.lean ====
/- The reference program as one counted host loop.  `@main` is a list of operations before its loop, 100 trips of one
   body, and a list of operations behind it.  `run_fold` runs it: every execution ends with every buffer at the contents
   the three lists compute in turn (`StableHlo.finalContents`). -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1964

noncomputable section

namespace Cert.ReferenceIdeal.Ops

open Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

set_option maxHeartbeats 40000000 in  -- a long stretch: its list (or the term over it) exceeds the default budget
/-- 66 host operations of @main, in order. -/
abbrev hostOps0 : List (HloOp τ sig (Elt F)) :=
  ( StableHlo.nullary main_cst (constant S_ .f32 0xFF800000#32)
  :: StableHlo.binary main_arg0 main_cst main_v0 ((fun x v => Host.reduce FloatOps.maximumf x v reducesTo_S1x20000x21_S1x20000_d2 h_S_) : (⟨S1x20000x21, .f32⟩ : BufTy).Contents (Elt F) → (⟨S_, .f32⟩ : BufTy).Contents (Elt F) → (⟨S1x20000, .f32⟩ : BufTy).Contents (Elt F))
  :: StableHlo.nullary main_cst_0 (constant S_ .f32 0xFF800000#32)
  :: StableHlo.unary main_cst_0 main_v1 (broadcastInDim S1x20000 ![] bcast_S_S1x20000 : (⟨S_, .f32⟩ : BufTy).Contents (Elt F) → (⟨S1x20000, .f32⟩ : BufTy).Contents (Elt F))
  :: StableHlo.binary main_v1 main_v0 main_v2 (maximumf : (⟨S1x20000, .f32⟩ : BufTy).Contents (Elt F) → (⟨S1x20000, .f32⟩ : BufTy).Contents (Elt F) → (⟨S1x20000, .f32⟩ : BufTy).Contents (Elt F))
  :: StableHlo.unary main_v2 main_v3 (broadcastInDim S1x20000x1 ![0, 1] bcast_S1x20000_S1x20000x1_0_1 : (⟨S1x20000, .f32⟩ : BufTy).Contents (Elt F) → (⟨S1x20000x1, .f32⟩ : BufTy).Contents (Elt F))
  :: StableHlo.unary main_v3 main_v4 (broadcastInDim S1x20000x21 ![0, 1, 2] bcast_S1x20000x1_S1x20000x21_0_1_2 : (⟨S1x20000x1, .f32⟩ : BufTy).Contents (Elt F) → (⟨S1x20000x21, .f32⟩ : BufTy).Contents (Elt F))
  :: StableHlo.binary main_arg0 main_v4 main_v5 (subf : (⟨S1x20000x21, .f32⟩ : BufTy).Contents (Elt F) → (⟨S1x20000x21, .f32⟩ : BufTy).Contents (Elt F) → (⟨S1x20000x21, .f32⟩ : BufTy).Contents (Elt F))
  :: StableHlo.unary main_v5 main_v6 (Host.exp : (⟨S1x20000x21, .f32⟩ : BufTy).Contents (Elt F) → (⟨S1x20000x21, .f32⟩ : BufTy).Contents (Elt F))
  :: StableHlo.nullary main_cst_1 (constant S_ .f32 0x00000000#32)
  :: StableHlo.binary main_v6 main_cst_1 main_v7 ((fun x v => Host.reduceAdd x v reducesTo_S1x20000x21_S1x20000_d2 h_S_) : (⟨S1x20000x21, .f32⟩ : BufTy).Contents (Elt F) → (⟨S_, .f32⟩ : BufTy).Contents (Elt F) → (⟨S1x20000, .f32⟩ : BufTy).Contents (Elt F))
  :: StableHlo.unary main_v7 main_v8 (broadcastInDim S1x20000x1 ![0, 1] bcast_S1x20000_S1x20000x1_0_1 : (⟨S1x20000, .f32⟩ : BufTy).Contents (Elt F) → (⟨S1x20000x1, .f32⟩ : BufTy).Contents (Elt F))
  :: StableHlo.unary main_v8 main_v9 (broadcastInDim S1x20000x21 ![0, 1, 2] bcast_S1x20000x1_S1x20000x21_0_1_2 : (⟨S1x20000x1, .f32⟩ : BufTy).Contents (Elt F) → (⟨S1x20000x21, .f32⟩ : BufTy).Contents (Elt F))
  :: StableHlo.binary main_v6 main_v9 main_v10 (Host.divf : (⟨S1x20000x21, .f32⟩ : BufTy).Contents (Elt F) → (⟨S1x20000x21, .f32⟩ : BufTy).Contents (Elt F) → (⟨S1x20000x21, .f32⟩ : BufTy).Contents (Elt F))
  :: StableHlo.unary main_arg1 main_v11 ((extractStridedSlice S1x20000x2 ![0, 0, 0] · slices_S1x20000x4_S1x20000x2_0_0_0) : (⟨S1x20000x4, .f32⟩ : BufTy).Contents (Elt F) → (⟨S1x20000x2, .f32⟩ : BufTy).Contents (Elt F))
  :: StableHlo.nullary main_cst_2 (constant S_ .f32 0x3DCCCCCD#32)
  :: StableHlo.unary main_cst_2 main_v12 (broadcastInDim S1x20000x2 ![] bcast_S_S1x20000x2 : (⟨S_, .f32⟩ : BufTy).Contents (Elt F) → (⟨S1x20000x2, .f32⟩ : BufTy).Contents (Elt F))
  :: StableHlo.binary main_v11 main_v12 main_v13 (mulf : (⟨S1x20000x2, .f32⟩ : BufTy).Contents (Elt F) → (⟨S1x20000x2, .f32⟩ : BufTy).Contents (Elt F) → (⟨S1x20000x2, .f32⟩ : BufTy).Contents (Elt F))
  :: StableHlo.unary main_arg2 main_v14 ((extractStridedSlice S20000x2 ![0, 2] · slices_S20000x4_S20000x2_0_2) : (⟨S20000x4, .f32⟩ : BufTy).Contents (Elt F) → (⟨S20000x2, .f32⟩ : BufTy).Contents (Elt F))
  :: StableHlo.unary main_v14 main_v15 (broadcastInDim S1x20000x2 ![1, 2] bcast_S20000x2_S1x20000x2_1_2 : (⟨S20000x2, .f32⟩ : BufTy).Contents (Elt F) → (⟨S1x20000x2, .f32⟩ : BufTy).Contents (Elt F))
  :: StableHlo.binary main_v13 main_v15 main_v16 (mulf : (⟨S1x20000x2, .f32⟩ : BufTy).Contents (Elt F) → (⟨S1x20000x2, .f32⟩ : BufTy).Contents (Elt F) → (⟨S1x20000x2, .f32⟩ : BufTy).Contents (Elt F))
  :: StableHlo.unary main_arg2 main_v17 ((extractStridedSlice S20000x2 ![0, 0] · slices_S20000x4_S20000x2_0_0) : (⟨S20000x4, .f32⟩ : BufTy).Contents (Elt F) → (⟨S20000x2, .f32⟩ : BufTy).Contents (Elt F))
  :: StableHlo.unary main_v17 main_v18 (broadcastInDim S1x20000x2 ![1, 2] bcast_S20000x2_S1x20000x2_1_2 : (⟨S20000x2, .f32⟩ : BufTy).Contents (Elt F) → (⟨S1x20000x2, .f32⟩ : BufTy).Contents (Elt F))
  :: StableHlo.binary main_v16 main_v18 main_v19 (addf : (⟨S1x20000x2, .f32⟩ : BufTy).Contents (Elt F) → (⟨S1x20000x2, .f32⟩ : BufTy).Contents (Elt F) → (⟨S1x20000x2, .f32⟩ : BufTy).Contents (Elt F))
  :: StableHlo.unary main_arg1 main_v20 ((extractStridedSlice S1x20000x2 ![0, 0, 2] · slices_S1x20000x4_S1x20000x2_0_0_2) : (⟨S1x20000x4, .f32⟩ : BufTy).Contents (Elt F) → (⟨S1x20000x2, .f32⟩ : BufTy).Contents (Elt F))
  :: StableHlo.nullary main_cst_3 (constant S_ .f32 0x3E4CCCCD#32)
  :: StableHlo.unary main_cst_3 main_v21 (broadcastInDim S1x20000x2 ![] bcast_S_S1x20000x2 : (⟨S_, .f32⟩ : BufTy).Contents (Elt F) → (⟨S1x20000x2, .f32⟩ : BufTy).Contents (Elt F))
  :: StableHlo.binary main_v20 main_v21 main_v22 (mulf : (⟨S1x20000x2, .f32⟩ : BufTy).Contents (Elt F) → (⟨S1x20000x2, .f32⟩ : BufTy).Contents (Elt F) → (⟨S1x20000x2, .f32⟩ : BufTy).Contents (Elt F))
  :: StableHlo.unary main_v22 main_v23 (Host.exp : (⟨S1x20000x2, .f32⟩ : BufTy).Contents (Elt F) → (⟨S1x20000x2, .f32⟩ : BufTy).Contents (Elt F))
  :: StableHlo.unary main_arg2 main_v24 ((extractStridedSlice S20000x2 ![0, 2] · slices_S20000x4_S20000x2_0_2) : (⟨S20000x4, .f32⟩ : BufTy).Contents (Elt F) → (⟨S20000x2, .f32⟩ : BufTy).Contents (Elt F))
  :: StableHlo.unary main_v24 main_v25 (broadcastInDim S1x20000x2 ![1, 2] bcast_S20000x2_S1x20000x2_1_2 : (⟨S20000x2, .f32⟩ : BufTy).Contents (Elt F) → (⟨S1x20000x2, .f32⟩ : BufTy).Contents (Elt F))
  :: StableHlo.binary main_v23 main_v25 main_v26 (mulf : (⟨S1x20000x2, .f32⟩ : BufTy).Contents (Elt F) → (⟨S1x20000x2, .f32⟩ : BufTy).Contents (Elt F) → (⟨S1x20000x2, .f32⟩ : BufTy).Contents (Elt F))
  :: StableHlo.binary main_v19 main_v26 main_v27 ((fun a b => concatenate S1x20000x4 2 [⟨S1x20000x2, a⟩, ⟨S1x20000x2, b⟩] concatenates_S1x20000x2_S1x20000x2_S1x20000x4_d2) : (⟨S1x20000x2, .f32⟩ : BufTy).Contents (Elt F) → (⟨S1x20000x2, .f32⟩ : BufTy).Contents (Elt F) → (⟨S1x20000x4, .f32⟩ : BufTy).Contents (Elt F))
  :: StableHlo.unary main_v27 main_v28 ((extractStridedSlice S1x20000x2 ![0, 0, 0] · slices_S1x20000x4_S1x20000x2_0_0_0) : (⟨S1x20000x4, .f32⟩ : BufTy).Contents (Elt F) → (⟨S1x20000x2, .f32⟩ : BufTy).Contents (Elt F))
  :: StableHlo.unary main_v27 main_v29 ((extractStridedSlice S1x20000x2 ![0, 0, 2] · slices_S1x20000x4_S1x20000x2_0_0_2) : (⟨S1x20000x4, .f32⟩ : BufTy).Contents (Elt F) → (⟨S1x20000x2, .f32⟩ : BufTy).Contents (Elt F))
  :: StableHlo.nullary main_cst_4 (constant S_ .f32 0x40000000#32)
  :: StableHlo.unary main_cst_4 main_v30 (broadcastInDim S1x20000x2 ![] bcast_S_S1x20000x2 : (⟨S_, .f32⟩ : BufTy).Contents (Elt F) → (⟨S1x20000x2, .f32⟩ : BufTy).Contents (Elt F))
  :: StableHlo.binary main_v29 main_v30 main_v31 (Host.divf : (⟨S1x20000x2, .f32⟩ : BufTy).Contents (Elt F) → (⟨S1x20000x2, .f32⟩ : BufTy).Contents (Elt F) → (⟨S1x20000x2, .f32⟩ : BufTy).Contents (Elt F))
  :: StableHlo.binary main_v28 main_v31 main_v32 (subf : (⟨S1x20000x2, .f32⟩ : BufTy).Contents (Elt F) → (⟨S1x20000x2, .f32⟩ : BufTy).Contents (Elt F) → (⟨S1x20000x2, .f32⟩ : BufTy).Contents (Elt F))
  :: StableHlo.unary main_v27 main_v33 ((extractStridedSlice S1x20000x2 ![0, 0, 0] · slices_S1x20000x4_S1x20000x2_0_0_0) : (⟨S1x20000x4, .f32⟩ : BufTy).Contents (Elt F) → (⟨S1x20000x2, .f32⟩ : BufTy).Contents (Elt F))
  :: StableHlo.unary main_v27 main_v34 ((extractStridedSlice S1x20000x2 ![0, 0, 2] · slices_S1x20000x4_S1x20000x2_0_0_2) : (⟨S1x20000x4, .f32⟩ : BufTy).Contents (Elt F) → (⟨S1x20000x2, .f32⟩ : BufTy).Contents (Elt F))
  :: StableHlo.nullary main_cst_5 (constant S_ .f32 0x40000000#32)
  :: StableHlo.unary main_cst_5 main_v35 (broadcastInDim S1x20000x2 ![] bcast_S_S1x20000x2 : (⟨S_, .f32⟩ : BufTy).Contents (Elt F) → (⟨S1x20000x2, .f32⟩ : BufTy).Contents (Elt F))
  :: StableHlo.binary main_v34 main_v35 main_v36 (Host.divf : (⟨S1x20000x2, .f32⟩ : BufTy).Contents (Elt F) → (⟨S1x20000x2, .f32⟩ : BufTy).Contents (Elt F) → (⟨S1x20000x2, .f32⟩ : BufTy).Contents (Elt F))
  :: StableHlo.binary main_v33 main_v36 main_v37 (addf : (⟨S1x20000x2, .f32⟩ : BufTy).Contents (Elt F) → (⟨S1x20000x2, .f32⟩ : BufTy).Contents (Elt F) → (⟨S1x20000x2, .f32⟩ : BufTy).Contents (Elt F))
  :: StableHlo.binary main_v32 main_v37 main_v38 ((fun a b => concatenate S1x20000x4 2 [⟨S1x20000x2, a⟩, ⟨S1x20000x2, b⟩] concatenates_S1x20000x2_S1x20000x2_S1x20000x4_d2) : (⟨S1x20000x2, .f32⟩ : BufTy).Contents (Elt F) → (⟨S1x20000x2, .f32⟩ : BufTy).Contents (Elt F) → (⟨S1x20000x4, .f32⟩ : BufTy).Contents (Elt F))
  :: StableHlo.reshape main_v10 main_v39 (rfl : (.f32 : EltTy) = .f32) shapeCasts_S1x20000x21_S20000x21
  :: StableHlo.reshape main_v38 main_v40 (rfl : (.f32 : EltTy) = .f32) shapeCasts_S1x20000x4_S20000x4
  :: StableHlo.unary main_v40 main_v41 (broadcastInDim S20000x1x4 ![0, 2] bcast_S20000x4_S20000x1x4_0_2 : (⟨S20000x4, .f32⟩ : BufTy).Contents (Elt F) → (⟨S20000x1x4, .f32⟩ : BufTy).Contents (Elt F))
  :: StableHlo.unary main_v41 main_v42 (broadcastInDim S20000x21x4 ![0, 1, 2] bcast_S20000x1x4_S20000x21x4_0_1_2 : (⟨S20000x1x4, .f32⟩ : BufTy).Contents (Elt F) → (⟨S20000x21x4, .f32⟩ : BufTy).Contents (Elt F))
  :: StableHlo.nullary main_v43 (iotaInDim S21 32 0)
  :: StableHlo.unary main_v43 main_v44 (broadcastInDim S1x21 ![1] bcast_S21_S1x21_1 : (⟨S21, .i32⟩ : BufTy).Contents (Elt F) → (⟨S1x21, .i32⟩ : BufTy).Contents (Elt F))
  :: StableHlo.unary main_v44 main_v45 (broadcastInDim S20000x21 ![0, 1] bcast_S1x21_S20000x21_0_1 : (⟨S1x21, .i32⟩ : BufTy).Contents (Elt F) → (⟨S20000x21, .i32⟩ : BufTy).Contents (Elt F))
  :: StableHlo.unary main_v42 main_v46 ((extractStridedSlice S20000x20x4 ![0, 1, 0] · slices_S20000x21x4_S20000x20x4_0_1_0) : (⟨S20000x21x4, .f32⟩ : BufTy).Contents (Elt F) → (⟨S20000x20x4, .f32⟩ : BufTy).Contents (Elt F))
  :: StableHlo.reshape main_v46 main_v47 (rfl : (.f32 : EltTy) = .f32) shapeCasts_S20000x20x4_S400000x4
  :: StableHlo.unary main_v45 main_v48 ((extractStridedSlice S20000x20 ![0, 1] · slices_S20000x21_S20000x20_0_1) : (⟨S20000x21, .i32⟩ : BufTy).Contents (Elt F) → (⟨S20000x20, .i32⟩ : BufTy).Contents (Elt F))
  :: StableHlo.reshape main_v48 main_v49 (rfl : (.i32 : EltTy) = .i32) shapeCasts_S20000x20_S400000
  :: StableHlo.unary main_v39 main_v50 ((extractStridedSlice S20000x20 ![0, 1] · slices_S20000x21_S20000x20_0_1) : (⟨S20000x21, .f32⟩ : BufTy).Contents (Elt F) → (⟨S20000x20, .f32⟩ : BufTy).Contents (Elt F))
  :: StableHlo.reshape main_v50 main_v51 (rfl : (.f32 : EltTy) = .f32) shapeCasts_S20000x20_S400000
  :: StableHlo.nullary main_cst_6 (constant S_ .f32 0x44000000#32)
  :: StableHlo.unary main_cst_6 main_v52 (broadcastInDim S400000x4 ![] bcast_S_S400000x4 : (⟨S_, .f32⟩ : BufTy).Contents (Elt F) → (⟨S400000x4, .f32⟩ : BufTy).Contents (Elt F))
  :: StableHlo.binary main_v47 main_v52 main_v53 (mulf : (⟨S400000x4, .f32⟩ : BufTy).Contents (Elt F) → (⟨S400000x4, .f32⟩ : BufTy).Contents (Elt F) → (⟨S400000x4, .f32⟩ : BufTy).Contents (Elt F))
  :: StableHlo.nullary main_cst_7 (constant S_ .f32 0x3C23D70A#32)
  :: StableHlo.unary main_cst_7 main_v54 (broadcastInDim S400000 ![] bcast_S_S400000 : (⟨S_, .f32⟩ : BufTy).Contents (Elt F) → (⟨S400000, .f32⟩ : BufTy).Contents (Elt F))
  :: StableHlo.binary main_v51 main_v54 main_v55 (cmpf .ogt : (⟨S400000, .f32⟩ : BufTy).Contents (Elt F) → (⟨S400000, .f32⟩ : BufTy).Contents (Elt F) → (⟨S400000, .i1⟩ : BufTy).Contents (Elt F))
  :: StableHlo.nullary main_cst_8 (constant S_ .f32 0xF149F2CA#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.reshape_bufs_sub .., StableHlo.reshape_bufs_sub .., StableHlo.unary_bufs_sub .., StableHlo.unary_bufs_sub .., StableHlo.nullary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
/-- 3 host operations of @_where (main_call0), in order. -/
abbrev hostOps0_1 : List (HloOp τ sig (Elt F)) :=
  [ StableHlo.TRef.unary (.of main_cst_8 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S400000, .f32⟩) (broadcastInDim S400000 ![] bcast_S_S400000),
    StableHlo.TRef.ternary (.of main_v55 : StableHlo.TRef sig ⟨S400000, .i1⟩) (.of main_v51 : StableHlo.TRef sig ⟨S400000, .f32⟩) (.of main_call0_v1 : StableHlo.TRef sig ⟨S400000, .f32⟩) (.of main_v56 : StableHlo.TRef sig ⟨S400000, .f32⟩) select ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.ternary_bufs_sub ..⟩
/-- 17 host operations of @main, in order. -/
abbrev hostOps0_2 : List (HloOp τ sig (Elt F)) :=
  [ StableHlo.unary main_v49 main_v57 (sitofp .f32 : (⟨S400000, .i32⟩ : BufTy).Contents (Elt F) → (⟨S400000, .f32⟩ : BufTy).Contents (Elt F)),
    StableHlo.nullary main_cst_9 (constant S_ .f32 0x45000000#32),
    StableHlo.unary main_cst_9 main_v58 (broadcastInDim S400000 ![] bcast_S_S400000 : (⟨S_, .f32⟩ : BufTy).Contents (Elt F) → (⟨S400000, .f32⟩ : BufTy).Contents (Elt F)),
    StableHlo.binary main_v57 main_v58 main_v59 (mulf : (⟨S400000, .f32⟩ : BufTy).Contents (Elt F) → (⟨S400000, .f32⟩ : BufTy).Contents (Elt F) → (⟨S400000, .f32⟩ : BufTy).Contents (Elt F)),
    StableHlo.unary main_v59 main_v60 (broadcastInDim S400000x1 ![0] bcast_S400000_S400000x1_0 : (⟨S400000, .f32⟩ : BufTy).Contents (Elt F) → (⟨S400000x1, .f32⟩ : BufTy).Contents (Elt F)),
    StableHlo.unary main_v60 main_v61 (broadcastInDim S400000x4 ![0, 1] bcast_S400000x1_S400000x4_0_1 : (⟨S400000x1, .f32⟩ : BufTy).Contents (Elt F) → (⟨S400000x4, .f32⟩ : BufTy).Contents (Elt F)),
    StableHlo.binary main_v53 main_v61 main_v62 (addf : (⟨S400000x4, .f32⟩ : BufTy).Contents (Elt F) → (⟨S400000x4, .f32⟩ : BufTy).Contents (Elt F) → (⟨S400000x4, .f32⟩ : BufTy).Contents (Elt F)),
    StableHlo.nullary main_c (constantI S_ 32 0#32),
    StableHlo.unary main_c main_v63 (broadcastInDim S100 ![] bcast_S_S100 : (⟨S_, .i32⟩ : BufTy).Contents (Elt F) → (⟨S100, .i32⟩ : BufTy).Contents (Elt F)),
    StableHlo.nullary main_c_10 (constantI S_ 1 0#1),
    StableHlo.unary main_c_10 main_v64 (broadcastInDim S100 ![] bcast_S_S100 : (⟨S_, .i1⟩ : BufTy).Contents (Elt F) → (⟨S100, .i1⟩ : BufTy).Contents (Elt F)),
    StableHlo.nullary main_c_11 (constantI S_ 32 0#32),
    StableHlo.unary main_v62 main_v65_0 id,
    StableHlo.unary main_c_11 main_v65_1 id,
    StableHlo.unary main_v56 main_v65_2 id,
    StableHlo.unary main_v63 main_v65_3 id,
    StableHlo.unary main_v64 main_v65_4 id ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 11 host operations of @main, in order. -/
abbrev hostOps0_3 : List (HloOp τ sig (Elt F)) :=
  [ StableHlo.unary main_v65_4 main_v66 (broadcastInDim S100x1 ![0] bcast_S100_S100x1_0 : (⟨S100, .i1⟩ : BufTy).Contents (Elt F) → (⟨S100x1, .i1⟩ : BufTy).Contents (Elt F)),
    StableHlo.nullary main_c_12 (constantI S_ 32 0#32),
    StableHlo.unary main_c_12 main_v67 (broadcastInDim S100 ![] bcast_S_S100 : (⟨S_, .i32⟩ : BufTy).Contents (Elt F) → (⟨S100, .i32⟩ : BufTy).Contents (Elt F)),
    StableHlo.binary main_v65_3 main_v67 main_v68 (cmpi .slt : (⟨S100, .i32⟩ : BufTy).Contents (Elt F) → (⟨S100, .i32⟩ : BufTy).Contents (Elt F) → (⟨S100, .i1⟩ : BufTy).Contents (Elt F)),
    StableHlo.nullary main_c_13 (constantI S_ 32 400000#32),
    StableHlo.unary main_c_13 main_v69 (broadcastInDim S100 ![] bcast_S_S100 : (⟨S_, .i32⟩ : BufTy).Contents (Elt F) → (⟨S100, .i32⟩ : BufTy).Contents (Elt F)),
    StableHlo.binary main_v65_3 main_v69 main_v70 (addi : (⟨S100, .i32⟩ : BufTy).Contents (Elt F) → (⟨S100, .i32⟩ : BufTy).Contents (Elt F) → (⟨S100, .i32⟩ : BufTy).Contents (Elt F)),
    StableHlo.ternary main_v68 main_v70 main_v65_3 main_v71 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v71 main_v72 (broadcastInDim S100x1 ![0] bcast_S100_S100x1_0 : (⟨S100, .i32⟩ : BufTy).Contents (Elt F) → (⟨S100x1, .i32⟩ : BufTy).Contents (Elt F)),
    StableHlo.binary main_v53 main_v72 main_v73 ((fun x i => Host.gather gather_S400000x4_S100x1_S100x4_1_0_n_n_0_1_14 x i) : (⟨S400000x4, .f32⟩ : BufTy).Contents (Elt F) → (⟨S100x1, .i32⟩ : BufTy).Contents (Elt F) → (⟨S100x4, .f32⟩ : BufTy).Contents (Elt F)),
    StableHlo.nullary main_cst_14 (constant S_ .f32 0x00000000#32) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 4 host operations of @_where_2 (main_call6), in order. -/
abbrev hostOps0_4 : List (HloOp τ sig (Elt F)) :=
  [ StableHlo.TRef.unary (.of main_cst_14 : StableHlo.TRef sig ⟨S_, .f32⟩) (.of main_call6_v0 : StableHlo.TRef sig ⟨S_, .f32⟩) id,
    StableHlo.TRef.unary (.of main_v66 : StableHlo.TRef sig ⟨S100x1, .i1⟩) (.of main_call6_v1 : StableHlo.TRef sig ⟨S100x4, .i1⟩) (broadcastInDim S100x4 ![0, 1] bcast_S100x1_S100x4_0_1),
    StableHlo.TRef.unary (.of main_call6_v0 : StableHlo.TRef sig ⟨S_, .f32⟩) (.of main_call6_v2 : StableHlo.TRef sig ⟨S100x4, .f32⟩) (broadcastInDim S100x4 ![] bcast_S_S100x4),
    StableHlo.TRef.ternary (.of main_call6_v1 : StableHlo.TRef sig ⟨S100x4, .i1⟩) (.of main_v73 : StableHlo.TRef sig ⟨S100x4, .f32⟩) (.of main_call6_v2 : StableHlo.TRef sig ⟨S100x4, .f32⟩) (.of main_v74 : StableHlo.TRef sig ⟨S100x4, .f32⟩) select ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 10 host operations of @main, in order. -/
abbrev hostOps0_5 : List (HloOp τ sig (Elt F)) :=
  [ StableHlo.nullary main_c_15 (constantI S_ 32 0#32),
    StableHlo.unary main_c_15 main_v75 (broadcastInDim S100 ![] bcast_S_S100 : (⟨S_, .i32⟩ : BufTy).Contents (Elt F) → (⟨S100, .i32⟩ : BufTy).Contents (Elt F)),
    StableHlo.binary main_v65_3 main_v75 main_v76 (cmpi .slt : (⟨S100, .i32⟩ : BufTy).Contents (Elt F) → (⟨S100, .i32⟩ : BufTy).Contents (Elt F) → (⟨S100, .i1⟩ : BufTy).Contents (Elt F)),
    StableHlo.nullary main_c_16 (constantI S_ 32 400000#32),
    StableHlo.unary main_c_16 main_v77 (broadcastInDim S100 ![] bcast_S_S100 : (⟨S_, .i32⟩ : BufTy).Contents (Elt F) → (⟨S100, .i32⟩ : BufTy).Contents (Elt F)),
    StableHlo.binary main_v65_3 main_v77 main_v78 (addi : (⟨S100, .i32⟩ : BufTy).Contents (Elt F) → (⟨S100, .i32⟩ : BufTy).Contents (Elt F) → (⟨S100, .i32⟩ : BufTy).Contents (Elt F)),
    StableHlo.ternary main_v76 main_v78 main_v65_3 main_v79 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v79 main_v80 (broadcastInDim S100x1 ![0] bcast_S100_S100x1_0 : (⟨S100, .i32⟩ : BufTy).Contents (Elt F) → (⟨S100x1, .i32⟩ : BufTy).Contents (Elt F)),
    StableHlo.binary main_v51 main_v80 main_v81 ((fun x i => Host.gather gather_S400000_S100x1_S100_n_0_n_n_0_1_1 x i) : (⟨S400000, .f32⟩ : BufTy).Contents (Elt F) → (⟨S100x1, .i32⟩ : BufTy).Contents (Elt F) → (⟨S100, .f32⟩ : BufTy).Contents (Elt F)),
    StableHlo.nullary main_cst_17 (constant S_ .f32 0x00000000#32) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 3 host operations of @_where_3 (main_call7), in order. -/
abbrev hostOps0_6 : List (HloOp τ sig (Elt F)) :=
  [ StableHlo.TRef.unary (.of main_cst_17 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S100, .f32⟩) (broadcastInDim S100 ![] bcast_S_S100),
    StableHlo.TRef.ternary (.of main_v65_4 : StableHlo.TRef sig ⟨S100, .i1⟩) (.of main_v81 : StableHlo.TRef sig ⟨S100, .f32⟩) (.of main_call7_v1 : StableHlo.TRef sig ⟨S100, .f32⟩) (.of main_v82 : StableHlo.TRef sig ⟨S100, .f32⟩) select ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.unary_bufs_sub .., StableHlo.ternary_bufs_sub ..⟩
/-- 10 host operations of @main, in order. -/
abbrev hostOps0_7 : List (HloOp τ sig (Elt F)) :=
  [ StableHlo.nullary main_c_18 (constantI S_ 32 0#32),
    StableHlo.unary main_c_18 main_v83 (broadcastInDim S100 ![] bcast_S_S100 : (⟨S_, .i32⟩ : BufTy).Contents (Elt F) → (⟨S100, .i32⟩ : BufTy).Contents (Elt F)),
    StableHlo.binary main_v65_3 main_v83 main_v84 (cmpi .slt : (⟨S100, .i32⟩ : BufTy).Contents (Elt F) → (⟨S100, .i32⟩ : BufTy).Contents (Elt F) → (⟨S100, .i1⟩ : BufTy).Contents (Elt F)),
    StableHlo.nullary main_c_19 (constantI S_ 32 400000#32),
    StableHlo.unary main_c_19 main_v85 (broadcastInDim S100 ![] bcast_S_S100 : (⟨S_, .i32⟩ : BufTy).Contents (Elt F) → (⟨S100, .i32⟩ : BufTy).Contents (Elt F)),
    StableHlo.binary main_v65_3 main_v85 main_v86 (addi : (⟨S100, .i32⟩ : BufTy).Contents (Elt F) → (⟨S100, .i32⟩ : BufTy).Contents (Elt F) → (⟨S100, .i32⟩ : BufTy).Contents (Elt F)),
    StableHlo.ternary main_v84 main_v86 main_v65_3 main_v87 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v87 main_v88 (broadcastInDim S100x1 ![0] bcast_S100_S100x1_0 : (⟨S100, .i32⟩ : BufTy).Contents (Elt F) → (⟨S100x1, .i32⟩ : BufTy).Contents (Elt F)),
    StableHlo.binary main_v49 main_v88 main_v89 ((fun x i => Host.gather gather_S400000_S100x1_S100_n_0_n_n_0_1_1 x i) : (⟨S400000, .i32⟩ : BufTy).Contents (Elt F) → (⟨S100x1, .i32⟩ : BufTy).Contents (Elt F) → (⟨S100, .i32⟩ : BufTy).Contents (Elt F)),
    StableHlo.nullary main_c_20 (constantI S_ 32 0#32) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 3 host operations of @_where_4 (main_call8), in order. -/
abbrev hostOps0_8 : List (HloOp τ sig (Elt F)) :=
  [ StableHlo.TRef.unary (.of main_c_20 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S100, .i32⟩) (broadcastInDim S100 ![] bcast_S_S100),
    StableHlo.TRef.ternary (.of main_v65_4 : StableHlo.TRef sig ⟨S100, .i1⟩) (.of main_v89 : StableHlo.TRef sig ⟨S100, .i32⟩) (.of main_call8_v1 : StableHlo.TRef sig ⟨S100, .i32⟩) (.of main_v90 : StableHlo.TRef sig ⟨S100, .i32⟩) select ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.unary_bufs_sub .., StableHlo.unary_bufs_sub .., StableHlo.ternary_bufs_sub ..⟩
/-- 60 host operations of @main, window 0 (statements 1 … 60), in order. -/
abbrev main_part0_ops0 : List (HloOp τ sig (Elt F)) :=
  ( StableHlo.nullary main_cst (constant S_ .f32 0xFF800000#32)
  :: StableHlo.binary main_arg0 main_cst main_v0 ((fun x v => Host.reduce FloatOps.maximumf x v reducesTo_S1x20000x21_S1x20000_d2 h_S_) : (⟨S1x20000x21, .f32⟩ : BufTy).Contents (Elt F) → (⟨S_, .f32⟩ : BufTy).Contents (Elt F) → (⟨S1x20000, .f32⟩ : BufTy).Contents (Elt F))
  :: StableHlo.nullary main_cst_0 (constant S_ .f32 0xFF800000#32)
  :: StableHlo.unary main_cst_0 main_v1 (broadcastInDim S1x20000 ![] bcast_S_S1x20000 : (⟨S_, .f32⟩ : BufTy).Contents (Elt F) → (⟨S1x20000, .f32⟩ : BufTy).Contents (Elt F))
  :: StableHlo.binary main_v1 main_v0 main_v2 (maximumf : (⟨S1x20000, .f32⟩ : BufTy).Contents (Elt F) → (⟨S1x20000, .f32⟩ : BufTy).Contents (Elt F) → (⟨S1x20000, .f32⟩ : BufTy).Contents (Elt F))
  :: StableHlo.unary main_v2 main_v3 (broadcastInDim S1x20000x1 ![0, 1] bcast_S1x20000_S1x20000x1_0_1 : (⟨S1x20000, .f32⟩ : BufTy).Contents (Elt F) → (⟨S1x20000x1, .f32⟩ : BufTy).Contents (Elt F))
  :: StableHlo.unary main_v3 main_v4 (broadcastInDim S1x20000x21 ![0, 1, 2] bcast_S1x20000x1_S1x20000x21_0_1_2 : (⟨S1x20000x1, .f32⟩ : BufTy).Contents (Elt F) → (⟨S1x20000x21, .f32⟩ : BufTy).Contents (Elt F))
  :: StableHlo.binary main_arg0 main_v4 main_v5 (subf : (⟨S1x20000x21, .f32⟩ : BufTy).Contents (Elt F) → (⟨S1x20000x21, .f32⟩ : BufTy).Contents (Elt F) → (⟨S1x20000x21, .f32⟩ : BufTy).Contents (Elt F))
  :: StableHlo.unary main_v5 main_v6 (Host.exp : (⟨S1x20000x21, .f32⟩ : BufTy).Contents (Elt F) → (⟨S1x20000x21, .f32⟩ : BufTy).Contents (Elt F))
  :: StableHlo.nullary main_cst_1 (constant S_ .f32 0x00000000#32)
  :: StableHlo.binary main_v6 main_cst_1 main_v7 ((fun x v => Host.reduceAdd x v reducesTo_S1x20000x21_S1x20000_d2 h_S_) : (⟨S1x20000x21, .f32⟩ : BufTy).Contents (Elt F) → (⟨S_, .f32⟩ : BufTy).Contents (Elt F) → (⟨S1x20000, .f32⟩ : BufTy).Contents (Elt F))
  :: StableHlo.unary main_v7 main_v8 (broadcastInDim S1x20000x1 ![0, 1] bcast_S1x20000_S1x20000x1_0_1 : (⟨S1x20000, .f32⟩ : BufTy).Contents (Elt F) → (⟨S1x20000x1, .f32⟩ : BufTy).Contents (Elt F))
  :: StableHlo.unary main_v8 main_v9 (broadcastInDim S1x20000x21 ![0, 1, 2] bcast_S1x20000x1_S1x20000x21_0_1_2 : (⟨S1x20000x1, .f32⟩ : BufTy).Contents (Elt F) → (⟨S1x20000x21, .f32⟩ : BufTy).Contents (Elt F))
  :: StableHlo.binary main_v6 main_v9 main_v10 (Host.divf : (⟨S1x20000x21, .f32⟩ : BufTy).Contents (Elt F) → (⟨S1x20000x21, .f32⟩ : BufTy).Contents (Elt F) → (⟨S1x20000x21, .f32⟩ : BufTy).Contents (Elt F))
  :: StableHlo.unary main_arg1 main_v11 ((extractStridedSlice S1x20000x2 ![0, 0, 0] · slices_S1x20000x4_S1x20000x2_0_0_0) : (⟨S1x20000x4, .f32⟩ : BufTy).Contents (Elt F) → (⟨S1x20000x2, .f32⟩ : BufTy).Contents (Elt F))
  :: StableHlo.nullary main_cst_2 (constant S_ .f32 0x3DCCCCCD#32)
  :: StableHlo.unary main_cst_2 main_v12 (broadcastInDim S1x20000x2 ![] bcast_S_S1x20000x2 : (⟨S_, .f32⟩ : BufTy).Contents (Elt F) → (⟨S1x20000x2, .f32⟩ : BufTy).Contents (Elt F))
  :: StableHlo.binary main_v11 main_v12 main_v13 (mulf : (⟨S1x20000x2, .f32⟩ : BufTy).Contents (Elt F) → (⟨S1x20000x2, .f32⟩ : BufTy).Contents (Elt F) → (⟨S1x20000x2, .f32⟩ : BufTy).Contents (Elt F))
  :: StableHlo.unary main_arg2 main_v14 ((extractStridedSlice S20000x2 ![0, 2] · slices_S20000x4_S20000x2_0_2) : (⟨S20000x4, .f32⟩ : BufTy).Contents (Elt F) → (⟨S20000x2, .f32⟩ : BufTy).Contents (Elt F))
  :: StableHlo.unary main_v14 main_v15 (broadcastInDim S1x20000x2 ![1, 2] bcast_S20000x2_S1x20000x2_1_2 : (⟨S20000x2, .f32⟩ : BufTy).Contents (Elt F) → (⟨S1x20000x2, .f32⟩ : BufTy).Contents (Elt F))
  :: StableHlo.binary main_v13 main_v15 main_v16 (mulf : (⟨S1x20000x2, .f32⟩ : BufTy).Contents (Elt F) → (⟨S1x20000x2, .f32⟩ : BufTy).Contents (Elt F) → (⟨S1x20000x2, .f32⟩ : BufTy).Contents (Elt F))
  :: StableHlo.unary main_arg2 main_v17 ((extractStridedSlice S20000x2 ![0, 0] · slices_S20000x4_S20000x2_0_0) : (⟨S20000x4, .f32⟩ : BufTy).Contents (Elt F) → (⟨S20000x2, .f32⟩ : BufTy).Contents (Elt F))
  :: StableHlo.unary main_v17 main_v18 (broadcastInDim S1x20000x2 ![1, 2] bcast_S20000x2_S1x20000x2_1_2 : (⟨S20000x2, .f32⟩ : BufTy).Contents (Elt F) → (⟨S1x20000x2, .f32⟩ : BufTy).Contents (Elt F))
  :: StableHlo.binary main_v16 main_v18 main_v19 (addf : (⟨S1x20000x2, .f32⟩ : BufTy).Contents (Elt F) → (⟨S1x20000x2, .f32⟩ : BufTy).Contents (Elt F) → (⟨S1x20000x2, .f32⟩ : BufTy).Contents (Elt F))
  :: StableHlo.unary main_arg1 main_v20 ((extractStridedSlice S1x20000x2 ![0, 0, 2] · slices_S1x20000x4_S1x20000x2_0_0_2) : (⟨S1x20000x4, .f32⟩ : BufTy).Contents (Elt F) → (⟨S1x20000x2, .f32⟩ : BufTy).Contents (Elt F))
  :: StableHlo.nullary main_cst_3 (constant S_ .f32 0x3E4CCCCD#32)
  :: StableHlo.unary main_cst_3 main_v21 (broadcastInDim S1x20000x2 ![] bcast_S_S1x20000x2 : (⟨S_, .f32⟩ : BufTy).Contents (Elt F) → (⟨S1x20000x2, .f32⟩ : BufTy).Contents (Elt F))
  :: StableHlo.binary main_v20 main_v21 main_v22 (mulf : (⟨S1x20000x2, .f32⟩ : BufTy).Contents (Elt F) → (⟨S1x20000x2, .f32⟩ : BufTy).Contents (Elt F) → (⟨S1x20000x2, .f32⟩ : BufTy).Contents (Elt F))
  :: StableHlo.unary main_v22 main_v23 (Host.exp : (⟨S1x20000x2, .f32⟩ : BufTy).Contents (Elt F) → (⟨S1x20000x2, .f32⟩ : BufTy).Contents (Elt F))
  :: StableHlo.unary main_arg2 main_v24 ((extractStridedSlice S20000x2 ![0, 2] · slices_S20000x4_S20000x2_0_2) : (⟨S20000x4, .f32⟩ : BufTy).Contents (Elt F) → (⟨S20000x2, .f32⟩ : BufTy).Contents (Elt F))
  :: StableHlo.unary main_v24 main_v25 (broadcastInDim S1x20000x2 ![1, 2] bcast_S20000x2_S1x20000x2_1_2 : (⟨S20000x2, .f32⟩ : BufTy).Contents (Elt F) → (⟨S1x20000x2, .f32⟩ : BufTy).Contents (Elt F))
  :: StableHlo.binary main_v23 main_v25 main_v26 (mulf : (⟨S1x20000x2, .f32⟩ : BufTy).Contents (Elt F) → (⟨S1x20000x2, .f32⟩ : BufTy).Contents (Elt F) → (⟨S1x20000x2, .f32⟩ : BufTy).Contents (Elt F))
  :: StableHlo.binary main_v19 main_v26 main_v27 ((fun a b => concatenate S1x20000x4 2 [⟨S1x20000x2, a⟩, ⟨S1x20000x2, b⟩] concatenates_S1x20000x2_S1x20000x2_S1x20000x4_d2) : (⟨S1x20000x2, .f32⟩ : BufTy).Contents (Elt F) → (⟨S1x20000x2, .f32⟩ : BufTy).Contents (Elt F) → (⟨S1x20000x4, .f32⟩ : BufTy).Contents (Elt F))
  :: StableHlo.unary main_v27 main_v28 ((extractStridedSlice S1x20000x2 ![0, 0, 0] · slices_S1x20000x4_S1x20000x2_0_0_0) : (⟨S1x20000x4, .f32⟩ : BufTy).Contents (Elt F) → (⟨S1x20000x2, .f32⟩ : BufTy).Contents (Elt F))
  :: StableHlo.unary main_v27 main_v29 ((extractStridedSlice S1x20000x2 ![0, 0, 2] · slices_S1x20000x4_S1x20000x2_0_0_2) : (⟨S1x20000x4, .f32⟩ : BufTy).Contents (Elt F) → (⟨S1x20000x2, .f32⟩ : BufTy).Contents (Elt F))
  :: StableHlo.nullary main_cst_4 (constant S_ .f32 0x40000000#32)
  :: StableHlo.unary main_cst_4 main_v30 (broadcastInDim S1x20000x2 ![] bcast_S_S1x20000x2 : (⟨S_, .f32⟩ : BufTy).Contents (Elt F) → (⟨S1x20000x2, .f32⟩ : BufTy).Contents (Elt F))
  :: StableHlo.binary main_v29 main_v30 main_v31 (Host.divf : (⟨S1x20000x2, .f32⟩ : BufTy).Contents (Elt F) → (⟨S1x20000x2, .f32⟩ : BufTy).Contents (Elt F) → (⟨S1x20000x2, .f32⟩ : BufTy).Contents (Elt F))
  :: StableHlo.binary main_v28 main_v31 main_v32 (subf : (⟨S1x20000x2, .f32⟩ : BufTy).Contents (Elt F) → (⟨S1x20000x2, .f32⟩ : BufTy).Contents (Elt F) → (⟨S1x20000x2, .f32⟩ : BufTy).Contents (Elt F))
  :: StableHlo.unary main_v27 main_v33 ((extractStridedSlice S1x20000x2 ![0, 0, 0] · slices_S1x20000x4_S1x20000x2_0_0_0) : (⟨S1x20000x4, .f32⟩ : BufTy).Contents (Elt F) → (⟨S1x20000x2, .f32⟩ : BufTy).Contents (Elt F))
  :: StableHlo.unary main_v27 main_v34 ((extractStridedSlice S1x20000x2 ![0, 0, 2] · slices_S1x20000x4_S1x20000x2_0_0_2) : (⟨S1x20000x4, .f32⟩ : BufTy).Contents (Elt F) → (⟨S1x20000x2, .f32⟩ : BufTy).Contents (Elt F))
  :: StableHlo.nullary main_cst_5 (constant S_ .f32 0x40000000#32)
  :: StableHlo.unary main_cst_5 main_v35 (broadcastInDim S1x20000x2 ![] bcast_S_S1x20000x2 : (⟨S_, .f32⟩ : BufTy).Contents (Elt F) → (⟨S1x20000x2, .f32⟩ : BufTy).Contents (Elt F))
  :: StableHlo.binary main_v34 main_v35 main_v36 (Host.divf : (⟨S1x20000x2, .f32⟩ : BufTy).Contents (Elt F) → (⟨S1x20000x2, .f32⟩ : BufTy).Contents (Elt F) → (⟨S1x20000x2, .f32⟩ : BufTy).Contents (Elt F))
  :: StableHlo.binary main_v33 main_v36 main_v37 (addf : (⟨S1x20000x2, .f32⟩ : BufTy).Contents (Elt F) → (⟨S1x20000x2, .f32⟩ : BufTy).Contents (Elt F) → (⟨S1x20000x2, .f32⟩ : BufTy).Contents (Elt F))
  :: StableHlo.binary main_v32 main_v37 main_v38 ((fun a b => concatenate S1x20000x4 2 [⟨S1x20000x2, a⟩, ⟨S1x20000x2, b⟩] concatenates_S1x20000x2_S1x20000x2_S1x20000x4_d2) : (⟨S1x20000x2, .f32⟩ : BufTy).Contents (Elt F) → (⟨S1x20000x2, .f32⟩ : BufTy).Contents (Elt F) → (⟨S1x20000x4, .f32⟩ : BufTy).Contents (Elt F))
  :: StableHlo.reshape main_v10 main_v39 (rfl : (.f32 : EltTy) = .f32) shapeCasts_S1x20000x21_S20000x21
  :: StableHlo.reshape main_v38 main_v40 (rfl : (.f32 : EltTy) = .f32) shapeCasts_S1x20000x4_S20000x4
  :: StableHlo.unary main_v40 main_v41 (broadcastInDim S20000x1x4 ![0, 2] bcast_S20000x4_S20000x1x4_0_2 : (⟨S20000x4, .f32⟩ : BufTy).Contents (Elt F) → (⟨S20000x1x4, .f32⟩ : BufTy).Contents (Elt F))
  :: StableHlo.unary main_v41 main_v42 (broadcastInDim S20000x21x4 ![0, 1, 2] bcast_S20000x1x4_S20000x21x4_0_1_2 : (⟨S20000x1x4, .f32⟩ : BufTy).Contents (Elt F) → (⟨S20000x21x4, .f32⟩ : BufTy).Contents (Elt F))
  :: StableHlo.nullary main_v43 (iotaInDim S21 32 0)
  :: StableHlo.unary main_v43 main_v44 (broadcastInDim S1x21 ![1] bcast_S21_S1x21_1 : (⟨S21, .i32⟩ : BufTy).Contents (Elt F) → (⟨S1x21, .i32⟩ : BufTy).Contents (Elt F))
  :: StableHlo.unary main_v44 main_v45 (broadcastInDim S20000x21 ![0, 1] bcast_S1x21_S20000x21_0_1 : (⟨S1x21, .i32⟩ : BufTy).Contents (Elt F) → (⟨S20000x21, .i32⟩ : BufTy).Contents (Elt F))
  :: StableHlo.unary main_v42 main_v46 ((extractStridedSlice S20000x20x4 ![0, 1, 0] · slices_S20000x21x4_S20000x20x4_0_1_0) : (⟨S20000x21x4, .f32⟩ : BufTy).Contents (Elt F) → (⟨S20000x20x4, .f32⟩ : BufTy).Contents (Elt F))
  :: StableHlo.reshape main_v46 main_v47 (rfl : (.f32 : EltTy) = .f32) shapeCasts_S20000x20x4_S400000x4
  :: StableHlo.unary main_v45 main_v48 ((extractStridedSlice S20000x20 ![0, 1] · slices_S20000x21_S20000x20_0_1) : (⟨S20000x21, .i32⟩ : BufTy).Contents (Elt F) → (⟨S20000x20, .i32⟩ : BufTy).Contents (Elt F))
  :: StableHlo.reshape main_v48 main_v49 (rfl : (.i32 : EltTy) = .i32) shapeCasts_S20000x20_S400000
  :: StableHlo.unary main_v39 main_v50 ((extractStridedSlice S20000x20 ![0, 1] · slices_S20000x21_S20000x20_0_1) : (⟨S20000x21, .f32⟩ : BufTy).Contents (Elt F) → (⟨S20000x20, .f32⟩ : BufTy).Contents (Elt F))
  :: StableHlo.reshape main_v50 main_v51 (rfl : (.f32 : EltTy) = .f32) shapeCasts_S20000x20_S400000
  :: StableHlo.nullary main_cst_6 (constant S_ .f32 0x44000000#32)
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.reshape_bufs_sub .., StableHlo.reshape_bufs_sub .., StableHlo.unary_bufs_sub .., StableHlo.unary_bufs_sub .., StableHlo.nullary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub ..⟩
/-- Window 0 of `main` (`main_part0`, statements 1 … 60) is the chain of ITS items ending in the last
    (`Pipeline.chainK`: no closing `pure`, the window's last statement being in tail position), by `chain_rfl`. -/
theorem main_part0_chain (c : Dev nD) : main_part0 (F := F) c = (Pipeline.chainK
  [  ]
  (StableHlo.seq main_part0_ops0) : Prog (TpuEff nD τ sig (Elt F) (HostLoop.Sig (Pipeline.Sig Λ₀ (Fin 0) fun p => (pcfgs (F := F) p).Adm) 1) .tc) PUnit) := by
  chain_rfl

/-- 6 host operations of @main, window 1 (statements 61 … 120), in order. -/
abbrev main_part1_ops0 : List (HloOp τ sig (Elt F)) :=
  [ StableHlo.unary main_cst_6 main_v52 (broadcastInDim S400000x4 ![] bcast_S_S400000x4 : (⟨S_, .f32⟩ : BufTy).Contents (Elt F) → (⟨S400000x4, .f32⟩ : BufTy).Contents (Elt F)),
    StableHlo.binary main_v47 main_v52 main_v53 (mulf : (⟨S400000x4, .f32⟩ : BufTy).Contents (Elt F) → (⟨S400000x4, .f32⟩ : BufTy).Contents (Elt F) → (⟨S400000x4, .f32⟩ : BufTy).Contents (Elt F)),
    StableHlo.nullary main_cst_7 (constant S_ .f32 0x3C23D70A#32),
    StableHlo.unary main_cst_7 main_v54 (broadcastInDim S400000 ![] bcast_S_S400000 : (⟨S_, .f32⟩ : BufTy).Contents (Elt F) → (⟨S400000, .f32⟩ : BufTy).Contents (Elt F)),
    StableHlo.binary main_v51 main_v54 main_v55 (cmpf .ogt : (⟨S400000, .f32⟩ : BufTy).Contents (Elt F) → (⟨S400000, .f32⟩ : BufTy).Contents (Elt F) → (⟨S400000, .i1⟩ : BufTy).Contents (Elt F)),
    StableHlo.nullary main_cst_8 (constant S_ .f32 0xF149F2CA#32) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub ..⟩
/-- 3 host operations of @_where (main_call0), window 1 (statements 61 … 120), in order. -/
abbrev main_part1_ops1 : List (HloOp τ sig (Elt F)) :=
  [ StableHlo.TRef.unary (.of main_cst_8 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S400000, .f32⟩) (broadcastInDim S400000 ![] bcast_S_S400000),
    StableHlo.TRef.ternary (.of main_v55 : StableHlo.TRef sig ⟨S400000, .i1⟩) (.of main_v51 : StableHlo.TRef sig ⟨S400000, .f32⟩) (.of main_call0_v1 : StableHlo.TRef sig ⟨S400000, .f32⟩) (.of main_v56 : StableHlo.TRef sig ⟨S400000, .f32⟩) select ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.unary_bufs_sub .., StableHlo.ternary_bufs_sub ..⟩
/-- 17 host operations of @main, window 1 (statements 61 … 120), in order. -/
abbrev main_part1_ops2 : List (HloOp τ sig (Elt F)) :=
  [ StableHlo.unary main_v49 main_v57 (sitofp .f32 : (⟨S400000, .i32⟩ : BufTy).Contents (Elt F) → (⟨S400000, .f32⟩ : BufTy).Contents (Elt F)),
    StableHlo.nullary main_cst_9 (constant S_ .f32 0x45000000#32),
    StableHlo.unary main_cst_9 main_v58 (broadcastInDim S400000 ![] bcast_S_S400000 : (⟨S_, .f32⟩ : BufTy).Contents (Elt F) → (⟨S400000, .f32⟩ : BufTy).Contents (Elt F)),
    StableHlo.binary main_v57 main_v58 main_v59 (mulf : (⟨S400000, .f32⟩ : BufTy).Contents (Elt F) → (⟨S400000, .f32⟩ : BufTy).Contents (Elt F) → (⟨S400000, .f32⟩ : BufTy).Contents (Elt F)),
    StableHlo.unary main_v59 main_v60 (broadcastInDim S400000x1 ![0] bcast_S400000_S400000x1_0 : (⟨S400000, .f32⟩ : BufTy).Contents (Elt F) → (⟨S400000x1, .f32⟩ : BufTy).Contents (Elt F)),
    StableHlo.unary main_v60 main_v61 (broadcastInDim S400000x4 ![0, 1] bcast_S400000x1_S400000x4_0_1 : (⟨S400000x1, .f32⟩ : BufTy).Contents (Elt F) → (⟨S400000x4, .f32⟩ : BufTy).Contents (Elt F)),
    StableHlo.binary main_v53 main_v61 main_v62 (addf : (⟨S400000x4, .f32⟩ : BufTy).Contents (Elt F) → (⟨S400000x4, .f32⟩ : BufTy).Contents (Elt F) → (⟨S400000x4, .f32⟩ : BufTy).Contents (Elt F)),
    StableHlo.nullary main_c (constantI S_ 32 0#32),
    StableHlo.unary main_c main_v63 (broadcastInDim S100 ![] bcast_S_S100 : (⟨S_, .i32⟩ : BufTy).Contents (Elt F) → (⟨S100, .i32⟩ : BufTy).Contents (Elt F)),
    StableHlo.nullary main_c_10 (constantI S_ 1 0#1),
    StableHlo.unary main_c_10 main_v64 (broadcastInDim S100 ![] bcast_S_S100 : (⟨S_, .i1⟩ : BufTy).Contents (Elt F) → (⟨S100, .i1⟩ : BufTy).Contents (Elt F)),
    StableHlo.nullary main_c_11 (constantI S_ 32 0#32),
    StableHlo.unary main_v62 main_v65_0 id,
    StableHlo.unary main_c_11 main_v65_1 id,
    StableHlo.unary main_v56 main_v65_2 id,
    StableHlo.unary main_v63 main_v65_3 id,
    StableHlo.unary main_v64 main_v65_4 id ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 11 host operations of @main, window 1 (statements 61 … 120), in order. -/
abbrev main_part1_ops3 : List (HloOp τ sig (Elt F)) :=
  [ StableHlo.unary main_v65_4 main_v66 (broadcastInDim S100x1 ![0] bcast_S100_S100x1_0 : (⟨S100, .i1⟩ : BufTy).Contents (Elt F) → (⟨S100x1, .i1⟩ : BufTy).Contents (Elt F)),
    StableHlo.nullary main_c_12 (constantI S_ 32 0#32),
    StableHlo.unary main_c_12 main_v67 (broadcastInDim S100 ![] bcast_S_S100 : (⟨S_, .i32⟩ : BufTy).Contents (Elt F) → (⟨S100, .i32⟩ : BufTy).Contents (Elt F)),
    StableHlo.binary main_v65_3 main_v67 main_v68 (cmpi .slt : (⟨S100, .i32⟩ : BufTy).Contents (Elt F) → (⟨S100, .i32⟩ : BufTy).Contents (Elt F) → (⟨S100, .i1⟩ : BufTy).Contents (Elt F)),
    StableHlo.nullary main_c_13 (constantI S_ 32 400000#32),
    StableHlo.unary main_c_13 main_v69 (broadcastInDim S100 ![] bcast_S_S100 : (⟨S_, .i32⟩ : BufTy).Contents (Elt F) → (⟨S100, .i32⟩ : BufTy).Contents (Elt F)),
    StableHlo.binary main_v65_3 main_v69 main_v70 (addi : (⟨S100, .i32⟩ : BufTy).Contents (Elt F) → (⟨S100, .i32⟩ : BufTy).Contents (Elt F) → (⟨S100, .i32⟩ : BufTy).Contents (Elt F)),
    StableHlo.ternary main_v68 main_v70 main_v65_3 main_v71 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v71 main_v72 (broadcastInDim S100x1 ![0] bcast_S100_S100x1_0 : (⟨S100, .i32⟩ : BufTy).Contents (Elt F) → (⟨S100x1, .i32⟩ : BufTy).Contents (Elt F)),
    StableHlo.binary main_v53 main_v72 main_v73 ((fun x i => Host.gather gather_S400000x4_S100x1_S100x4_1_0_n_n_0_1_14 x i) : (⟨S400000x4, .f32⟩ : BufTy).Contents (Elt F) → (⟨S100x1, .i32⟩ : BufTy).Contents (Elt F) → (⟨S100x4, .f32⟩ : BufTy).Contents (Elt F)),
    StableHlo.nullary main_cst_14 (constant S_ .f32 0x00000000#32) ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 4 host operations of @_where_2 (main_call6), window 1 (statements 61 … 120), in order. -/
abbrev main_part1_ops4 : List (HloOp τ sig (Elt F)) :=
  [ StableHlo.TRef.unary (.of main_cst_14 : StableHlo.TRef sig ⟨S_, .f32⟩) (.of main_call6_v0 : StableHlo.TRef sig ⟨S_, .f32⟩) id,
    StableHlo.TRef.unary (.of main_v66 : StableHlo.TRef sig ⟨S100x1, .i1⟩) (.of main_call6_v1 : StableHlo.TRef sig ⟨S100x4, .i1⟩) (broadcastInDim S100x4 ![0, 1] bcast_S100x1_S100x4_0_1),
    StableHlo.TRef.unary (.of main_call6_v0 : StableHlo.TRef sig ⟨S_, .f32⟩) (.of main_call6_v2 : StableHlo.TRef sig ⟨S100x4, .f32⟩) (broadcastInDim S100x4 ![] bcast_S_S100x4),
    StableHlo.TRef.ternary (.of main_call6_v1 : StableHlo.TRef sig ⟨S100x4, .i1⟩) (.of main_v73 : StableHlo.TRef sig ⟨S100x4, .f32⟩) (.of main_call6_v2 : StableHlo.TRef sig ⟨S100x4, .f32⟩) (.of main_v74 : StableHlo.TRef sig ⟨S100x4, .f32⟩) select ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 10 host operations of @main, window 1 (statements 61 … 120), in order. -/
abbrev main_part1_ops5 : List (HloOp τ sig (Elt F)) :=
  [ StableHlo.nullary main_c_15 (constantI S_ 32 0#32),
    StableHlo.unary main_c_15 main_v75 (broadcastInDim S100 ![] bcast_S_S100 : (⟨S_, .i32⟩ : BufTy).Contents (Elt F) → (⟨S100, .i32⟩ : BufTy).Contents (Elt F)),
    StableHlo.binary main_v65_3 main_v75 main_v76 (cmpi .slt : (⟨S100, .i32⟩ : BufTy).Contents (Elt F) → (⟨S100, .i32⟩ : BufTy).Contents (Elt F) → (⟨S100, .i1⟩ : BufTy).Contents (Elt F)),
    StableHlo.nullary main_c_16 (constantI S_ 32 400000#32),
    StableHlo.unary main_c_16 main_v77 (broadcastInDim S100 ![] bcast_S_S100 : (⟨S_, .i32⟩ : BufTy).Contents (Elt F) → (⟨S100, .i32⟩ : BufTy).Contents (Elt F)),
    StableHlo.binary main_v65_3 main_v77 main_v78 (addi : (⟨S100, .i32⟩ : BufTy).Contents (Elt F) → (⟨S100, .i32⟩ : BufTy).Contents (Elt F) → (⟨S100, .i32⟩ : BufTy).Contents (Elt F)),
    StableHlo.ternary main_v76 main_v78 main_v65_3 main_v79 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v79 main_v80 (broadcastInDim S100x1 ![0] bcast_S100_S100x1_0 : (⟨S100, .i32⟩ : BufTy).Contents (Elt F) → (⟨S100x1, .i32⟩ : BufTy).Contents (Elt F)),
    StableHlo.binary main_v51 main_v80 main_v81 ((fun x i => Host.gather gather_S400000_S100x1_S100_n_0_n_n_0_1_1 x i) : (⟨S400000, .f32⟩ : BufTy).Contents (Elt F) → (⟨S100x1, .i32⟩ : BufTy).Contents (Elt F) → (⟨S100, .f32⟩ : BufTy).Contents (Elt F)),
    StableHlo.nullary main_cst_17 (constant S_ .f32 0x00000000#32) ]
/-- Each touches TensorCore references only (`HostSeg.ofOps` over `StableHlo.tcRefs`, or a subset by `sub_ucRefs`). -/
theorem main_part1_ops5_sub : (main_part1_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 3 host operations of @_where_3 (main_call7), window 1 (statements 61 … 120), in order. -/
abbrev main_part1_ops6 : List (HloOp τ sig (Elt F)) :=
  [ StableHlo.TRef.unary (.of main_cst_17 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S100, .f32⟩) (broadcastInDim S100 ![] bcast_S_S100),
    StableHlo.TRef.ternary (.of main_v65_4 : StableHlo.TRef sig ⟨S100, .i1⟩) (.of main_v81 : StableHlo.TRef sig ⟨S100, .f32⟩) (.of main_call7_v1 : StableHlo.TRef sig ⟨S100, .f32⟩) (.of main_v82 : StableHlo.TRef sig ⟨S100, .f32⟩) select ]
/-- Each touches TensorCore references only (`HostSeg.ofOps` over `StableHlo.tcRefs`, or a subset by `sub_ucRefs`). -/
theorem main_part1_ops6_sub : (main_part1_ops6 : List (HloOp τ sig (Elt F))).Forall fun op => op.bufs ⊆ StableHlo.tcRefs τ sig :=
  ⟨StableHlo.unary_bufs_sub .., StableHlo.unary_bufs_sub .., StableHlo.ternary_bufs_sub ..⟩
/-- 10 host operations of @main, window 1 (statements 61 … 120), in order. -/
abbrev main_part1_ops7 : List (HloOp τ sig (Elt F)) :=
  [ StableHlo.nullary main_c_18 (constantI S_ 32 0#32),
    StableHlo.unary main_c_18 main_v83 (broadcastInDim S100 ![] bcast_S_S100 : (⟨S_, .i32⟩ : BufTy).Contents (Elt F) → (⟨S100, .i32⟩ : BufTy).Contents (Elt F)),
    StableHlo.binary main_v65_3 main_v83 main_v84 (cmpi .slt : (⟨S100, .i32⟩ : BufTy).Contents (Elt F) → (⟨S100, .i32⟩ : BufTy).Contents (Elt F) → (⟨S100, .i1⟩ : BufTy).Contents (Elt F)),
    StableHlo.nullary main_c_19 (constantI S_ 32 400000#32),
    StableHlo.unary main_c_19 main_v85 (broadcastInDim S100 ![] bcast_S_S100 : (⟨S_, .i32⟩ : BufTy).Contents (Elt F) → (⟨S100, .i32⟩ : BufTy).Contents (Elt F)),
    StableHlo.binary main_v65_3 main_v85 main_v86 (addi : (⟨S100, .i32⟩ : BufTy).Contents (Elt F) → (⟨S100, .i32⟩ : BufTy).Contents (Elt F) → (⟨S100, .i32⟩ : BufTy).Contents (Elt F)),
    StableHlo.ternary main_v84 main_v86 main_v65_3 main_v87 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v87 main_v88 (broadcastInDim S100x1 ![0] bcast_S100_S100x1_0 : (⟨S100, .i32⟩ : BufTy).Contents (Elt F) → (⟨S100x1, .i32⟩ : BufTy).Contents (Elt F)),
    StableHlo.binary main_v49 main_v88 main_v89 ((fun x i => Host.gather gather_S400000_S100x1_S100_n_0_n_n_0_1_1 x i) : (⟨S400000, .i32⟩ : BufTy).Contents (Elt F) → (⟨S100x1, .i32⟩ : BufTy).Contents (Elt F) → (⟨S100, .i32⟩ : BufTy).Contents (Elt F)),
    StableHlo.nullary main_c_20 (constantI S_ 32 0#32) ]
/-- Each touches TensorCore references only (`HostSeg.ofOps` over `StableHlo.tcRefs`, or a subset by `sub_ucRefs`). -/
theorem main_part1_ops7_sub : (main_part1_ops7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 3 host operations of @_where_4 (main_call8), window 1 (statements 61 … 120), in order. -/
abbrev main_part1_ops8 : List (HloOp τ sig (Elt F)) :=
  [ StableHlo.TRef.unary (.of main_c_20 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S100, .i32⟩) (broadcastInDim S100 ![] bcast_S_S100),
    StableHlo.TRef.ternary (.of main_v65_4 : StableHlo.TRef sig ⟨S100, .i1⟩) (.of main_v89 : StableHlo.TRef sig ⟨S100, .i32⟩) (.of main_call8_v1 : StableHlo.TRef sig ⟨S100, .i32⟩) (.of main_v90 : StableHlo.TRef sig ⟨S100, .i32⟩) select ]
/-- Each touches TensorCore references only (`HostSeg.ofOps` over `StableHlo.tcRefs`, or a subset by `sub_ucRefs`). -/
theorem main_part1_ops8_sub : (main_part1_ops8 : List (HloOp τ sig (Elt F))).Forall fun op => op.bufs ⊆ StableHlo.tcRefs τ sig :=
  ⟨StableHlo.unary_bufs_sub .., StableHlo.unary_bufs_sub .., StableHlo.ternary_bufs_sub ..⟩
/-- The last window of `main` (`main_part1`, statements 61 … 120) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2,
    HostLoop.enter 0,
    StableHlo.seq main_part1_ops3,
    StableHlo.seq main_part1_ops4,
    StableHlo.seq main_part1_ops5,
    StableHlo.seq main_part1_ops6,
    StableHlo.seq main_part1_ops7,
    StableHlo.seq main_part1_ops8 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part1_ops0,
    StableHlo.seq main_part1_ops1,
    StableHlo.seq main_part1_ops2,
    HostLoop.enter 0,
    StableHlo.seq main_part1_ops3,
    StableHlo.seq main_part1_ops4,
    StableHlo.seq main_part1_ops5,
    StableHlo.seq main_part1_ops6,
    StableHlo.seq main_part1_ops7,
    StableHlo.seq main_part1_ops8 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0, main_part1_ops0],
    .ops [main_part1_ops1],
    .ops [main_part1_ops2],
    .prog (HostLoop.enter 0),
    .ops [main_part1_ops3],
    .ops [main_part1_ops4],
    .ops [main_part1_ops5],
    .ops [main_part1_ops6],
    .ops [main_part1_ops7],
    .ops [main_part1_ops8] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part1_ops0,
    StableHlo.seq main_part1_ops1,
    StableHlo.seq main_part1_ops2,
    HostLoop.enter 0,
    StableHlo.seq main_part1_ops3,
    StableHlo.seq main_part1_ops4,
    StableHlo.seq main_part1_ops5,
    StableHlo.seq main_part1_ops6,
    StableHlo.seq main_part1_ops7,
    StableHlo.seq main_part1_ops8 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    HostLoop.enter 0,
    StableHlo.seq hostOps0_3,
    StableHlo.seq hostOps0_4,
    StableHlo.seq hostOps0_5,
    StableHlo.seq hostOps0_6,
    StableHlo.seq hostOps0_7,
    StableHlo.seq hostOps0_8 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    HostLoop.enter 0,
    StableHlo.seq hostOps0_3,
    StableHlo.seq hostOps0_4,
    StableHlo.seq hostOps0_5,
    StableHlo.seq hostOps0_6,
    StableHlo.seq hostOps0_7,
    StableHlo.seq hostOps0_8 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @argmax (main_while0b_call1), in order. -/
abbrev while0Ops0 : List (HloOp τ sig (Elt F)) :=
  [ StableHlo.TRef.nullary (.of main_while0b_call1_v0 : StableHlo.TRef sig ⟨S400000, .i32⟩) (iotaInDim S400000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v65_2 : StableHlo.TRef sig ⟨S400000, .f32⟩) (.of main_while0b_call1_v0 : StableHlo.TRef sig ⟨S400000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S400000_S_d0 h_S_ j).1),
    StableHlo.TRef.quaternary (.of main_v65_2 : StableHlo.TRef sig ⟨S400000, .f32⟩) (.of main_while0b_call1_v0 : StableHlo.TRef sig ⟨S400000, .i32⟩) (.of main_while0b_call1_cst : StableHlo.TRef sig ⟨S_, .f32⟩) (.of main_while0b_call1_c : StableHlo.TRef sig ⟨S_, .i32⟩) (.of main_while0b_v91 : StableHlo.TRef sig ⟨S_, .i32⟩) (fun x y u v j => (Host.argReduce reducer_argmax_f32_i32 x y u v reducesTo_S400000_S_d0 h_S_ j).2) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 36 host operations of host loop 0's body region, in order. -/
abbrev while0Ops0_1 : List (HloOp τ sig (Elt F)) :=
  ( StableHlo.nullary main_while0b_c_25 (constantI S_ 32 0#32)
  :: StableHlo.binary main_while0b_v91 main_while0b_c_25 main_while0b_v92 (cmpi .slt : (⟨S_, .i32⟩ : BufTy).Contents (Elt F) → (⟨S_, .i32⟩ : BufTy).Contents (Elt F) → (⟨S_, .i1⟩ : BufTy).Contents (Elt F))
  :: StableHlo.nullary main_while0b_c_26 (constantI S_ 32 400000#32)
  :: StableHlo.binary main_while0b_v91 main_while0b_c_26 main_while0b_v93 (addi : (⟨S_, .i32⟩ : BufTy).Contents (Elt F) → (⟨S_, .i32⟩ : BufTy).Contents (Elt F) → (⟨S_, .i32⟩ : BufTy).Contents (Elt F))
  :: StableHlo.ternary main_while0b_v92 main_while0b_v93 main_while0b_v91 main_while0b_v94 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v65_2 ![main_while0b_v94] ⟨S_, .i32⟩ main_while0b_v95 ((fun x i => Host.dynamicSlice S1 x (fun k => (i k (Shape.Idx.first h_S_)).toInt) sliceFits_S400000_S1) : (⟨S400000, .f32⟩ : BufTy).Contents (Elt F) → (Fin 1 → (⟨S_, .i32⟩ : BufTy).Contents (Elt F)) → (⟨S1, .f32⟩ : BufTy).Contents (Elt F))
  :: StableHlo.reshape main_while0b_v95 main_while0b_v96 (rfl : (.f32 : EltTy) = .f32) shapeCasts_S1_S_
  :: StableHlo.nullary main_while0b_cst_27 (constant S_ .f32 0xE0AD78EC#32)
  :: StableHlo.binary main_while0b_v96 main_while0b_cst_27 main_while0b_v97 (cmpf .ogt : (⟨S_, .f32⟩ : BufTy).Contents (Elt F) → (⟨S_, .f32⟩ : BufTy).Contents (Elt F) → (⟨S_, .i1⟩ : BufTy).Contents (Elt F))
  :: StableHlo.nullary main_while0b_c_28 (constantI S_ 32 0#32)
  :: StableHlo.binary main_while0b_v91 main_while0b_c_28 main_while0b_v98 (cmpi .slt : (⟨S_, .i32⟩ : BufTy).Contents (Elt F) → (⟨S_, .i32⟩ : BufTy).Contents (Elt F) → (⟨S_, .i1⟩ : BufTy).Contents (Elt F))
  :: StableHlo.nullary main_while0b_c_29 (constantI S_ 32 400000#32)
  :: StableHlo.binary main_while0b_v91 main_while0b_c_29 main_while0b_v99 (addi : (⟨S_, .i32⟩ : BufTy).Contents (Elt F) → (⟨S_, .i32⟩ : BufTy).Contents (Elt F) → (⟨S_, .i32⟩ : BufTy).Contents (Elt F))
  :: StableHlo.ternary main_while0b_v98 main_while0b_v99 main_while0b_v91 main_while0b_v100 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_30 (constantI S_ 32 0#32)
  :: StableHlo.nullary main_while0b_c_31 (constantI S_ 32 0#32)
  :: StableHlo.binary main_while0b_c_30 main_while0b_c_31 main_while0b_v101 (cmpi .slt : (⟨S_, .i32⟩ : BufTy).Contents (Elt F) → (⟨S_, .i32⟩ : BufTy).Contents (Elt F) → (⟨S_, .i1⟩ : BufTy).Contents (Elt F))
  :: StableHlo.nullary main_while0b_c_32 (constantI S_ 32 0#32)
  :: StableHlo.nullary main_while0b_c_33 (constantI S_ 32 4#32)
  :: StableHlo.binary main_while0b_c_32 main_while0b_c_33 main_while0b_v102 (addi : (⟨S_, .i32⟩ : BufTy).Contents (Elt F) → (⟨S_, .i32⟩ : BufTy).Contents (Elt F) → (⟨S_, .i32⟩ : BufTy).Contents (Elt F))
  :: StableHlo.nullary main_while0b_c_34 (constantI S_ 32 0#32)
  :: StableHlo.ternary main_while0b_v101 main_while0b_v102 main_while0b_c_34 main_while0b_v103 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v65_0 ![main_while0b_v100, main_while0b_v103] ⟨S_, .i32⟩ main_while0b_v104 ((fun x i => Host.dynamicSlice S1x4 x (fun k => (i k (Shape.Idx.first h_S_)).toInt) sliceFits_S400000x4_S1x4) : (⟨S400000x4, .f32⟩ : BufTy).Contents (Elt F) → (Fin 2 → (⟨S_, .i32⟩ : BufTy).Contents (Elt F)) → (⟨S1x4, .f32⟩ : BufTy).Contents (Elt F))
  :: StableHlo.reshape main_while0b_v104 main_while0b_v105 (rfl : (.f32 : EltTy) = .f32) shapeCasts_S1x4_S4
  :: StableHlo.unary main_while0b_v105 main_while0b_v106 ((extractStridedSlice S2 ![0] · slices_S4_S2_0) : (⟨S4, .f32⟩ : BufTy).Contents (Elt F) → (⟨S2, .f32⟩ : BufTy).Contents (Elt F))
  :: StableHlo.unary main_v65_0 main_while0b_v107 ((extractStridedSlice S400000x2 ![0, 0] · slices_S400000x4_S400000x2_0_0) : (⟨S400000x4, .f32⟩ : BufTy).Contents (Elt F) → (⟨S400000x2, .f32⟩ : BufTy).Contents (Elt F))
  :: StableHlo.unary main_while0b_v106 main_while0b_v108 (broadcastInDim S1x2 ![1] bcast_S2_S1x2_1 : (⟨S2, .f32⟩ : BufTy).Contents (Elt F) → (⟨S1x2, .f32⟩ : BufTy).Contents (Elt F))
  :: StableHlo.unary main_while0b_v108 main_while0b_v109 (broadcastInDim S400000x2 ![0, 1] bcast_S1x2_S400000x2_0_1 : (⟨S1x2, .f32⟩ : BufTy).Contents (Elt F) → (⟨S400000x2, .f32⟩ : BufTy).Contents (Elt F))
  :: StableHlo.binary main_while0b_v109 main_while0b_v107 main_while0b_v110 (maximumf : (⟨S400000x2, .f32⟩ : BufTy).Contents (Elt F) → (⟨S400000x2, .f32⟩ : BufTy).Contents (Elt F) → (⟨S400000x2, .f32⟩ : BufTy).Contents (Elt F))
  :: StableHlo.unary main_while0b_v105 main_while0b_v111 ((extractStridedSlice S2 ![2] · slices_S4_S2_2) : (⟨S4, .f32⟩ : BufTy).Contents (Elt F) → (⟨S2, .f32⟩ : BufTy).Contents (Elt F))
  :: StableHlo.unary main_v65_0 main_while0b_v112 ((extractStridedSlice S400000x2 ![0, 2] · slices_S400000x4_S400000x2_0_2) : (⟨S400000x4, .f32⟩ : BufTy).Contents (Elt F) → (⟨S400000x2, .f32⟩ : BufTy).Contents (Elt F))
  :: StableHlo.unary main_while0b_v111 main_while0b_v113 (broadcastInDim S1x2 ![1] bcast_S2_S1x2_1 : (⟨S2, .f32⟩ : BufTy).Contents (Elt F) → (⟨S1x2, .f32⟩ : BufTy).Contents (Elt F))
  :: StableHlo.unary main_while0b_v113 main_while0b_v114 (broadcastInDim S400000x2 ![0, 1] bcast_S1x2_S400000x2_0_1 : (⟨S1x2, .f32⟩ : BufTy).Contents (Elt F) → (⟨S400000x2, .f32⟩ : BufTy).Contents (Elt F))
  :: StableHlo.binary main_while0b_v114 main_while0b_v112 main_while0b_v115 (minimumf : (⟨S400000x2, .f32⟩ : BufTy).Contents (Elt F) → (⟨S400000x2, .f32⟩ : BufTy).Contents (Elt F) → (⟨S400000x2, .f32⟩ : BufTy).Contents (Elt F))
  :: StableHlo.binary main_while0b_v115 main_while0b_v110 main_while0b_v116 (subf : (⟨S400000x2, .f32⟩ : BufTy).Contents (Elt F) → (⟨S400000x2, .f32⟩ : BufTy).Contents (Elt F) → (⟨S400000x2, .f32⟩ : BufTy).Contents (Elt F))
  :: StableHlo.nullary main_while0b_cst_35 (constant S_ .f32 0x00000000#32)
  :: [] )
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩
/-- 3 host operations of @clip (main_while0b_call2), in order. -/
abbrev while0Ops0_2 : List (HloOp τ sig (Elt F)) :=
  [ StableHlo.TRef.unary (.of main_while0b_cst_35 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S400000x2, .f32⟩) (broadcastInDim S400000x2 ![] bcast_S_S400000x2),
    StableHlo.TRef.binary (.of main_while0b_call2_v1 : StableHlo.TRef sig ⟨S400000x2, .f32⟩) (.of main_while0b_v116 : StableHlo.TRef sig ⟨S400000x2, .f32⟩) (.of main_while0b_v117 : StableHlo.TRef sig ⟨S400000x2, .f32⟩) maximumf ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.unary_bufs_sub .., StableHlo.binary_bufs_sub ..⟩
/-- 38 host operations of host loop 0's body region, in order. -/
abbrev while0Ops0_3 : List (HloOp τ sig (Elt F)) :=
  ( StableHlo.unary main_while0b_v117 main_while0b_v118 ((extractStridedSlice S400000x1 ![0, 0] · slices_S400000x2_S400000x1_0_0) : (⟨S400000x2, .f32⟩ : BufTy).Contents (Elt F) → (⟨S400000x1, .f32⟩ : BufTy).Contents (Elt F))
  :: StableHlo.reshape main_while0b_v118 main_while0b_v119 (rfl : (.f32 : EltTy) = .f32) shapeCasts_S400000x1_S400000
  :: StableHlo.unary main_while0b_v117 main_while0b_v120 ((extractStridedSlice S400000x1 ![0, 1] · slices_S400000x2_S400000x1_0_1) : (⟨S400000x2, .f32⟩ : BufTy).Contents (Elt F) → (⟨S400000x1, .f32⟩ : BufTy).Contents (Elt F))
  :: StableHlo.reshape main_while0b_v120 main_while0b_v121 (rfl : (.f32 : EltTy) = .f32) shapeCasts_S400000x1_S400000
  :: StableHlo.binary main_while0b_v119 main_while0b_v121 main_while0b_v122 (mulf : (⟨S400000, .f32⟩ : BufTy).Contents (Elt F) → (⟨S400000, .f32⟩ : BufTy).Contents (Elt F) → (⟨S400000, .f32⟩ : BufTy).Contents (Elt F))
  :: StableHlo.unary main_while0b_v105 main_while0b_v123 ((extractStridedSlice S1 ![2] · slices_S4_S1_2) : (⟨S4, .f32⟩ : BufTy).Contents (Elt F) → (⟨S1, .f32⟩ : BufTy).Contents (Elt F))
  :: StableHlo.reshape main_while0b_v123 main_while0b_v124 (rfl : (.f32 : EltTy) = .f32) shapeCasts_S1_S_
  :: StableHlo.unary main_while0b_v105 main_while0b_v125 ((extractStridedSlice S1 ![0] · slices_S4_S1_0) : (⟨S4, .f32⟩ : BufTy).Contents (Elt F) → (⟨S1, .f32⟩ : BufTy).Contents (Elt F))
  :: StableHlo.reshape main_while0b_v125 main_while0b_v126 (rfl : (.f32 : EltTy) = .f32) shapeCasts_S1_S_
  :: StableHlo.binary main_while0b_v124 main_while0b_v126 main_while0b_v127 (subf : (⟨S_, .f32⟩ : BufTy).Contents (Elt F) → (⟨S_, .f32⟩ : BufTy).Contents (Elt F) → (⟨S_, .f32⟩ : BufTy).Contents (Elt F))
  :: StableHlo.unary main_while0b_v105 main_while0b_v128 ((extractStridedSlice S1 ![3] · slices_S4_S1_3) : (⟨S4, .f32⟩ : BufTy).Contents (Elt F) → (⟨S1, .f32⟩ : BufTy).Contents (Elt F))
  :: StableHlo.reshape main_while0b_v128 main_while0b_v129 (rfl : (.f32 : EltTy) = .f32) shapeCasts_S1_S_
  :: StableHlo.unary main_while0b_v105 main_while0b_v130 ((extractStridedSlice S1 ![1] · slices_S4_S1_1) : (⟨S4, .f32⟩ : BufTy).Contents (Elt F) → (⟨S1, .f32⟩ : BufTy).Contents (Elt F))
  :: StableHlo.reshape main_while0b_v130 main_while0b_v131 (rfl : (.f32 : EltTy) = .f32) shapeCasts_S1_S_
  :: StableHlo.binary main_while0b_v129 main_while0b_v131 main_while0b_v132 (subf : (⟨S_, .f32⟩ : BufTy).Contents (Elt F) → (⟨S_, .f32⟩ : BufTy).Contents (Elt F) → (⟨S_, .f32⟩ : BufTy).Contents (Elt F))
  :: StableHlo.binary main_while0b_v127 main_while0b_v132 main_while0b_v133 (mulf : (⟨S_, .f32⟩ : BufTy).Contents (Elt F) → (⟨S_, .f32⟩ : BufTy).Contents (Elt F) → (⟨S_, .f32⟩ : BufTy).Contents (Elt F))
  :: StableHlo.unary main_v65_0 main_while0b_v134 ((extractStridedSlice S400000x1 ![0, 2] · slices_S400000x4_S400000x1_0_2) : (⟨S400000x4, .f32⟩ : BufTy).Contents (Elt F) → (⟨S400000x1, .f32⟩ : BufTy).Contents (Elt F))
  :: StableHlo.reshape main_while0b_v134 main_while0b_v135 (rfl : (.f32 : EltTy) = .f32) shapeCasts_S400000x1_S400000
  :: StableHlo.unary main_v65_0 main_while0b_v136 ((extractStridedSlice S400000x1 ![0, 0] · slices_S400000x4_S400000x1_0_0) : (⟨S400000x4, .f32⟩ : BufTy).Contents (Elt F) → (⟨S400000x1, .f32⟩ : BufTy).Contents (Elt F))
  :: StableHlo.reshape main_while0b_v136 main_while0b_v137 (rfl : (.f32 : EltTy) = .f32) shapeCasts_S400000x1_S400000
  :: StableHlo.binary main_while0b_v135 main_while0b_v137 main_while0b_v138 (subf : (⟨S400000, .f32⟩ : BufTy).Contents (Elt F) → (⟨S400000, .f32⟩ : BufTy).Contents (Elt F) → (⟨S400000, .f32⟩ : BufTy).Contents (Elt F))
  :: StableHlo.unary main_v65_0 main_while0b_v139 ((extractStridedSlice S400000x1 ![0, 3] · slices_S400000x4_S400000x1_0_3) : (⟨S400000x4, .f32⟩ : BufTy).Contents (Elt F) → (⟨S400000x1, .f32⟩ : BufTy).Contents (Elt F))
  :: StableHlo.reshape main_while0b_v139 main_while0b_v140 (rfl : (.f32 : EltTy) = .f32) shapeCasts_S400000x1_S400000
  :: StableHlo.unary main_v65_0 main_while0b_v141 ((extractStridedSlice S400000x1 ![0, 1] · slices_S400000x4_S400000x1_0_1) : (⟨S400000x4, .f32⟩ : BufTy).Contents (Elt F) → (⟨S400000x1, .f32⟩ : BufTy).Contents (Elt F))
  :: StableHlo.reshape main_while0b_v141 main_while0b_v142 (rfl : (.f32 : EltTy) = .f32) shapeCasts_S400000x1_S400000
  :: StableHlo.binary main_while0b_v140 main_while0b_v142 main_while0b_v143 (subf : (⟨S400000, .f32⟩ : BufTy).Contents (Elt F) → (⟨S400000, .f32⟩ : BufTy).Contents (Elt F) → (⟨S400000, .f32⟩ : BufTy).Contents (Elt F))
  :: StableHlo.binary main_while0b_v138 main_while0b_v143 main_while0b_v144 (mulf : (⟨S400000, .f32⟩ : BufTy).Contents (Elt F) → (⟨S400000, .f32⟩ : BufTy).Contents (Elt F) → (⟨S400000, .f32⟩ : BufTy).Contents (Elt F))
  :: StableHlo.unary main_while0b_v133 main_while0b_v145 (broadcastInDim S400000 ![] bcast_S_S400000 : (⟨S_, .f32⟩ : BufTy).Contents (Elt F) → (⟨S400000, .f32⟩ : BufTy).Contents (Elt F))
  :: StableHlo.binary main_while0b_v145 main_while0b_v144 main_while0b_v146 (addf : (⟨S400000, .f32⟩ : BufTy).Contents (Elt F) → (⟨S400000, .f32⟩ : BufTy).Contents (Elt F) → (⟨S400000, .f32⟩ : BufTy).Contents (Elt F))
  :: StableHlo.binary main_while0b_v146 main_while0b_v122 main_while0b_v147 (subf : (⟨S400000, .f32⟩ : BufTy).Contents (Elt F) → (⟨S400000, .f32⟩ : BufTy).Contents (Elt F) → (⟨S400000, .f32⟩ : BufTy).Contents (Elt F))
  :: StableHlo.nullary main_while0b_cst_36 (constant S_ .f32 0x3089705F#32)
  :: StableHlo.unary main_while0b_cst_36 main_while0b_v148 (broadcastInDim S400000 ![] bcast_S_S400000 : (⟨S_, .f32⟩ : BufTy).Contents (Elt F) → (⟨S400000, .f32⟩ : BufTy).Contents (Elt F))
  :: StableHlo.binary main_while0b_v147 main_while0b_v148 main_while0b_v149 (addf : (⟨S400000, .f32⟩ : BufTy).Contents (Elt F) → (⟨S400000, .f32⟩ : BufTy).Contents (Elt F) → (⟨S400000, .f32⟩ : BufTy).Contents (Elt F))
  :: StableHlo.binary main_while0b_v122 main_while0b_v149 main_while0b_v150 (Host.divf : (⟨S400000, .f32⟩ : BufTy).Contents (Elt F) → (⟨S400000, .f32⟩ : BufTy).Contents (Elt F) → (⟨S400000, .f32⟩ : BufTy).Contents (Elt F))
  :: StableHlo.nullary main_while0b_cst_37 (constant S_ .f32 0x3EE66666#32)
  :: StableHlo.unary main_while0b_cst_37 main_while0b_v151 (broadcastInDim S400000 ![] bcast_S_S400000 : (⟨S_, .f32⟩ : BufTy).Contents (Elt F) → (⟨S400000, .f32⟩ : BufTy).Contents (Elt F))
  :: StableHlo.binary main_while0b_v150 main_while0b_v151 main_while0b_v152 (cmpf .ogt : (⟨S400000, .f32⟩ : BufTy).Contents (Elt F) → (⟨S400000, .f32⟩ : BufTy).Contents (Elt F) → (⟨S400000, .i1⟩ : BufTy).Contents (Elt F))
  :: StableHlo.nullary main_while0b_cst_38 (constant S_ .f32 0xF149F2CA#32)
  :: [] )
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
/-- 3 host operations of @_where_0 (main_while0b_call3), in order. -/
abbrev while0Ops0_4 : List (HloOp τ sig (Elt F)) :=
  [ StableHlo.TRef.unary (.of main_while0b_cst_38 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S400000, .f32⟩) (broadcastInDim S400000 ![] bcast_S_S400000),
    StableHlo.TRef.ternary (.of main_while0b_v152 : StableHlo.TRef sig ⟨S400000, .i1⟩) (.of main_while0b_call3_v1 : StableHlo.TRef sig ⟨S400000, .f32⟩) (.of main_v65_2 : StableHlo.TRef sig ⟨S400000, .f32⟩) (.of main_while0b_v153 : StableHlo.TRef sig ⟨S400000, .f32⟩) select ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.unary_bufs_sub .., StableHlo.ternary_bufs_sub ..⟩
/-- 8 host operations of host loop 0's body region, in order. -/
abbrev while0Ops0_5 : List (HloOp τ sig (Elt F)) :=
  [ StableHlo.nullary main_while0b_c_39 (constantI S_ 32 0#32),
    StableHlo.binary main_while0b_v91 main_while0b_c_39 main_while0b_v154 (cmpi .slt : (⟨S_, .i32⟩ : BufTy).Contents (Elt F) → (⟨S_, .i32⟩ : BufTy).Contents (Elt F) → (⟨S_, .i1⟩ : BufTy).Contents (Elt F)),
    StableHlo.nullary main_while0b_c_40 (constantI S_ 32 400000#32),
    StableHlo.binary main_while0b_v91 main_while0b_c_40 main_while0b_v155 (addi : (⟨S_, .i32⟩ : BufTy).Contents (Elt F) → (⟨S_, .i32⟩ : BufTy).Contents (Elt F) → (⟨S_, .i32⟩ : BufTy).Contents (Elt F)),
    StableHlo.ternary main_while0b_v154 main_while0b_v155 main_while0b_v91 main_while0b_v156 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v156 main_while0b_v157 (broadcastInDim S1 ![] bcast_S_S1 : (⟨S_, .i32⟩ : BufTy).Contents (Elt F) → (⟨S1, .i32⟩ : BufTy).Contents (Elt F)),
    StableHlo.nullary main_while0b_cst_41 (constant S_ .f32 0xF149F2CA#32),
    StableHlo.ternary main_while0b_v153 main_while0b_v157 main_while0b_cst_41 main_while0b_v158 ((fun x i u => Host.scatter scatter_S400000_S1_S__n_0_0_0 (fun _ b => b) x i u) : (⟨S400000, .f32⟩ : BufTy).Contents (Elt F) → (⟨S1, .i32⟩ : BufTy).Contents (Elt F) → (⟨S_, .f32⟩ : BufTy).Contents (Elt F) → (⟨S400000, .f32⟩ : BufTy).Contents (Elt F)) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub ..⟩
/-- 2 host operations of @dynamic_update_index_in_dim (main_while0b_call4), in order. -/
abbrev while0Ops0_6 : List (HloOp τ sig (Elt F)) :=
  [ StableHlo.TRef.unary (.of main_while0b_v91 : StableHlo.TRef sig ⟨S_, .i32⟩) (.of main_while0b_call4_v0 : StableHlo.TRef sig ⟨S1, .i32⟩) (broadcastInDim S1 ![] bcast_S_S1),
    StableHlo.TRef.binaryIndexed (.of main_v65_3 : StableHlo.TRef sig ⟨S100, .i32⟩) (.of main_while0b_call4_v0 : StableHlo.TRef sig ⟨S1, .i32⟩) ![(.of main_v65_1 : StableHlo.TRef sig ⟨S_, .i32⟩)] (.of main_while0b_v159 : StableHlo.TRef sig ⟨S100, .i32⟩) (fun x u i => Host.dynamicUpdateSlice x u (fun k => (i k (Shape.Idx.first h_S_)).toInt) updateFits_S100_S1) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.binaryIndexed_bufs_sub ..⟩
/-- 2 host operations of @dynamic_update_index_in_dim_1 (main_while0b_call5), in order. -/
abbrev while0Ops0_7 : List (HloOp τ sig (Elt F)) :=
  [ StableHlo.TRef.unary (.of main_while0b_v97 : StableHlo.TRef sig ⟨S_, .i1⟩) (.of main_while0b_call5_v0 : StableHlo.TRef sig ⟨S1, .i1⟩) (broadcastInDim S1 ![] bcast_S_S1),
    StableHlo.TRef.binaryIndexed (.of main_v65_4 : StableHlo.TRef sig ⟨S100, .i1⟩) (.of main_while0b_call5_v0 : StableHlo.TRef sig ⟨S1, .i1⟩) ![(.of main_v65_1 : StableHlo.TRef sig ⟨S_, .i32⟩)] (.of main_while0b_v160 : StableHlo.TRef sig ⟨S100, .i1⟩) (fun x u i => Host.dynamicUpdateSlice x u (fun k => (i k (Shape.Idx.first h_S_)).toInt) updateFits_S100_S1) ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.unary_bufs_sub .., StableHlo.binaryIndexed_bufs_sub ..⟩
/-- 6 host operations of host loop 0's body region, in order. -/
abbrev while0Ops0_8 : List (HloOp τ sig (Elt F)) :=
  [ StableHlo.nullary main_while0b_c_42 (constantI S_ 32 1#32),
    StableHlo.binary main_v65_1 main_while0b_c_42 main_while0b_v161 (addi : (⟨S_, .i32⟩ : BufTy).Contents (Elt F) → (⟨S_, .i32⟩ : BufTy).Contents (Elt F) → (⟨S_, .i32⟩ : BufTy).Contents (Elt F)),
    StableHlo.unary main_while0b_v161 main_v65_1 id,
    StableHlo.unary main_while0b_v158 main_v65_2 id,
    StableHlo.unary main_while0b_v159 main_v65_3 id,
    StableHlo.unary main_while0b_v160 main_v65_4 id ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons, Pipeline.chain_cons, Pipeline.chain_cons, StableHlo.chain_seq_cons]
  chain_rfl

end Cert.ReferenceIdeal.Ops

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_v0, main_cst_0, main_v1, main_v2, main_v3, main_v4, main_v5, main_v6, main_cst_1, main_v7, main_v8, main_v9, main_v10, main_v11, main_cst_2, main_v12, main_v13, main_v14, main_v15, main_v16, main_v17, main_v18, main_v19, main_v20, main_cst_3, main_v21, main_v22, main_v23, main_v24, main_v25, main_v26, main_v27, main_v28, main_v29, main_cst_4, main_v30, main_v31, main_v32, main_v33, main_v34, main_cst_5, main_v35, main_v36, main_v37, main_v38, main_v39, main_v40, main_v41, main_v42, main_v43, main_v44, main_v45, main_v46, main_v47, main_v48, main_v49, main_v50, main_v51, main_cst_6, main_v52, main_v53, main_cst_7, main_v54, main_v55, main_cst_8]
/-- The operations of `hostOps0` write no other reference. -/
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_v1, main_v56]
/-- The operations of `hostOps0_1` write no other reference. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v57, main_cst_9, main_v58, main_v59, main_v60, main_v61, main_v62, main_c, main_v63, main_c_10, main_v64, main_c_11, main_v65_0, main_v65_1, main_v65_2, main_v65_3, main_v65_4]
/-- The operations of `hostOps0_2` write no other reference. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call1_v0, main_while0b_call1_cst, main_while0b_call1_c, main_while0b_call1_v1_0, main_while0b_v91]
/-- The operations of `while0Ops0` write no other reference. -/
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_c_25, main_while0b_v92, main_while0b_c_26, main_while0b_v93, main_while0b_v94, main_while0b_v95, main_while0b_v96, main_while0b_cst_27, main_while0b_v97, main_while0b_c_28, main_while0b_v98, main_while0b_c_29, main_while0b_v99, main_while0b_v100, main_while0b_c_30, main_while0b_c_31, main_while0b_v101, main_while0b_c_32, main_while0b_c_33, main_while0b_v102, main_while0b_c_34, main_while0b_v103, main_while0b_v104, main_while0b_v105, main_while0b_v106, main_while0b_v107, main_while0b_v108, main_while0b_v109, main_while0b_v110, main_while0b_v111, main_while0b_v112, main_while0b_v113, main_while0b_v114, main_while0b_v115, main_while0b_v116, main_while0b_cst_35]
/-- The operations of `while0Ops0_1` write no other reference. -/
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call2_v0, main_while0b_call2_v1, main_while0b_v117]
/-- The operations of `while0Ops0_2` write no other reference. -/
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v118, main_while0b_v119, main_while0b_v120, main_while0b_v121, main_while0b_v122, main_while0b_v123, main_while0b_v124, main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143, main_while0b_v144, main_while0b_v145, main_while0b_v146, main_while0b_v147, main_while0b_cst_36, main_while0b_v148, main_while0b_v149, main_while0b_v150, main_while0b_cst_37, main_while0b_v151, main_while0b_v152, main_while0b_cst_38]
/-- The operations of `while0Ops0_3` write no other reference. -/
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call3_v0, main_while0b_call3_v1, main_while0b_v153]
/-- The operations of `while0Ops0_4` write no other reference. -/
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_c_39, main_while0b_v154, main_while0b_c_40, main_while0b_v155, main_while0b_v156, main_while0b_v157, main_while0b_cst_41, main_while0b_v158]
/-- The operations of `while0Ops0_5` write no other reference. -/
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call4_v0, main_while0b_v159]
/-- The operations of `while0Ops0_6` write no other reference. -/
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_call5_v0, main_while0b_v160]
/-- The operations of `while0Ops0_7` write no other reference. -/
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_c_42, main_while0b_v161, main_v65_1, main_v65_2, main_v65_3, main_v65_4]
/-- The operations of `while0Ops0_8` write no other reference. -/
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl
/-- No operation of `hostOps0_8` allocates a buffer. -/
theorem hostOps0_8_fresh : (hostOps0_8 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_25 (constantI S_ 32 100#32),
    StableHlo.binary main_v65_1 main_while0c_c_25 main_while0c_v91 (cmpi .slt) ]

/-- @main's stretches before the loop, the loop body's, and @main's after the loop. -/
abbrev preI : List (List (HloOp τ sig (Elt F))) := [hostOps0, hostOps0_1, hostOps0_2]
/-- The stretches of the loop's body, in order. -/
abbrev bodyI : List (List (HloOp τ sig (Elt F))) := [while0Ops0, while0Ops0_1, while0Ops0_2, while0Ops0_3, while0Ops0_4, while0Ops0_5, while0Ops0_6, while0Ops0_7, while0Ops0_8]
/-- The stretches after the loop, in order. -/
abbrev postI : List (List (HloOp τ sig (Elt F))) := [hostOps0_3, hostOps0_4, hostOps0_5, hostOps0_6, hostOps0_7, hostOps0_8]

/-- The operations before the loop are plain host operations. -/
theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.nil)))
/-- The operations of the loop's body are plain host operations. -/
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.nil)))))))))
/-- The operations after the loop are plain host operations. -/
theorem hpost : Plain (postI (F := F)) := .cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.nil))))))

/-- The reference each operation of `condOps` writes, in order. -/
abbrev condOps_W : List (Ref sig .tc) := [main_while0c_c_25, main_while0c_v91]
/-- The loop's condition writes no other reference. -/
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v65_1`) is written by one stretch of the body, `while0Ops0_8`: not by the condition, nor by the
    body's other stretches. -/
theorem ctr_cond (V : Valuation τ sig (Elt F)) : after condOps V (Proc.devRef .tc main_v65_1) = V (Proc.devRef .tc main_v65_1) :=
  after_of_writes_sub condOps V condOps_writes (by decide +kernel)
/-- `while0Ops0` leaves the loop's counter, or moves it, as stated. -/
theorem ctr_while0Ops0 (V : Valuation τ sig (Elt F)) : after while0Ops0 V (Proc.devRef .tc main_v65_1) = V (Proc.devRef .tc main_v65_1) :=
  after_of_writes_sub while0Ops0 V while0Ops0_writes (by decide +kernel)
/-- `while0Ops0_1` leaves the loop's counter, or moves it, as stated. -/
theorem ctr_while0Ops0_1 (V : Valuation τ sig (Elt F)) : after while0Ops0_1 V (Proc.devRef .tc main_v65_1) = V (Proc.devRef .tc main_v65_1) :=
  after_of_writes_sub while0Ops0_1 V while0Ops0_1_writes (by decide +kernel)
/-- `while0Ops0_2` leaves the loop's counter, or moves it, as stated. -/
theorem ctr_while0Ops0_2 (V : Valuation τ sig (Elt F)) : after while0Ops0_2 V (Proc.devRef .tc main_v65_1) = V (Proc.devRef .tc main_v65_1) :=
  after_of_writes_sub while0Ops0_2 V while0Ops0_2_writes (by decide +kernel)
/-- `while0Ops0_3` leaves the loop's counter, or moves it, as stated. -/
theorem ctr_while0Ops0_3 (V : Valuation τ sig (Elt F)) : after while0Ops0_3 V (Proc.devRef .tc main_v65_1) = V (Proc.devRef .tc main_v65_1) :=
  after_of_writes_sub while0Ops0_3 V while0Ops0_3_writes (by decide +kernel)
/-- `while0Ops0_4` leaves the loop's counter, or moves it, as stated. -/
theorem ctr_while0Ops0_4 (V : Valuation τ sig (Elt F)) : after while0Ops0_4 V (Proc.devRef .tc main_v65_1) = V (Proc.devRef .tc main_v65_1) :=
  after_of_writes_sub while0Ops0_4 V while0Ops0_4_writes (by decide +kernel)
/-- `while0Ops0_5` leaves the loop's counter, or moves it, as stated. -/
theorem ctr_while0Ops0_5 (V : Valuation τ sig (Elt F)) : after while0Ops0_5 V (Proc.devRef .tc main_v65_1) = V (Proc.devRef .tc main_v65_1) :=
  after_of_writes_sub while0Ops0_5 V while0Ops0_5_writes (by decide +kernel)
/-- `while0Ops0_6` leaves the loop's counter, or moves it, as stated. -/
theorem ctr_while0Ops0_6 (V : Valuation τ sig (Elt F)) : after while0Ops0_6 V (Proc.devRef .tc main_v65_1) = V (Proc.devRef .tc main_v65_1) :=
  after_of_writes_sub while0Ops0_6 V while0Ops0_6_writes (by decide +kernel)
/-- `while0Ops0_7` leaves the loop's counter, or moves it, as stated. -/
theorem ctr_while0Ops0_7 (V : Valuation τ sig (Elt F)) : after while0Ops0_7 V (Proc.devRef .tc main_v65_1) = V (Proc.devRef .tc main_v65_1) :=
  after_of_writes_sub while0Ops0_7 V while0Ops0_7_writes (by decide +kernel)

set_option maxRecDepth 100000 in
/-- `while0Ops0_8` leaves the counter one step on. -/
theorem ctr_step (X : Valuation τ sig (Elt F)) :
    after while0Ops0_8 X (Proc.devRef .tc main_v65_1) = addi (X (Proc.devRef .tc main_v65_1)) (constantI S_ 32 1#32) := by
  after_results
  rfl

/-- The counter is the loop's lower bound at the loop's entry: its last writer before the loop read back. -/
theorem ctr_entry (c : Dev nD) : entryContents preI m c (Proc.devRef .tc main_v65_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v65_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v65_1 HostLoop.idx0)
        (HloOp.result _ (atK m k c) main_while0c_c_25 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 100 m ρ (cond_spec m)

end Cert.ReferenceIdeal.Run

end
-- ==== Proof.RefTrip.lean ====
/- One trip of the reference's loop, from any contents of the buffers it carries: `STEP` states the trip's result as a
   term over the carried buffers, and `atK_agree` iterates it from the loop's entry. -/
module

public import proofs.«01_k».proof.Proof.RefOps

@[expose] public section

-- a long stretch's `::` list and the decided enumerations over the program's references recurse past the default depth
set_option maxRecDepth 1964

noncomputable section

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

/-- The body's operations 1 … 5 of 103. -/
abbrev trip_w0 : List (HloOp τ sig (Elt F)) :=
  [ StableHlo.TRef.nullary (.of main_while0b_call1_v0 : StableHlo.TRef sig ⟨S400000, .i32⟩) (iotaInDim S400000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v65_2 : StableHlo.TRef sig ⟨S400000, .f32⟩) (.of main_while0b_call1_v0 : StableHlo.TRef sig ⟨S400000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S400000_S_d0 h_S_ j).1),
    StableHlo.TRef.quaternary (.of main_v65_2 : StableHlo.TRef sig ⟨S400000, .f32⟩) (.of main_while0b_call1_v0 : StableHlo.TRef sig ⟨S400000, .i32⟩) (.of main_while0b_call1_cst : StableHlo.TRef sig ⟨S_, .f32⟩) (.of main_while0b_call1_c : StableHlo.TRef sig ⟨S_, .i32⟩) (.of main_while0b_v91 : StableHlo.TRef sig ⟨S_, .i32⟩) (fun x y u v j => (Host.argReduce reducer_argmax_f32_i32 x y u v reducesTo_S400000_S_d0 h_S_ j).2) ]

/-- The body's operations 6 … 11 of 103. -/
abbrev trip_w1 : List (HloOp τ sig (Elt F)) :=
  [ StableHlo.nullary main_while0b_c_25 (constantI S_ 32 0#32),
    StableHlo.binary main_while0b_v91 main_while0b_c_25 main_while0b_v92 (cmpi .slt : (⟨S_, .i32⟩ : BufTy).Contents (Elt F) → (⟨S_, .i32⟩ : BufTy).Contents (Elt F) → (⟨S_, .i1⟩ : BufTy).Contents (Elt F)),
    StableHlo.nullary main_while0b_c_26 (constantI S_ 32 400000#32),
    StableHlo.binary main_while0b_v91 main_while0b_c_26 main_while0b_v93 (addi : (⟨S_, .i32⟩ : BufTy).Contents (Elt F) → (⟨S_, .i32⟩ : BufTy).Contents (Elt F) → (⟨S_, .i32⟩ : BufTy).Contents (Elt F)),
    StableHlo.ternary main_while0b_v92 main_while0b_v93 main_while0b_v91 main_while0b_v94 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v65_2 ![main_while0b_v94] ⟨S_, .i32⟩ main_while0b_v95 ((fun x i => Host.dynamicSlice S1 x (fun k => (i k (Shape.Idx.first h_S_)).toInt) sliceFits_S400000_S1) : (⟨S400000, .f32⟩ : BufTy).Contents (Elt F) → (Fin 1 → (⟨S_, .i32⟩ : BufTy).Contents (Elt F)) → (⟨S1, .f32⟩ : BufTy).Contents (Elt F)) ]

/-- The body's operations 12 … 28 of 103. -/
abbrev trip_w2 : List (HloOp τ sig (Elt F)) :=
  [ StableHlo.reshape main_while0b_v95 main_while0b_v96 (rfl : (.f32 : EltTy) = .f32) shapeCasts_S1_S_,
    StableHlo.nullary main_while0b_cst_27 (constant S_ .f32 0xE0AD78EC#32),
    StableHlo.binary main_while0b_v96 main_while0b_cst_27 main_while0b_v97 (cmpf .ogt : (⟨S_, .f32⟩ : BufTy).Contents (Elt F) → (⟨S_, .f32⟩ : BufTy).Contents (Elt F) → (⟨S_, .i1⟩ : BufTy).Contents (Elt F)),
    StableHlo.nullary main_while0b_c_28 (constantI S_ 32 0#32),
    StableHlo.binary main_while0b_v91 main_while0b_c_28 main_while0b_v98 (cmpi .slt : (⟨S_, .i32⟩ : BufTy).Contents (Elt F) → (⟨S_, .i32⟩ : BufTy).Contents (Elt F) → (⟨S_, .i1⟩ : BufTy).Contents (Elt F)),
    StableHlo.nullary main_while0b_c_29 (constantI S_ 32 400000#32),
    StableHlo.binary main_while0b_v91 main_while0b_c_29 main_while0b_v99 (addi : (⟨S_, .i32⟩ : BufTy).Contents (Elt F) → (⟨S_, .i32⟩ : BufTy).Contents (Elt F) → (⟨S_, .i32⟩ : BufTy).Contents (Elt F)),
    StableHlo.ternary main_while0b_v98 main_while0b_v99 main_while0b_v91 main_while0b_v100 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_30 (constantI S_ 32 0#32),
    StableHlo.nullary main_while0b_c_31 (constantI S_ 32 0#32),
    StableHlo.binary main_while0b_c_30 main_while0b_c_31 main_while0b_v101 (cmpi .slt : (⟨S_, .i32⟩ : BufTy).Contents (Elt F) → (⟨S_, .i32⟩ : BufTy).Contents (Elt F) → (⟨S_, .i1⟩ : BufTy).Contents (Elt F)),
    StableHlo.nullary main_while0b_c_32 (constantI S_ 32 0#32),
    StableHlo.nullary main_while0b_c_33 (constantI S_ 32 4#32),
    StableHlo.binary main_while0b_c_32 main_while0b_c_33 main_while0b_v102 (addi : (⟨S_, .i32⟩ : BufTy).Contents (Elt F) → (⟨S_, .i32⟩ : BufTy).Contents (Elt F) → (⟨S_, .i32⟩ : BufTy).Contents (Elt F)),
    StableHlo.nullary main_while0b_c_34 (constantI S_ 32 0#32),
    StableHlo.ternary main_while0b_v101 main_while0b_v102 main_while0b_c_34 main_while0b_v103 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v65_0 ![main_while0b_v100, main_while0b_v103] ⟨S_, .i32⟩ main_while0b_v104 ((fun x i => Host.dynamicSlice S1x4 x (fun k => (i k (Shape.Idx.first h_S_)).toInt) sliceFits_S400000x4_S1x4) : (⟨S400000x4, .f32⟩ : BufTy).Contents (Elt F) → (Fin 2 → (⟨S_, .i32⟩ : BufTy).Contents (Elt F)) → (⟨S1x4, .f32⟩ : BufTy).Contents (Elt F)) ]

/-- The body's operations 29 … 41 of 103. -/
abbrev trip_w3 : List (HloOp τ sig (Elt F)) :=
  [ StableHlo.reshape main_while0b_v104 main_while0b_v105 (rfl : (.f32 : EltTy) = .f32) shapeCasts_S1x4_S4,
    StableHlo.unary main_while0b_v105 main_while0b_v106 ((extractStridedSlice S2 ![0] · slices_S4_S2_0) : (⟨S4, .f32⟩ : BufTy).Contents (Elt F) → (⟨S2, .f32⟩ : BufTy).Contents (Elt F)),
    StableHlo.unary main_v65_0 main_while0b_v107 ((extractStridedSlice S400000x2 ![0, 0] · slices_S400000x4_S400000x2_0_0) : (⟨S400000x4, .f32⟩ : BufTy).Contents (Elt F) → (⟨S400000x2, .f32⟩ : BufTy).Contents (Elt F)),
    StableHlo.unary main_while0b_v106 main_while0b_v108 (broadcastInDim S1x2 ![1] bcast_S2_S1x2_1 : (⟨S2, .f32⟩ : BufTy).Contents (Elt F) → (⟨S1x2, .f32⟩ : BufTy).Contents (Elt F)),
    StableHlo.unary main_while0b_v108 main_while0b_v109 (broadcastInDim S400000x2 ![0, 1] bcast_S1x2_S400000x2_0_1 : (⟨S1x2, .f32⟩ : BufTy).Contents (Elt F) → (⟨S400000x2, .f32⟩ : BufTy).Contents (Elt F)),
    StableHlo.binary main_while0b_v109 main_while0b_v107 main_while0b_v110 (maximumf : (⟨S400000x2, .f32⟩ : BufTy).Contents (Elt F) → (⟨S400000x2, .f32⟩ : BufTy).Contents (Elt F) → (⟨S400000x2, .f32⟩ : BufTy).Contents (Elt F)),
    StableHlo.unary main_while0b_v105 main_while0b_v111 ((extractStridedSlice S2 ![2] · slices_S4_S2_2) : (⟨S4, .f32⟩ : BufTy).Contents (Elt F) → (⟨S2, .f32⟩ : BufTy).Contents (Elt F)),
    StableHlo.unary main_v65_0 main_while0b_v112 ((extractStridedSlice S400000x2 ![0, 2] · slices_S400000x4_S400000x2_0_2) : (⟨S400000x4, .f32⟩ : BufTy).Contents (Elt F) → (⟨S400000x2, .f32⟩ : BufTy).Contents (Elt F)),
    StableHlo.unary main_while0b_v111 main_while0b_v113 (broadcastInDim S1x2 ![1] bcast_S2_S1x2_1 : (⟨S2, .f32⟩ : BufTy).Contents (Elt F) → (⟨S1x2, .f32⟩ : BufTy).Contents (Elt F)),
    StableHlo.unary main_while0b_v113 main_while0b_v114 (broadcastInDim S400000x2 ![0, 1] bcast_S1x2_S400000x2_0_1 : (⟨S1x2, .f32⟩ : BufTy).Contents (Elt F) → (⟨S400000x2, .f32⟩ : BufTy).Contents (Elt F)),
    StableHlo.binary main_while0b_v114 main_while0b_v112 main_while0b_v115 (minimumf : (⟨S400000x2, .f32⟩ : BufTy).Contents (Elt F) → (⟨S400000x2, .f32⟩ : BufTy).Contents (Elt F) → (⟨S400000x2, .f32⟩ : BufTy).Contents (Elt F)),
    StableHlo.binary main_while0b_v115 main_while0b_v110 main_while0b_v116 (subf : (⟨S400000x2, .f32⟩ : BufTy).Contents (Elt F) → (⟨S400000x2, .f32⟩ : BufTy).Contents (Elt F) → (⟨S400000x2, .f32⟩ : BufTy).Contents (Elt F)),
    StableHlo.nullary main_while0b_cst_35 (constant S_ .f32 0x00000000#32) ]

/-- The body's operations 42 … 44 of 103. -/
abbrev trip_w4 : List (HloOp τ sig (Elt F)) :=
  [ StableHlo.TRef.unary (.of main_while0b_cst_35 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S400000x2, .f32⟩) (broadcastInDim S400000x2 ![] bcast_S_S400000x2),
    StableHlo.TRef.binary (.of main_while0b_call2_v1 : StableHlo.TRef sig ⟨S400000x2, .f32⟩) (.of main_while0b_v116 : StableHlo.TRef sig ⟨S400000x2, .f32⟩) (.of main_while0b_v117 : StableHlo.TRef sig ⟨S400000x2, .f32⟩) maximumf ]

/-- The body's operations 45 … 68 of 103. -/
abbrev trip_w5 : List (HloOp τ sig (Elt F)) :=
  [ StableHlo.unary main_while0b_v117 main_while0b_v118 ((extractStridedSlice S400000x1 ![0, 0] · slices_S400000x2_S400000x1_0_0) : (⟨S400000x2, .f32⟩ : BufTy).Contents (Elt F) → (⟨S400000x1, .f32⟩ : BufTy).Contents (Elt F)),
    StableHlo.reshape main_while0b_v118 main_while0b_v119 (rfl : (.f32 : EltTy) = .f32) shapeCasts_S400000x1_S400000,
    StableHlo.unary main_while0b_v117 main_while0b_v120 ((extractStridedSlice S400000x1 ![0, 1] · slices_S400000x2_S400000x1_0_1) : (⟨S400000x2, .f32⟩ : BufTy).Contents (Elt F) → (⟨S400000x1, .f32⟩ : BufTy).Contents (Elt F)),
    StableHlo.reshape main_while0b_v120 main_while0b_v121 (rfl : (.f32 : EltTy) = .f32) shapeCasts_S400000x1_S400000,
    StableHlo.binary main_while0b_v119 main_while0b_v121 main_while0b_v122 (mulf : (⟨S400000, .f32⟩ : BufTy).Contents (Elt F) → (⟨S400000, .f32⟩ : BufTy).Contents (Elt F) → (⟨S400000, .f32⟩ : BufTy).Contents (Elt F)),
    StableHlo.unary main_while0b_v105 main_while0b_v123 ((extractStridedSlice S1 ![2] · slices_S4_S1_2) : (⟨S4, .f32⟩ : BufTy).Contents (Elt F) → (⟨S1, .f32⟩ : BufTy).Contents (Elt F)),
    StableHlo.reshape main_while0b_v123 main_while0b_v124 (rfl : (.f32 : EltTy) = .f32) shapeCasts_S1_S_,
    StableHlo.unary main_while0b_v105 main_while0b_v125 ((extractStridedSlice S1 ![0] · slices_S4_S1_0) : (⟨S4, .f32⟩ : BufTy).Contents (Elt F) → (⟨S1, .f32⟩ : BufTy).Contents (Elt F)),
    StableHlo.reshape main_while0b_v125 main_while0b_v126 (rfl : (.f32 : EltTy) = .f32) shapeCasts_S1_S_,
    StableHlo.binary main_while0b_v124 main_while0b_v126 main_while0b_v127 (subf : (⟨S_, .f32⟩ : BufTy).Contents (Elt F) → (⟨S_, .f32⟩ : BufTy).Contents (Elt F) → (⟨S_, .f32⟩ : BufTy).Contents (Elt F)),
    StableHlo.unary main_while0b_v105 main_while0b_v128 ((extractStridedSlice S1 ![3] · slices_S4_S1_3) : (⟨S4, .f32⟩ : BufTy).Contents (Elt F) → (⟨S1, .f32⟩ : BufTy).Contents (Elt F)),
    StableHlo.reshape main_while0b_v128 main_while0b_v129 (rfl : (.f32 : EltTy) = .f32) shapeCasts_S1_S_,
    StableHlo.unary main_while0b_v105 main_while0b_v130 ((extractStridedSlice S1 ![1] · slices_S4_S1_1) : (⟨S4, .f32⟩ : BufTy).Contents (Elt F) → (⟨S1, .f32⟩ : BufTy).Contents (Elt F)),
    StableHlo.reshape main_while0b_v130 main_while0b_v131 (rfl : (.f32 : EltTy) = .f32) shapeCasts_S1_S_,
    StableHlo.binary main_while0b_v129 main_while0b_v131 main_while0b_v132 (subf : (⟨S_, .f32⟩ : BufTy).Contents (Elt F) → (⟨S_, .f32⟩ : BufTy).Contents (Elt F) → (⟨S_, .f32⟩ : BufTy).Contents (Elt F)),
    StableHlo.binary main_while0b_v127 main_while0b_v132 main_while0b_v133 (mulf : (⟨S_, .f32⟩ : BufTy).Contents (Elt F) → (⟨S_, .f32⟩ : BufTy).Contents (Elt F) → (⟨S_, .f32⟩ : BufTy).Contents (Elt F)),
    StableHlo.unary main_v65_0 main_while0b_v134 ((extractStridedSlice S400000x1 ![0, 2] · slices_S400000x4_S400000x1_0_2) : (⟨S400000x4, .f32⟩ : BufTy).Contents (Elt F) → (⟨S400000x1, .f32⟩ : BufTy).Contents (Elt F)),
    StableHlo.reshape main_while0b_v134 main_while0b_v135 (rfl : (.f32 : EltTy) = .f32) shapeCasts_S400000x1_S400000,
    StableHlo.unary main_v65_0 main_while0b_v136 ((extractStridedSlice S400000x1 ![0, 0] · slices_S400000x4_S400000x1_0_0) : (⟨S400000x4, .f32⟩ : BufTy).Contents (Elt F) → (⟨S400000x1, .f32⟩ : BufTy).Contents (Elt F)),
    StableHlo.reshape main_while0b_v136 main_while0b_v137 (rfl : (.f32 : EltTy) = .f32) shapeCasts_S400000x1_S400000,
    StableHlo.binary main_while0b_v135 main_while0b_v137 main_while0b_v138 (subf : (⟨S400000, .f32⟩ : BufTy).Contents (Elt F) → (⟨S400000, .f32⟩ : BufTy).Contents (Elt F) → (⟨S400000, .f32⟩ : BufTy).Contents (Elt F)),
    StableHlo.unary main_v65_0 main_while0b_v139 ((extractStridedSlice S400000x1 ![0, 3] · slices_S400000x4_S400000x1_0_3) : (⟨S400000x4, .f32⟩ : BufTy).Contents (Elt F) → (⟨S400000x1, .f32⟩ : BufTy).Contents (Elt F)),
    StableHlo.reshape main_while0b_v139 main_while0b_v140 (rfl : (.f32 : EltTy) = .f32) shapeCasts_S400000x1_S400000,
    StableHlo.unary main_v65_0 main_while0b_v141 ((extractStridedSlice S400000x1 ![0, 1] · slices_S400000x4_S400000x1_0_1) : (⟨S400000x4, .f32⟩ : BufTy).Contents (Elt F) → (⟨S400000x1, .f32⟩ : BufTy).Contents (Elt F)) ]

/-- The body's operations 69 … 82 of 103. -/
abbrev trip_w6 : List (HloOp τ sig (Elt F)) :=
  [ StableHlo.reshape main_while0b_v141 main_while0b_v142 (rfl : (.f32 : EltTy) = .f32) shapeCasts_S400000x1_S400000,
    StableHlo.binary main_while0b_v140 main_while0b_v142 main_while0b_v143 (subf : (⟨S400000, .f32⟩ : BufTy).Contents (Elt F) → (⟨S400000, .f32⟩ : BufTy).Contents (Elt F) → (⟨S400000, .f32⟩ : BufTy).Contents (Elt F)),
    StableHlo.binary main_while0b_v138 main_while0b_v143 main_while0b_v144 (mulf : (⟨S400000, .f32⟩ : BufTy).Contents (Elt F) → (⟨S400000, .f32⟩ : BufTy).Contents (Elt F) → (⟨S400000, .f32⟩ : BufTy).Contents (Elt F)),
    StableHlo.unary main_while0b_v133 main_while0b_v145 (broadcastInDim S400000 ![] bcast_S_S400000 : (⟨S_, .f32⟩ : BufTy).Contents (Elt F) → (⟨S400000, .f32⟩ : BufTy).Contents (Elt F)),
    StableHlo.binary main_while0b_v145 main_while0b_v144 main_while0b_v146 (addf : (⟨S400000, .f32⟩ : BufTy).Contents (Elt F) → (⟨S400000, .f32⟩ : BufTy).Contents (Elt F) → (⟨S400000, .f32⟩ : BufTy).Contents (Elt F)),
    StableHlo.binary main_while0b_v146 main_while0b_v122 main_while0b_v147 (subf : (⟨S400000, .f32⟩ : BufTy).Contents (Elt F) → (⟨S400000, .f32⟩ : BufTy).Contents (Elt F) → (⟨S400000, .f32⟩ : BufTy).Contents (Elt F)),
    StableHlo.nullary main_while0b_cst_36 (constant S_ .f32 0x3089705F#32),
    StableHlo.unary main_while0b_cst_36 main_while0b_v148 (broadcastInDim S400000 ![] bcast_S_S400000 : (⟨S_, .f32⟩ : BufTy).Contents (Elt F) → (⟨S400000, .f32⟩ : BufTy).Contents (Elt F)),
    StableHlo.binary main_while0b_v147 main_while0b_v148 main_while0b_v149 (addf : (⟨S400000, .f32⟩ : BufTy).Contents (Elt F) → (⟨S400000, .f32⟩ : BufTy).Contents (Elt F) → (⟨S400000, .f32⟩ : BufTy).Contents (Elt F)),
    StableHlo.binary main_while0b_v122 main_while0b_v149 main_while0b_v150 (Host.divf : (⟨S400000, .f32⟩ : BufTy).Contents (Elt F) → (⟨S400000, .f32⟩ : BufTy).Contents (Elt F) → (⟨S400000, .f32⟩ : BufTy).Contents (Elt F)),
    StableHlo.nullary main_while0b_cst_37 (constant S_ .f32 0x3EE66666#32),
    StableHlo.unary main_while0b_cst_37 main_while0b_v151 (broadcastInDim S400000 ![] bcast_S_S400000 : (⟨S_, .f32⟩ : BufTy).Contents (Elt F) → (⟨S400000, .f32⟩ : BufTy).Contents (Elt F)),
    StableHlo.binary main_while0b_v150 main_while0b_v151 main_while0b_v152 (cmpf .ogt : (⟨S400000, .f32⟩ : BufTy).Contents (Elt F) → (⟨S400000, .f32⟩ : BufTy).Contents (Elt F) → (⟨S400000, .i1⟩ : BufTy).Contents (Elt F)),
    StableHlo.nullary main_while0b_cst_38 (constant S_ .f32 0xF149F2CA#32) ]

/-- The body's operations 83 … 85 of 103. -/
abbrev trip_w7 : List (HloOp τ sig (Elt F)) :=
  [ StableHlo.TRef.unary (.of main_while0b_cst_38 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S400000, .f32⟩) (broadcastInDim S400000 ![] bcast_S_S400000),
    StableHlo.TRef.ternary (.of main_while0b_v152 : StableHlo.TRef sig ⟨S400000, .i1⟩) (.of main_while0b_call3_v1 : StableHlo.TRef sig ⟨S400000, .f32⟩) (.of main_v65_2 : StableHlo.TRef sig ⟨S400000, .f32⟩) (.of main_while0b_v153 : StableHlo.TRef sig ⟨S400000, .f32⟩) select ]

/-- The body's operations 86 … 93 of 103. -/
abbrev trip_w8 : List (HloOp τ sig (Elt F)) :=
  [ StableHlo.nullary main_while0b_c_39 (constantI S_ 32 0#32),
    StableHlo.binary main_while0b_v91 main_while0b_c_39 main_while0b_v154 (cmpi .slt : (⟨S_, .i32⟩ : BufTy).Contents (Elt F) → (⟨S_, .i32⟩ : BufTy).Contents (Elt F) → (⟨S_, .i1⟩ : BufTy).Contents (Elt F)),
    StableHlo.nullary main_while0b_c_40 (constantI S_ 32 400000#32),
    StableHlo.binary main_while0b_v91 main_while0b_c_40 main_while0b_v155 (addi : (⟨S_, .i32⟩ : BufTy).Contents (Elt F) → (⟨S_, .i32⟩ : BufTy).Contents (Elt F) → (⟨S_, .i32⟩ : BufTy).Contents (Elt F)),
    StableHlo.ternary main_while0b_v154 main_while0b_v155 main_while0b_v91 main_while0b_v156 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v156 main_while0b_v157 (broadcastInDim S1 ![] bcast_S_S1 : (⟨S_, .i32⟩ : BufTy).Contents (Elt F) → (⟨S1, .i32⟩ : BufTy).Contents (Elt F)),
    StableHlo.nullary main_while0b_cst_41 (constant S_ .f32 0xF149F2CA#32),
    StableHlo.ternary main_while0b_v153 main_while0b_v157 main_while0b_cst_41 main_while0b_v158 ((fun x i u => Host.scatter scatter_S400000_S1_S__n_0_0_0 (fun _ b => b) x i u) : (⟨S400000, .f32⟩ : BufTy).Contents (Elt F) → (⟨S1, .i32⟩ : BufTy).Contents (Elt F) → (⟨S_, .f32⟩ : BufTy).Contents (Elt F) → (⟨S400000, .f32⟩ : BufTy).Contents (Elt F)) ]

/-- The body's operations 94 … 95 of 103. -/
abbrev trip_w9 : List (HloOp τ sig (Elt F)) :=
  [ StableHlo.TRef.unary (.of main_while0b_v91 : StableHlo.TRef sig ⟨S_, .i32⟩) (.of main_while0b_call4_v0 : StableHlo.TRef sig ⟨S1, .i32⟩) (broadcastInDim S1 ![] bcast_S_S1),
    StableHlo.TRef.binaryIndexed (.of main_v65_3 : StableHlo.TRef sig ⟨S100, .i32⟩) (.of main_while0b_call4_v0 : StableHlo.TRef sig ⟨S1, .i32⟩) ![(.of main_v65_1 : StableHlo.TRef sig ⟨S_, .i32⟩)] (.of main_while0b_v159 : StableHlo.TRef sig ⟨S100, .i32⟩) (fun x u i => Host.dynamicUpdateSlice x u (fun k => (i k (Shape.Idx.first h_S_)).toInt) updateFits_S100_S1) ]

/-- The body's operations 96 … 97 of 103. -/
abbrev trip_w10 : List (HloOp τ sig (Elt F)) :=
  [ StableHlo.TRef.unary (.of main_while0b_v97 : StableHlo.TRef sig ⟨S_, .i1⟩) (.of main_while0b_call5_v0 : StableHlo.TRef sig ⟨S1, .i1⟩) (broadcastInDim S1 ![] bcast_S_S1),
    StableHlo.TRef.binaryIndexed (.of main_v65_4 : StableHlo.TRef sig ⟨S100, .i1⟩) (.of main_while0b_call5_v0 : StableHlo.TRef sig ⟨S1, .i1⟩) ![(.of main_v65_1 : StableHlo.TRef sig ⟨S_, .i32⟩)] (.of main_while0b_v160 : StableHlo.TRef sig ⟨S100, .i1⟩) (fun x u i => Host.dynamicUpdateSlice x u (fun k => (i k (Shape.Idx.first h_S_)).toInt) updateFits_S100_S1) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 ++ (trip_w2 ++ (trip_w3)) := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 ++ (trip_w6) := rfl
set_option maxRecDepth 5000 in
/-- `while0Ops0_4` is its windows in order. -/
theorem while0Ops0_4_cut : (while0Ops0_4 : List (HloOp τ sig (Elt F))) = trip_w7 := rfl
set_option maxRecDepth 5000 in
/-- `while0Ops0_5` is its windows in order. -/
theorem while0Ops0_5_cut : (while0Ops0_5 : List (HloOp τ sig (Elt F))) = trip_w8 := rfl
set_option maxRecDepth 5000 in
/-- `while0Ops0_6` is its windows in order. -/
theorem while0Ops0_6_cut : (while0Ops0_6 : List (HloOp τ sig (Elt F))) = trip_w9 := rfl
set_option maxRecDepth 5000 in
/-- `while0Ops0_7` is its windows in order. -/
theorem while0Ops0_7_cut : (while0Ops0_7 : List (HloOp τ sig (Elt F))) = trip_w10 := rfl

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S400000 32 0

set_option maxRecDepth 8192 in
/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

set_option maxRecDepth 8192 in
/-- `main_while0b_v91`'s composed term of the carried buffers (named: it is used 10 times). -/
def res_main_while0b_v91 (V0 : Valuation τ sig (Elt F)) : (Proc.devRef .tc main_while0b_v91 : DevRef τ sig).ty.Contents (Elt F) :=
  (fun j => (Host.argReduce reducer_argmax_f32_i32 (V0 (Proc.devRef .tc main_v65_2)) (res_main_while0b_call1_v0 V0) (res_main_while0b_call1_cst V0) (res_main_while0b_call1_c V0) reducesTo_S400000_S_d0 h_S_ j).2)

set_option maxRecDepth 8192 in
/-- `main_while0b_v105`'s composed term of the carried buffers (named: it is used 6 times). -/
def res_main_while0b_v105 (V0 : Valuation τ sig (Elt F)) : (Proc.devRef .tc main_while0b_v105 : DevRef τ sig).ty.Contents (Elt F) :=
  shapeCast S4 (Host.dynamicSlice S1x4 (V0 (Proc.devRef .tc main_v65_0)) (fun k => (((![select (cmpi .slt (res_main_while0b_v91 V0) (constantI S_ 32 0#32)) (addi (res_main_while0b_v91 V0) (constantI S_ 32 400000#32)) (res_main_while0b_v91 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S400000x4_S1x4) shapeCasts_S1x4_S4

set_option maxRecDepth 8192 in
/-- `main_while0b_v117`'s composed term of the carried buffers (named: it is used 2 times). -/
def res_main_while0b_v117 (V0 : Valuation τ sig (Elt F)) : (Proc.devRef .tc main_while0b_v117 : DevRef τ sig).ty.Contents (Elt F) :=
  maximumf (broadcastInDim S400000x2 ![] bcast_S_S400000x2 (id (constant S_ .f32 0x00000000#32))) (subf (minimumf (broadcastInDim S400000x2 ![0, 1] bcast_S1x2_S400000x2_0_1 (broadcastInDim S1x2 ![1] bcast_S2_S1x2_1 (extractStridedSlice S2 ![2] (res_main_while0b_v105 V0) slices_S4_S2_2))) (extractStridedSlice S400000x2 ![0, 2] (V0 (Proc.devRef .tc main_v65_0)) slices_S400000x4_S400000x2_0_2)) (maximumf (broadcastInDim S400000x2 ![0, 1] bcast_S1x2_S400000x2_0_1 (broadcastInDim S1x2 ![1] bcast_S2_S1x2_1 (extractStridedSlice S2 ![0] (res_main_while0b_v105 V0) slices_S4_S2_0))) (extractStridedSlice S400000x2 ![0, 0] (V0 (Proc.devRef .tc main_v65_0)) slices_S400000x4_S400000x2_0_0)))

set_option maxRecDepth 8192 in
/-- `main_while0b_v122`'s composed term of the carried buffers (named: it is used 2 times). -/
def res_main_while0b_v122 (V0 : Valuation τ sig (Elt F)) : (Proc.devRef .tc main_while0b_v122 : DevRef τ sig).ty.Contents (Elt F) :=
  mulf (shapeCast S400000 (extractStridedSlice S400000x1 ![0, 0] (res_main_while0b_v117 V0) slices_S400000x2_S400000x1_0_0) shapeCasts_S400000x1_S400000) (shapeCast S400000 (extractStridedSlice S400000x1 ![0, 1] (res_main_while0b_v117 V0) slices_S400000x2_S400000x1_0_1) shapeCasts_S400000x1_S400000)

/-- The device's buffer contents before the body's first window. -/
def val0 (V0 : Valuation τ sig (Elt F)) : Valuation τ sig (Elt F) := V0
/-- `main_v65_2` as the body's window 0 finds or leaves it. -/
theorem val0_main_v65_2 (V0 : Valuation τ sig (Elt F)) : val0 V0 (no_index (Proc.devRef .tc main_v65_2)) = V0 (Proc.devRef .tc main_v65_2) := rfl
/-- `main_v65_0` as the body's window 0 finds or leaves it. -/
theorem val0_main_v65_0 (V0 : Valuation τ sig (Elt F)) : val0 V0 (no_index (Proc.devRef .tc main_v65_0)) = V0 (Proc.devRef .tc main_v65_0) := rfl
/-- `main_v65_3` as the body's window 0 finds or leaves it. -/
theorem val0_main_v65_3 (V0 : Valuation τ sig (Elt F)) : val0 V0 (no_index (Proc.devRef .tc main_v65_3)) = V0 (Proc.devRef .tc main_v65_3) := rfl
/-- `main_v65_1` as the body's window 0 finds or leaves it. -/
theorem val0_main_v65_1 (V0 : Valuation τ sig (Elt F)) : val0 V0 (no_index (Proc.devRef .tc main_v65_1)) = V0 (Proc.devRef .tc main_v65_1) := rfl
/-- `main_v65_4` as the body's window 0 finds or leaves it. -/
theorem val0_main_v65_4 (V0 : Valuation τ sig (Elt F)) : val0 V0 (no_index (Proc.devRef .tc main_v65_4)) = V0 (Proc.devRef .tc main_v65_4) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call1_v0, main_while0b_call1_cst, main_while0b_call1_c, main_while0b_call1_v1_0, main_while0b_v91]
set_option maxRecDepth 8192 in
/-- The operations of the body's window 0 write no other reference. -/
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
/-- `main_v65_2` as the body's window 1 finds or leaves it. -/
theorem val1_main_v65_2 (V0 : Valuation τ sig (Elt F)) : val1 V0 (no_index (Proc.devRef .tc main_v65_2)) = V0 (Proc.devRef .tc main_v65_2) :=
  (val1_keep V0 main_v65_2 (by decide)).trans (val0_main_v65_2 V0)
/-- `main_v65_0` as the body's window 1 finds or leaves it. -/
theorem val1_main_v65_0 (V0 : Valuation τ sig (Elt F)) : val1 V0 (no_index (Proc.devRef .tc main_v65_0)) = V0 (Proc.devRef .tc main_v65_0) :=
  (val1_keep V0 main_v65_0 (by decide)).trans (val0_main_v65_0 V0)
/-- `main_v65_3` as the body's window 1 finds or leaves it. -/
theorem val1_main_v65_3 (V0 : Valuation τ sig (Elt F)) : val1 V0 (no_index (Proc.devRef .tc main_v65_3)) = V0 (Proc.devRef .tc main_v65_3) :=
  (val1_keep V0 main_v65_3 (by decide)).trans (val0_main_v65_3 V0)
/-- `main_v65_1` as the body's window 1 finds or leaves it. -/
theorem val1_main_v65_1 (V0 : Valuation τ sig (Elt F)) : val1 V0 (no_index (Proc.devRef .tc main_v65_1)) = V0 (Proc.devRef .tc main_v65_1) :=
  (val1_keep V0 main_v65_1 (by decide)).trans (val0_main_v65_1 V0)
/-- `main_v65_4` as the body's window 1 finds or leaves it. -/
theorem val1_main_v65_4 (V0 : Valuation τ sig (Elt F)) : val1 V0 (no_index (Proc.devRef .tc main_v65_4)) = V0 (Proc.devRef .tc main_v65_4) :=
  (val1_keep V0 main_v65_4 (by decide)).trans (val0_main_v65_4 V0)
set_option maxRecDepth 8192 in
/-- `main_while0b_v91` as the body's window 1 finds or leaves it. -/
theorem val1_main_while0b_v91 (V0 : Valuation τ sig (Elt F)) : val1 V0 (no_index (Proc.devRef .tc main_while0b_v91)) = res_main_while0b_v91 V0 := by
  unfold val1
  simp only [trip_w0]
  after_results_entrywise [val0_main_v65_2, res_main_while0b_call1_v0, res_main_while0b_call1_cst, res_main_while0b_call1_c, res_main_while0b_v91, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_c_25, main_while0b_v92, main_while0b_c_26, main_while0b_v93, main_while0b_v94, main_while0b_v95]
set_option maxRecDepth 8192 in
/-- The operations of the body's window 1 write no other reference. -/
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
/-- `main_v65_2` as the body's window 2 finds or leaves it. -/
theorem val2_main_v65_2 (V0 : Valuation τ sig (Elt F)) : val2 V0 (no_index (Proc.devRef .tc main_v65_2)) = V0 (Proc.devRef .tc main_v65_2) :=
  (val2_keep V0 main_v65_2 (by decide)).trans (val1_main_v65_2 V0)
/-- `main_v65_0` as the body's window 2 finds or leaves it. -/
theorem val2_main_v65_0 (V0 : Valuation τ sig (Elt F)) : val2 V0 (no_index (Proc.devRef .tc main_v65_0)) = V0 (Proc.devRef .tc main_v65_0) :=
  (val2_keep V0 main_v65_0 (by decide)).trans (val1_main_v65_0 V0)
/-- `main_v65_3` as the body's window 2 finds or leaves it. -/
theorem val2_main_v65_3 (V0 : Valuation τ sig (Elt F)) : val2 V0 (no_index (Proc.devRef .tc main_v65_3)) = V0 (Proc.devRef .tc main_v65_3) :=
  (val2_keep V0 main_v65_3 (by decide)).trans (val1_main_v65_3 V0)
/-- `main_v65_1` as the body's window 2 finds or leaves it. -/
theorem val2_main_v65_1 (V0 : Valuation τ sig (Elt F)) : val2 V0 (no_index (Proc.devRef .tc main_v65_1)) = V0 (Proc.devRef .tc main_v65_1) :=
  (val2_keep V0 main_v65_1 (by decide)).trans (val1_main_v65_1 V0)
/-- `main_v65_4` as the body's window 2 finds or leaves it. -/
theorem val2_main_v65_4 (V0 : Valuation τ sig (Elt F)) : val2 V0 (no_index (Proc.devRef .tc main_v65_4)) = V0 (Proc.devRef .tc main_v65_4) :=
  (val2_keep V0 main_v65_4 (by decide)).trans (val1_main_v65_4 V0)
/-- `main_while0b_v91` as the body's window 2 finds or leaves it. -/
theorem val2_main_while0b_v91 (V0 : Valuation τ sig (Elt F)) : val2 V0 (no_index (Proc.devRef .tc main_while0b_v91)) = res_main_while0b_v91 V0 :=
  (val2_keep V0 main_while0b_v91 (by decide)).trans (val1_main_while0b_v91 V0)
set_option maxRecDepth 8192 in
/-- `main_while0b_v95` as the body's window 2 finds or leaves it. -/
theorem val2_main_while0b_v95 (V0 : Valuation τ sig (Elt F)) : val2 V0 (no_index (Proc.devRef .tc main_while0b_v95)) = Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1 := by
  unfold val2
  simp only [trip_w1]
  after_results_entrywise [val1_main_while0b_v91, val1_main_v65_2, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v96, main_while0b_cst_27, main_while0b_v97, main_while0b_c_28, main_while0b_v98, main_while0b_c_29, main_while0b_v99, main_while0b_v100, main_while0b_c_30, main_while0b_c_31, main_while0b_v101, main_while0b_c_32, main_while0b_c_33, main_while0b_v102, main_while0b_c_34, main_while0b_v103, main_while0b_v104]
set_option maxRecDepth 8192 in
/-- The operations of the body's window 2 write no other reference. -/
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
/-- `main_v65_2` as the body's window 3 finds or leaves it. -/
theorem val3_main_v65_2 (V0 : Valuation τ sig (Elt F)) : val3 V0 (no_index (Proc.devRef .tc main_v65_2)) = V0 (Proc.devRef .tc main_v65_2) :=
  (val3_keep V0 main_v65_2 (by decide)).trans (val2_main_v65_2 V0)
/-- `main_v65_0` as the body's window 3 finds or leaves it. -/
theorem val3_main_v65_0 (V0 : Valuation τ sig (Elt F)) : val3 V0 (no_index (Proc.devRef .tc main_v65_0)) = V0 (Proc.devRef .tc main_v65_0) :=
  (val3_keep V0 main_v65_0 (by decide)).trans (val2_main_v65_0 V0)
/-- `main_v65_3` as the body's window 3 finds or leaves it. -/
theorem val3_main_v65_3 (V0 : Valuation τ sig (Elt F)) : val3 V0 (no_index (Proc.devRef .tc main_v65_3)) = V0 (Proc.devRef .tc main_v65_3) :=
  (val3_keep V0 main_v65_3 (by decide)).trans (val2_main_v65_3 V0)
/-- `main_v65_1` as the body's window 3 finds or leaves it. -/
theorem val3_main_v65_1 (V0 : Valuation τ sig (Elt F)) : val3 V0 (no_index (Proc.devRef .tc main_v65_1)) = V0 (Proc.devRef .tc main_v65_1) :=
  (val3_keep V0 main_v65_1 (by decide)).trans (val2_main_v65_1 V0)
/-- `main_v65_4` as the body's window 3 finds or leaves it. -/
theorem val3_main_v65_4 (V0 : Valuation τ sig (Elt F)) : val3 V0 (no_index (Proc.devRef .tc main_v65_4)) = V0 (Proc.devRef .tc main_v65_4) :=
  (val3_keep V0 main_v65_4 (by decide)).trans (val2_main_v65_4 V0)
/-- `main_while0b_v91` as the body's window 3 finds or leaves it. -/
theorem val3_main_while0b_v91 (V0 : Valuation τ sig (Elt F)) : val3 V0 (no_index (Proc.devRef .tc main_while0b_v91)) = res_main_while0b_v91 V0 :=
  (val3_keep V0 main_while0b_v91 (by decide)).trans (val2_main_while0b_v91 V0)
set_option maxRecDepth 8192 in
set_option maxHeartbeats 1700000 in
/-- `main_while0b_v97` as the body's window 3 finds or leaves it. -/
theorem val3_main_while0b_v97 (V0 : Valuation τ sig (Elt F)) : val3 V0 (no_index (Proc.devRef .tc main_while0b_v97)) = cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32) := by
  unfold val3
  simp only [trip_w2]
  after_results_entrywise [val2_main_while0b_v95, cast_eq]
set_option maxRecDepth 8192 in
set_option maxHeartbeats 1700000 in
/-- `main_while0b_v104` as the body's window 3 finds or leaves it. -/
theorem val3_main_while0b_v104 (V0 : Valuation τ sig (Elt F)) : val3 V0 (no_index (Proc.devRef .tc main_while0b_v104)) = Host.dynamicSlice S1x4 (V0 (Proc.devRef .tc main_v65_0)) (fun k => (((![select (cmpi .slt (res_main_while0b_v91 V0) (constantI S_ 32 0#32)) (addi (res_main_while0b_v91 V0) (constantI S_ 32 400000#32)) (res_main_while0b_v91 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S400000x4_S1x4 := by
  unfold val3
  simp only [trip_w2]
  after_results_entrywise [val2_main_while0b_v91, val2_main_v65_0, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v105, main_while0b_v106, main_while0b_v107, main_while0b_v108, main_while0b_v109, main_while0b_v110, main_while0b_v111, main_while0b_v112, main_while0b_v113, main_while0b_v114, main_while0b_v115, main_while0b_v116, main_while0b_cst_35]
set_option maxRecDepth 8192 in
/-- The operations of the body's window 3 write no other reference. -/
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
/-- `main_v65_2` as the body's window 4 finds or leaves it. -/
theorem val4_main_v65_2 (V0 : Valuation τ sig (Elt F)) : val4 V0 (no_index (Proc.devRef .tc main_v65_2)) = V0 (Proc.devRef .tc main_v65_2) :=
  (val4_keep V0 main_v65_2 (by decide)).trans (val3_main_v65_2 V0)
/-- `main_v65_0` as the body's window 4 finds or leaves it. -/
theorem val4_main_v65_0 (V0 : Valuation τ sig (Elt F)) : val4 V0 (no_index (Proc.devRef .tc main_v65_0)) = V0 (Proc.devRef .tc main_v65_0) :=
  (val4_keep V0 main_v65_0 (by decide)).trans (val3_main_v65_0 V0)
/-- `main_v65_3` as the body's window 4 finds or leaves it. -/
theorem val4_main_v65_3 (V0 : Valuation τ sig (Elt F)) : val4 V0 (no_index (Proc.devRef .tc main_v65_3)) = V0 (Proc.devRef .tc main_v65_3) :=
  (val4_keep V0 main_v65_3 (by decide)).trans (val3_main_v65_3 V0)
/-- `main_v65_1` as the body's window 4 finds or leaves it. -/
theorem val4_main_v65_1 (V0 : Valuation τ sig (Elt F)) : val4 V0 (no_index (Proc.devRef .tc main_v65_1)) = V0 (Proc.devRef .tc main_v65_1) :=
  (val4_keep V0 main_v65_1 (by decide)).trans (val3_main_v65_1 V0)
/-- `main_v65_4` as the body's window 4 finds or leaves it. -/
theorem val4_main_v65_4 (V0 : Valuation τ sig (Elt F)) : val4 V0 (no_index (Proc.devRef .tc main_v65_4)) = V0 (Proc.devRef .tc main_v65_4) :=
  (val4_keep V0 main_v65_4 (by decide)).trans (val3_main_v65_4 V0)
/-- `main_while0b_v91` as the body's window 4 finds or leaves it. -/
theorem val4_main_while0b_v91 (V0 : Valuation τ sig (Elt F)) : val4 V0 (no_index (Proc.devRef .tc main_while0b_v91)) = res_main_while0b_v91 V0 :=
  (val4_keep V0 main_while0b_v91 (by decide)).trans (val3_main_while0b_v91 V0)
/-- `main_while0b_v97` as the body's window 4 finds or leaves it. -/
theorem val4_main_while0b_v97 (V0 : Valuation τ sig (Elt F)) : val4 V0 (no_index (Proc.devRef .tc main_while0b_v97)) = cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32) :=
  (val4_keep V0 main_while0b_v97 (by decide)).trans (val3_main_while0b_v97 V0)
set_option maxRecDepth 8192 in
set_option maxHeartbeats 1300000 in
/-- `main_while0b_v105` as the body's window 4 finds or leaves it. -/
theorem val4_main_while0b_v105 (V0 : Valuation τ sig (Elt F)) : val4 V0 (no_index (Proc.devRef .tc main_while0b_v105)) = res_main_while0b_v105 V0 := by
  unfold val4
  simp only [trip_w3]
  after_results_entrywise [val3_main_while0b_v104, res_main_while0b_v105, cast_eq]
set_option maxRecDepth 8192 in
set_option maxHeartbeats 1300000 in
/-- `main_while0b_v116` as the body's window 4 finds or leaves it. -/
theorem val4_main_while0b_v116 (V0 : Valuation τ sig (Elt F)) : val4 V0 (no_index (Proc.devRef .tc main_while0b_v116)) = subf (minimumf (broadcastInDim S400000x2 ![0, 1] bcast_S1x2_S400000x2_0_1 (broadcastInDim S1x2 ![1] bcast_S2_S1x2_1 (extractStridedSlice S2 ![2] (res_main_while0b_v105 V0) slices_S4_S2_2))) (extractStridedSlice S400000x2 ![0, 2] (V0 (Proc.devRef .tc main_v65_0)) slices_S400000x4_S400000x2_0_2)) (maximumf (broadcastInDim S400000x2 ![0, 1] bcast_S1x2_S400000x2_0_1 (broadcastInDim S1x2 ![1] bcast_S2_S1x2_1 (extractStridedSlice S2 ![0] (res_main_while0b_v105 V0) slices_S4_S2_0))) (extractStridedSlice S400000x2 ![0, 0] (V0 (Proc.devRef .tc main_v65_0)) slices_S400000x4_S400000x2_0_0)) := by
  unfold val4
  simp only [trip_w3]
  after_results_entrywise [val3_main_v65_0, val3_main_while0b_v104, res_main_while0b_v105, cast_eq]
set_option maxRecDepth 8192 in
set_option maxHeartbeats 1300000 in
/-- `main_while0b_cst_35` as the body's window 4 finds or leaves it. -/
theorem val4_main_while0b_cst_35 (V0 : Valuation τ sig (Elt F)) : val4 V0 (no_index (Proc.devRef .tc main_while0b_cst_35)) = constant S_ .f32 0x00000000#32 := by
  unfold val4
  simp only [trip_w3]
  after_results_entrywise [cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_call2_v0, main_while0b_call2_v1, main_while0b_v117]
set_option maxRecDepth 8192 in
/-- The operations of the body's window 4 write no other reference. -/
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
/-- `main_v65_2` as the body's window 5 finds or leaves it. -/
theorem val5_main_v65_2 (V0 : Valuation τ sig (Elt F)) : val5 V0 (no_index (Proc.devRef .tc main_v65_2)) = V0 (Proc.devRef .tc main_v65_2) :=
  (val5_keep V0 main_v65_2 (by decide)).trans (val4_main_v65_2 V0)
/-- `main_v65_0` as the body's window 5 finds or leaves it. -/
theorem val5_main_v65_0 (V0 : Valuation τ sig (Elt F)) : val5 V0 (no_index (Proc.devRef .tc main_v65_0)) = V0 (Proc.devRef .tc main_v65_0) :=
  (val5_keep V0 main_v65_0 (by decide)).trans (val4_main_v65_0 V0)
/-- `main_v65_3` as the body's window 5 finds or leaves it. -/
theorem val5_main_v65_3 (V0 : Valuation τ sig (Elt F)) : val5 V0 (no_index (Proc.devRef .tc main_v65_3)) = V0 (Proc.devRef .tc main_v65_3) :=
  (val5_keep V0 main_v65_3 (by decide)).trans (val4_main_v65_3 V0)
/-- `main_v65_1` as the body's window 5 finds or leaves it. -/
theorem val5_main_v65_1 (V0 : Valuation τ sig (Elt F)) : val5 V0 (no_index (Proc.devRef .tc main_v65_1)) = V0 (Proc.devRef .tc main_v65_1) :=
  (val5_keep V0 main_v65_1 (by decide)).trans (val4_main_v65_1 V0)
/-- `main_v65_4` as the body's window 5 finds or leaves it. -/
theorem val5_main_v65_4 (V0 : Valuation τ sig (Elt F)) : val5 V0 (no_index (Proc.devRef .tc main_v65_4)) = V0 (Proc.devRef .tc main_v65_4) :=
  (val5_keep V0 main_v65_4 (by decide)).trans (val4_main_v65_4 V0)
/-- `main_while0b_v91` as the body's window 5 finds or leaves it. -/
theorem val5_main_while0b_v91 (V0 : Valuation τ sig (Elt F)) : val5 V0 (no_index (Proc.devRef .tc main_while0b_v91)) = res_main_while0b_v91 V0 :=
  (val5_keep V0 main_while0b_v91 (by decide)).trans (val4_main_while0b_v91 V0)
/-- `main_while0b_v97` as the body's window 5 finds or leaves it. -/
theorem val5_main_while0b_v97 (V0 : Valuation τ sig (Elt F)) : val5 V0 (no_index (Proc.devRef .tc main_while0b_v97)) = cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32) :=
  (val5_keep V0 main_while0b_v97 (by decide)).trans (val4_main_while0b_v97 V0)
/-- `main_while0b_v105` as the body's window 5 finds or leaves it. -/
theorem val5_main_while0b_v105 (V0 : Valuation τ sig (Elt F)) : val5 V0 (no_index (Proc.devRef .tc main_while0b_v105)) = res_main_while0b_v105 V0 :=
  (val5_keep V0 main_while0b_v105 (by decide)).trans (val4_main_while0b_v105 V0)
set_option maxRecDepth 8192 in
/-- `main_while0b_v117` as the body's window 5 finds or leaves it. -/
theorem val5_main_while0b_v117 (V0 : Valuation τ sig (Elt F)) : val5 V0 (no_index (Proc.devRef .tc main_while0b_v117)) = res_main_while0b_v117 V0 := by
  unfold val5
  simp only [trip_w4]
  after_results_entrywise [val4_main_while0b_v116, val4_main_while0b_cst_35, res_main_while0b_v117, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_v118, main_while0b_v119, main_while0b_v120, main_while0b_v121, main_while0b_v122, main_while0b_v123, main_while0b_v124, main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141]
set_option maxRecDepth 8192 in
/-- The operations of the body's window 5 write no other reference. -/
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
/-- `main_v65_2` as the body's window 6 finds or leaves it. -/
theorem val6_main_v65_2 (V0 : Valuation τ sig (Elt F)) : val6 V0 (no_index (Proc.devRef .tc main_v65_2)) = V0 (Proc.devRef .tc main_v65_2) :=
  (val6_keep V0 main_v65_2 (by decide)).trans (val5_main_v65_2 V0)
/-- `main_v65_0` as the body's window 6 finds or leaves it. -/
theorem val6_main_v65_0 (V0 : Valuation τ sig (Elt F)) : val6 V0 (no_index (Proc.devRef .tc main_v65_0)) = V0 (Proc.devRef .tc main_v65_0) :=
  (val6_keep V0 main_v65_0 (by decide)).trans (val5_main_v65_0 V0)
/-- `main_v65_3` as the body's window 6 finds or leaves it. -/
theorem val6_main_v65_3 (V0 : Valuation τ sig (Elt F)) : val6 V0 (no_index (Proc.devRef .tc main_v65_3)) = V0 (Proc.devRef .tc main_v65_3) :=
  (val6_keep V0 main_v65_3 (by decide)).trans (val5_main_v65_3 V0)
/-- `main_v65_1` as the body's window 6 finds or leaves it. -/
theorem val6_main_v65_1 (V0 : Valuation τ sig (Elt F)) : val6 V0 (no_index (Proc.devRef .tc main_v65_1)) = V0 (Proc.devRef .tc main_v65_1) :=
  (val6_keep V0 main_v65_1 (by decide)).trans (val5_main_v65_1 V0)
/-- `main_v65_4` as the body's window 6 finds or leaves it. -/
theorem val6_main_v65_4 (V0 : Valuation τ sig (Elt F)) : val6 V0 (no_index (Proc.devRef .tc main_v65_4)) = V0 (Proc.devRef .tc main_v65_4) :=
  (val6_keep V0 main_v65_4 (by decide)).trans (val5_main_v65_4 V0)
/-- `main_while0b_v91` as the body's window 6 finds or leaves it. -/
theorem val6_main_while0b_v91 (V0 : Valuation τ sig (Elt F)) : val6 V0 (no_index (Proc.devRef .tc main_while0b_v91)) = res_main_while0b_v91 V0 :=
  (val6_keep V0 main_while0b_v91 (by decide)).trans (val5_main_while0b_v91 V0)
/-- `main_while0b_v97` as the body's window 6 finds or leaves it. -/
theorem val6_main_while0b_v97 (V0 : Valuation τ sig (Elt F)) : val6 V0 (no_index (Proc.devRef .tc main_while0b_v97)) = cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32) :=
  (val6_keep V0 main_while0b_v97 (by decide)).trans (val5_main_while0b_v97 V0)
set_option maxRecDepth 8192 in
set_option maxHeartbeats 2000000 in
/-- `main_while0b_v122` as the body's window 6 finds or leaves it. -/
theorem val6_main_while0b_v122 (V0 : Valuation τ sig (Elt F)) : val6 V0 (no_index (Proc.devRef .tc main_while0b_v122)) = res_main_while0b_v122 V0 := by
  unfold val6
  simp only [trip_w5]
  after_results_entrywise [val5_main_while0b_v117, res_main_while0b_v122, cast_eq]
set_option maxRecDepth 8192 in
set_option maxHeartbeats 2000000 in
/-- `main_while0b_v133` as the body's window 6 finds or leaves it. -/
theorem val6_main_while0b_v133 (V0 : Valuation τ sig (Elt F)) : val6 V0 (no_index (Proc.devRef .tc main_while0b_v133)) = mulf (subf (shapeCast S_ (extractStridedSlice S1 ![2] (res_main_while0b_v105 V0) slices_S4_S1_2) shapeCasts_S1_S_) (shapeCast S_ (extractStridedSlice S1 ![0] (res_main_while0b_v105 V0) slices_S4_S1_0) shapeCasts_S1_S_)) (subf (shapeCast S_ (extractStridedSlice S1 ![3] (res_main_while0b_v105 V0) slices_S4_S1_3) shapeCasts_S1_S_) (shapeCast S_ (extractStridedSlice S1 ![1] (res_main_while0b_v105 V0) slices_S4_S1_1) shapeCasts_S1_S_)) := by
  unfold val6
  simp only [trip_w5]
  after_results_entrywise [val5_main_while0b_v105, cast_eq]
set_option maxRecDepth 8192 in
set_option maxHeartbeats 2000000 in
/-- `main_while0b_v138` as the body's window 6 finds or leaves it. -/
theorem val6_main_while0b_v138 (V0 : Valuation τ sig (Elt F)) : val6 V0 (no_index (Proc.devRef .tc main_while0b_v138)) = subf (shapeCast S400000 (extractStridedSlice S400000x1 ![0, 2] (V0 (Proc.devRef .tc main_v65_0)) slices_S400000x4_S400000x1_0_2) shapeCasts_S400000x1_S400000) (shapeCast S400000 (extractStridedSlice S400000x1 ![0, 0] (V0 (Proc.devRef .tc main_v65_0)) slices_S400000x4_S400000x1_0_0) shapeCasts_S400000x1_S400000) := by
  unfold val6
  simp only [trip_w5]
  after_results_entrywise [val5_main_v65_0, cast_eq]
set_option maxRecDepth 8192 in
set_option maxHeartbeats 2000000 in
/-- `main_while0b_v140` as the body's window 6 finds or leaves it. -/
theorem val6_main_while0b_v140 (V0 : Valuation τ sig (Elt F)) : val6 V0 (no_index (Proc.devRef .tc main_while0b_v140)) = shapeCast S400000 (extractStridedSlice S400000x1 ![0, 3] (V0 (Proc.devRef .tc main_v65_0)) slices_S400000x4_S400000x1_0_3) shapeCasts_S400000x1_S400000 := by
  unfold val6
  simp only [trip_w5]
  after_results_entrywise [val5_main_v65_0, cast_eq]
set_option maxRecDepth 8192 in
set_option maxHeartbeats 2000000 in
/-- `main_while0b_v141` as the body's window 6 finds or leaves it. -/
theorem val6_main_while0b_v141 (V0 : Valuation τ sig (Elt F)) : val6 V0 (no_index (Proc.devRef .tc main_while0b_v141)) = extractStridedSlice S400000x1 ![0, 1] (V0 (Proc.devRef .tc main_v65_0)) slices_S400000x4_S400000x1_0_1 := by
  unfold val6
  simp only [trip_w5]
  after_results_entrywise [val5_main_v65_0, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_v142, main_while0b_v143, main_while0b_v144, main_while0b_v145, main_while0b_v146, main_while0b_v147, main_while0b_cst_36, main_while0b_v148, main_while0b_v149, main_while0b_v150, main_while0b_cst_37, main_while0b_v151, main_while0b_v152, main_while0b_cst_38]
set_option maxRecDepth 8192 in
/-- The operations of the body's window 6 write no other reference. -/
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
/-- `main_v65_2` as the body's window 7 finds or leaves it. -/
theorem val7_main_v65_2 (V0 : Valuation τ sig (Elt F)) : val7 V0 (no_index (Proc.devRef .tc main_v65_2)) = V0 (Proc.devRef .tc main_v65_2) :=
  (val7_keep V0 main_v65_2 (by decide)).trans (val6_main_v65_2 V0)
/-- `main_v65_0` as the body's window 7 finds or leaves it. -/
theorem val7_main_v65_0 (V0 : Valuation τ sig (Elt F)) : val7 V0 (no_index (Proc.devRef .tc main_v65_0)) = V0 (Proc.devRef .tc main_v65_0) :=
  (val7_keep V0 main_v65_0 (by decide)).trans (val6_main_v65_0 V0)
/-- `main_v65_3` as the body's window 7 finds or leaves it. -/
theorem val7_main_v65_3 (V0 : Valuation τ sig (Elt F)) : val7 V0 (no_index (Proc.devRef .tc main_v65_3)) = V0 (Proc.devRef .tc main_v65_3) :=
  (val7_keep V0 main_v65_3 (by decide)).trans (val6_main_v65_3 V0)
/-- `main_v65_1` as the body's window 7 finds or leaves it. -/
theorem val7_main_v65_1 (V0 : Valuation τ sig (Elt F)) : val7 V0 (no_index (Proc.devRef .tc main_v65_1)) = V0 (Proc.devRef .tc main_v65_1) :=
  (val7_keep V0 main_v65_1 (by decide)).trans (val6_main_v65_1 V0)
/-- `main_v65_4` as the body's window 7 finds or leaves it. -/
theorem val7_main_v65_4 (V0 : Valuation τ sig (Elt F)) : val7 V0 (no_index (Proc.devRef .tc main_v65_4)) = V0 (Proc.devRef .tc main_v65_4) :=
  (val7_keep V0 main_v65_4 (by decide)).trans (val6_main_v65_4 V0)
/-- `main_while0b_v91` as the body's window 7 finds or leaves it. -/
theorem val7_main_while0b_v91 (V0 : Valuation τ sig (Elt F)) : val7 V0 (no_index (Proc.devRef .tc main_while0b_v91)) = res_main_while0b_v91 V0 :=
  (val7_keep V0 main_while0b_v91 (by decide)).trans (val6_main_while0b_v91 V0)
/-- `main_while0b_v97` as the body's window 7 finds or leaves it. -/
theorem val7_main_while0b_v97 (V0 : Valuation τ sig (Elt F)) : val7 V0 (no_index (Proc.devRef .tc main_while0b_v97)) = cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32) :=
  (val7_keep V0 main_while0b_v97 (by decide)).trans (val6_main_while0b_v97 V0)
set_option maxRecDepth 8192 in
set_option maxHeartbeats 1400000 in
/-- `main_while0b_v152` as the body's window 7 finds or leaves it. -/
theorem val7_main_while0b_v152 (V0 : Valuation τ sig (Elt F)) : val7 V0 (no_index (Proc.devRef .tc main_while0b_v152)) = cmpf .ogt (Host.divf (res_main_while0b_v122 V0) (addf (subf (addf (broadcastInDim S400000 ![] bcast_S_S400000 (mulf (subf (shapeCast S_ (extractStridedSlice S1 ![2] (res_main_while0b_v105 V0) slices_S4_S1_2) shapeCasts_S1_S_) (shapeCast S_ (extractStridedSlice S1 ![0] (res_main_while0b_v105 V0) slices_S4_S1_0) shapeCasts_S1_S_)) (subf (shapeCast S_ (extractStridedSlice S1 ![3] (res_main_while0b_v105 V0) slices_S4_S1_3) shapeCasts_S1_S_) (shapeCast S_ (extractStridedSlice S1 ![1] (res_main_while0b_v105 V0) slices_S4_S1_1) shapeCasts_S1_S_)))) (mulf (subf (shapeCast S400000 (extractStridedSlice S400000x1 ![0, 2] (V0 (Proc.devRef .tc main_v65_0)) slices_S400000x4_S400000x1_0_2) shapeCasts_S400000x1_S400000) (shapeCast S400000 (extractStridedSlice S400000x1 ![0, 0] (V0 (Proc.devRef .tc main_v65_0)) slices_S400000x4_S400000x1_0_0) shapeCasts_S400000x1_S400000)) (subf (shapeCast S400000 (extractStridedSlice S400000x1 ![0, 3] (V0 (Proc.devRef .tc main_v65_0)) slices_S400000x4_S400000x1_0_3) shapeCasts_S400000x1_S400000) (shapeCast S400000 (extractStridedSlice S400000x1 ![0, 1] (V0 (Proc.devRef .tc main_v65_0)) slices_S400000x4_S400000x1_0_1) shapeCasts_S400000x1_S400000)))) (res_main_while0b_v122 V0)) (broadcastInDim S400000 ![] bcast_S_S400000 (constant S_ .f32 0x3089705F#32)))) (broadcastInDim S400000 ![] bcast_S_S400000 (constant S_ .f32 0x3EE66666#32)) := by
  unfold val7
  simp only [trip_w6]
  after_results_entrywise [val6_main_while0b_v141, val6_main_while0b_v140, val6_main_while0b_v138, val6_main_while0b_v133, val6_main_while0b_v122, cast_eq]
set_option maxRecDepth 8192 in
set_option maxHeartbeats 1400000 in
/-- `main_while0b_cst_38` as the body's window 7 finds or leaves it. -/
theorem val7_main_while0b_cst_38 (V0 : Valuation τ sig (Elt F)) : val7 V0 (no_index (Proc.devRef .tc main_while0b_cst_38)) = constant S_ .f32 0xF149F2CA#32 := by
  unfold val7
  simp only [trip_w6]
  after_results_entrywise [cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_call3_v0, main_while0b_call3_v1, main_while0b_v153]
set_option maxRecDepth 8192 in
/-- The operations of the body's window 7 write no other reference. -/
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
/-- `main_v65_2` as the body's window 8 finds or leaves it. -/
theorem val8_main_v65_2 (V0 : Valuation τ sig (Elt F)) : val8 V0 (no_index (Proc.devRef .tc main_v65_2)) = V0 (Proc.devRef .tc main_v65_2) :=
  (val8_keep V0 main_v65_2 (by decide)).trans (val7_main_v65_2 V0)
/-- `main_v65_0` as the body's window 8 finds or leaves it. -/
theorem val8_main_v65_0 (V0 : Valuation τ sig (Elt F)) : val8 V0 (no_index (Proc.devRef .tc main_v65_0)) = V0 (Proc.devRef .tc main_v65_0) :=
  (val8_keep V0 main_v65_0 (by decide)).trans (val7_main_v65_0 V0)
/-- `main_v65_3` as the body's window 8 finds or leaves it. -/
theorem val8_main_v65_3 (V0 : Valuation τ sig (Elt F)) : val8 V0 (no_index (Proc.devRef .tc main_v65_3)) = V0 (Proc.devRef .tc main_v65_3) :=
  (val8_keep V0 main_v65_3 (by decide)).trans (val7_main_v65_3 V0)
/-- `main_v65_1` as the body's window 8 finds or leaves it. -/
theorem val8_main_v65_1 (V0 : Valuation τ sig (Elt F)) : val8 V0 (no_index (Proc.devRef .tc main_v65_1)) = V0 (Proc.devRef .tc main_v65_1) :=
  (val8_keep V0 main_v65_1 (by decide)).trans (val7_main_v65_1 V0)
/-- `main_v65_4` as the body's window 8 finds or leaves it. -/
theorem val8_main_v65_4 (V0 : Valuation τ sig (Elt F)) : val8 V0 (no_index (Proc.devRef .tc main_v65_4)) = V0 (Proc.devRef .tc main_v65_4) :=
  (val8_keep V0 main_v65_4 (by decide)).trans (val7_main_v65_4 V0)
/-- `main_while0b_v91` as the body's window 8 finds or leaves it. -/
theorem val8_main_while0b_v91 (V0 : Valuation τ sig (Elt F)) : val8 V0 (no_index (Proc.devRef .tc main_while0b_v91)) = res_main_while0b_v91 V0 :=
  (val8_keep V0 main_while0b_v91 (by decide)).trans (val7_main_while0b_v91 V0)
/-- `main_while0b_v97` as the body's window 8 finds or leaves it. -/
theorem val8_main_while0b_v97 (V0 : Valuation τ sig (Elt F)) : val8 V0 (no_index (Proc.devRef .tc main_while0b_v97)) = cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32) :=
  (val8_keep V0 main_while0b_v97 (by decide)).trans (val7_main_while0b_v97 V0)
set_option maxRecDepth 8192 in
/-- `main_while0b_v153` as the body's window 8 finds or leaves it. -/
theorem val8_main_while0b_v153 (V0 : Valuation τ sig (Elt F)) : val8 V0 (no_index (Proc.devRef .tc main_while0b_v153)) = select (cmpf .ogt (Host.divf (res_main_while0b_v122 V0) (addf (subf (addf (broadcastInDim S400000 ![] bcast_S_S400000 (mulf (subf (shapeCast S_ (extractStridedSlice S1 ![2] (res_main_while0b_v105 V0) slices_S4_S1_2) shapeCasts_S1_S_) (shapeCast S_ (extractStridedSlice S1 ![0] (res_main_while0b_v105 V0) slices_S4_S1_0) shapeCasts_S1_S_)) (subf (shapeCast S_ (extractStridedSlice S1 ![3] (res_main_while0b_v105 V0) slices_S4_S1_3) shapeCasts_S1_S_) (shapeCast S_ (extractStridedSlice S1 ![1] (res_main_while0b_v105 V0) slices_S4_S1_1) shapeCasts_S1_S_)))) (mulf (subf (shapeCast S400000 (extractStridedSlice S400000x1 ![0, 2] (V0 (Proc.devRef .tc main_v65_0)) slices_S400000x4_S400000x1_0_2) shapeCasts_S400000x1_S400000) (shapeCast S400000 (extractStridedSlice S400000x1 ![0, 0] (V0 (Proc.devRef .tc main_v65_0)) slices_S400000x4_S400000x1_0_0) shapeCasts_S400000x1_S400000)) (subf (shapeCast S400000 (extractStridedSlice S400000x1 ![0, 3] (V0 (Proc.devRef .tc main_v65_0)) slices_S400000x4_S400000x1_0_3) shapeCasts_S400000x1_S400000) (shapeCast S400000 (extractStridedSlice S400000x1 ![0, 1] (V0 (Proc.devRef .tc main_v65_0)) slices_S400000x4_S400000x1_0_1) shapeCasts_S400000x1_S400000)))) (res_main_while0b_v122 V0)) (broadcastInDim S400000 ![] bcast_S_S400000 (constant S_ .f32 0x3089705F#32)))) (broadcastInDim S400000 ![] bcast_S_S400000 (constant S_ .f32 0x3EE66666#32))) (broadcastInDim S400000 ![] bcast_S_S400000 (id (constant S_ .f32 0xF149F2CA#32))) (V0 (Proc.devRef .tc main_v65_2)) := by
  unfold val8
  simp only [trip_w7]
  after_results_entrywise [val7_main_v65_2, val7_main_while0b_cst_38, val7_main_while0b_v152, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_c_39, main_while0b_v154, main_while0b_c_40, main_while0b_v155, main_while0b_v156, main_while0b_v157, main_while0b_cst_41, main_while0b_v158]
set_option maxRecDepth 8192 in
/-- The operations of the body's window 8 write no other reference. -/
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
/-- `main_v65_2` as the body's window 9 finds or leaves it. -/
theorem val9_main_v65_2 (V0 : Valuation τ sig (Elt F)) : val9 V0 (no_index (Proc.devRef .tc main_v65_2)) = V0 (Proc.devRef .tc main_v65_2) :=
  (val9_keep V0 main_v65_2 (by decide)).trans (val8_main_v65_2 V0)
/-- `main_v65_0` as the body's window 9 finds or leaves it. -/
theorem val9_main_v65_0 (V0 : Valuation τ sig (Elt F)) : val9 V0 (no_index (Proc.devRef .tc main_v65_0)) = V0 (Proc.devRef .tc main_v65_0) :=
  (val9_keep V0 main_v65_0 (by decide)).trans (val8_main_v65_0 V0)
/-- `main_v65_3` as the body's window 9 finds or leaves it. -/
theorem val9_main_v65_3 (V0 : Valuation τ sig (Elt F)) : val9 V0 (no_index (Proc.devRef .tc main_v65_3)) = V0 (Proc.devRef .tc main_v65_3) :=
  (val9_keep V0 main_v65_3 (by decide)).trans (val8_main_v65_3 V0)
/-- `main_v65_1` as the body's window 9 finds or leaves it. -/
theorem val9_main_v65_1 (V0 : Valuation τ sig (Elt F)) : val9 V0 (no_index (Proc.devRef .tc main_v65_1)) = V0 (Proc.devRef .tc main_v65_1) :=
  (val9_keep V0 main_v65_1 (by decide)).trans (val8_main_v65_1 V0)
/-- `main_v65_4` as the body's window 9 finds or leaves it. -/
theorem val9_main_v65_4 (V0 : Valuation τ sig (Elt F)) : val9 V0 (no_index (Proc.devRef .tc main_v65_4)) = V0 (Proc.devRef .tc main_v65_4) :=
  (val9_keep V0 main_v65_4 (by decide)).trans (val8_main_v65_4 V0)
/-- `main_while0b_v91` as the body's window 9 finds or leaves it. -/
theorem val9_main_while0b_v91 (V0 : Valuation τ sig (Elt F)) : val9 V0 (no_index (Proc.devRef .tc main_while0b_v91)) = res_main_while0b_v91 V0 :=
  (val9_keep V0 main_while0b_v91 (by decide)).trans (val8_main_while0b_v91 V0)
/-- `main_while0b_v97` as the body's window 9 finds or leaves it. -/
theorem val9_main_while0b_v97 (V0 : Valuation τ sig (Elt F)) : val9 V0 (no_index (Proc.devRef .tc main_while0b_v97)) = cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32) :=
  (val9_keep V0 main_while0b_v97 (by decide)).trans (val8_main_while0b_v97 V0)
set_option maxRecDepth 8192 in
/-- `main_while0b_v158` as the body's window 9 finds or leaves it. -/
theorem val9_main_while0b_v158 (V0 : Valuation τ sig (Elt F)) : val9 V0 (no_index (Proc.devRef .tc main_while0b_v158)) = Host.scatter scatter_S400000_S1_S__n_0_0_0 (fun _ b => b) (select (cmpf .ogt (Host.divf (res_main_while0b_v122 V0) (addf (subf (addf (broadcastInDim S400000 ![] bcast_S_S400000 (mulf (subf (shapeCast S_ (extractStridedSlice S1 ![2] (res_main_while0b_v105 V0) slices_S4_S1_2) shapeCasts_S1_S_) (shapeCast S_ (extractStridedSlice S1 ![0] (res_main_while0b_v105 V0) slices_S4_S1_0) shapeCasts_S1_S_)) (subf (shapeCast S_ (extractStridedSlice S1 ![3] (res_main_while0b_v105 V0) slices_S4_S1_3) shapeCasts_S1_S_) (shapeCast S_ (extractStridedSlice S1 ![1] (res_main_while0b_v105 V0) slices_S4_S1_1) shapeCasts_S1_S_)))) (mulf (subf (shapeCast S400000 (extractStridedSlice S400000x1 ![0, 2] (V0 (Proc.devRef .tc main_v65_0)) slices_S400000x4_S400000x1_0_2) shapeCasts_S400000x1_S400000) (shapeCast S400000 (extractStridedSlice S400000x1 ![0, 0] (V0 (Proc.devRef .tc main_v65_0)) slices_S400000x4_S400000x1_0_0) shapeCasts_S400000x1_S400000)) (subf (shapeCast S400000 (extractStridedSlice S400000x1 ![0, 3] (V0 (Proc.devRef .tc main_v65_0)) slices_S400000x4_S400000x1_0_3) shapeCasts_S400000x1_S400000) (shapeCast S400000 (extractStridedSlice S400000x1 ![0, 1] (V0 (Proc.devRef .tc main_v65_0)) slices_S400000x4_S400000x1_0_1) shapeCasts_S400000x1_S400000)))) (res_main_while0b_v122 V0)) (broadcastInDim S400000 ![] bcast_S_S400000 (constant S_ .f32 0x3089705F#32)))) (broadcastInDim S400000 ![] bcast_S_S400000 (constant S_ .f32 0x3EE66666#32))) (broadcastInDim S400000 ![] bcast_S_S400000 (id (constant S_ .f32 0xF149F2CA#32))) (V0 (Proc.devRef .tc main_v65_2))) (broadcastInDim S1 ![] bcast_S_S1 (select (cmpi .slt (res_main_while0b_v91 V0) (constantI S_ 32 0#32)) (addi (res_main_while0b_v91 V0) (constantI S_ 32 400000#32)) (res_main_while0b_v91 V0))) (constant S_ .f32 0xF149F2CA#32) := by
  unfold val9
  simp only [trip_w8]
  after_results_entrywise [val8_main_while0b_v91, val8_main_while0b_v153, cast_eq]

/-- The device's buffer contents after the body's first 10 windows. -/
def val10 (V0 : Valuation τ sig (Elt F)) : Valuation τ sig (Elt F) := after trip_w9 (val9 V0)
/-- The buffers that window `trip_w9`'s operations write. -/
abbrev trip_w9_W : List (Ref sig .tc) := [main_while0b_call4_v0, main_while0b_v159]
set_option maxRecDepth 8192 in
/-- The operations of the body's window 9 write no other reference. -/
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
/-- `main_v65_2` as the body's window 10 finds or leaves it. -/
theorem val10_main_v65_2 (V0 : Valuation τ sig (Elt F)) : val10 V0 (no_index (Proc.devRef .tc main_v65_2)) = V0 (Proc.devRef .tc main_v65_2) :=
  (val10_keep V0 main_v65_2 (by decide)).trans (val9_main_v65_2 V0)
/-- `main_v65_0` as the body's window 10 finds or leaves it. -/
theorem val10_main_v65_0 (V0 : Valuation τ sig (Elt F)) : val10 V0 (no_index (Proc.devRef .tc main_v65_0)) = V0 (Proc.devRef .tc main_v65_0) :=
  (val10_keep V0 main_v65_0 (by decide)).trans (val9_main_v65_0 V0)
/-- `main_v65_3` as the body's window 10 finds or leaves it. -/
theorem val10_main_v65_3 (V0 : Valuation τ sig (Elt F)) : val10 V0 (no_index (Proc.devRef .tc main_v65_3)) = V0 (Proc.devRef .tc main_v65_3) :=
  (val10_keep V0 main_v65_3 (by decide)).trans (val9_main_v65_3 V0)
/-- `main_v65_1` as the body's window 10 finds or leaves it. -/
theorem val10_main_v65_1 (V0 : Valuation τ sig (Elt F)) : val10 V0 (no_index (Proc.devRef .tc main_v65_1)) = V0 (Proc.devRef .tc main_v65_1) :=
  (val10_keep V0 main_v65_1 (by decide)).trans (val9_main_v65_1 V0)
/-- `main_v65_4` as the body's window 10 finds or leaves it. -/
theorem val10_main_v65_4 (V0 : Valuation τ sig (Elt F)) : val10 V0 (no_index (Proc.devRef .tc main_v65_4)) = V0 (Proc.devRef .tc main_v65_4) :=
  (val10_keep V0 main_v65_4 (by decide)).trans (val9_main_v65_4 V0)
/-- `main_while0b_v97` as the body's window 10 finds or leaves it. -/
theorem val10_main_while0b_v97 (V0 : Valuation τ sig (Elt F)) : val10 V0 (no_index (Proc.devRef .tc main_while0b_v97)) = cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32) :=
  (val10_keep V0 main_while0b_v97 (by decide)).trans (val9_main_while0b_v97 V0)
/-- `main_while0b_v158` as the body's window 10 finds or leaves it. -/
theorem val10_main_while0b_v158 (V0 : Valuation τ sig (Elt F)) : val10 V0 (no_index (Proc.devRef .tc main_while0b_v158)) = Host.scatter scatter_S400000_S1_S__n_0_0_0 (fun _ b => b) (select (cmpf .ogt (Host.divf (res_main_while0b_v122 V0) (addf (subf (addf (broadcastInDim S400000 ![] bcast_S_S400000 (mulf (subf (shapeCast S_ (extractStridedSlice S1 ![2] (res_main_while0b_v105 V0) slices_S4_S1_2) shapeCasts_S1_S_) (shapeCast S_ (extractStridedSlice S1 ![0] (res_main_while0b_v105 V0) slices_S4_S1_0) shapeCasts_S1_S_)) (subf (shapeCast S_ (extractStridedSlice S1 ![3] (res_main_while0b_v105 V0) slices_S4_S1_3) shapeCasts_S1_S_) (shapeCast S_ (extractStridedSlice S1 ![1] (res_main_while0b_v105 V0) slices_S4_S1_1) shapeCasts_S1_S_)))) (mulf (subf (shapeCast S400000 (extractStridedSlice S400000x1 ![0, 2] (V0 (Proc.devRef .tc main_v65_0)) slices_S400000x4_S400000x1_0_2) shapeCasts_S400000x1_S400000) (shapeCast S400000 (extractStridedSlice S400000x1 ![0, 0] (V0 (Proc.devRef .tc main_v65_0)) slices_S400000x4_S400000x1_0_0) shapeCasts_S400000x1_S400000)) (subf (shapeCast S400000 (extractStridedSlice S400000x1 ![0, 3] (V0 (Proc.devRef .tc main_v65_0)) slices_S400000x4_S400000x1_0_3) shapeCasts_S400000x1_S400000) (shapeCast S400000 (extractStridedSlice S400000x1 ![0, 1] (V0 (Proc.devRef .tc main_v65_0)) slices_S400000x4_S400000x1_0_1) shapeCasts_S400000x1_S400000)))) (res_main_while0b_v122 V0)) (broadcastInDim S400000 ![] bcast_S_S400000 (constant S_ .f32 0x3089705F#32)))) (broadcastInDim S400000 ![] bcast_S_S400000 (constant S_ .f32 0x3EE66666#32))) (broadcastInDim S400000 ![] bcast_S_S400000 (id (constant S_ .f32 0xF149F2CA#32))) (V0 (Proc.devRef .tc main_v65_2))) (broadcastInDim S1 ![] bcast_S_S1 (select (cmpi .slt (res_main_while0b_v91 V0) (constantI S_ 32 0#32)) (addi (res_main_while0b_v91 V0) (constantI S_ 32 400000#32)) (res_main_while0b_v91 V0))) (constant S_ .f32 0xF149F2CA#32) :=
  (val10_keep V0 main_while0b_v158 (by decide)).trans (val9_main_while0b_v158 V0)
set_option maxRecDepth 8192 in
/-- `main_while0b_v159` as the body's window 10 finds or leaves it. -/
theorem val10_main_while0b_v159 (V0 : Valuation τ sig (Elt F)) : val10 V0 (no_index (Proc.devRef .tc main_while0b_v159)) = Host.dynamicUpdateSlice (V0 (Proc.devRef .tc main_v65_3)) (broadcastInDim S1 ![] bcast_S_S1 (res_main_while0b_v91 V0)) (fun k => (((![V0 (Proc.devRef .tc main_v65_1)] : Fin 1 → (⟨S_, .i32⟩ : BufTy).Contents (Elt F))) k (Shape.Idx.first h_S_)).toInt) updateFits_S100_S1 := by
  unfold val10
  simp only [trip_w9]
  after_results_entrywise [val9_main_v65_1, val9_main_while0b_v91, val9_main_v65_3, cast_eq]

/-- The device's buffer contents after the body's first 11 windows. -/
def val11 (V0 : Valuation τ sig (Elt F)) : Valuation τ sig (Elt F) := after trip_w10 (val10 V0)
/-- The buffers that window `trip_w10`'s operations write. -/
abbrev trip_w10_W : List (Ref sig .tc) := [main_while0b_call5_v0, main_while0b_v160]
set_option maxRecDepth 8192 in
/-- The operations of the body's window 10 write no other reference. -/
theorem trip_w10_writes : (trip_w10 : List (HloOp τ sig (Elt F))).Forall fun op => op.writes ⊆ (trip_w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
/-- `main_v65_2` as the body's window 11 finds or leaves it. -/
theorem val11_main_v65_2 (V0 : Valuation τ sig (Elt F)) : val11 V0 (no_index (Proc.devRef .tc main_v65_2)) = V0 (Proc.devRef .tc main_v65_2) :=
  (val11_keep V0 main_v65_2 (by decide)).trans (val10_main_v65_2 V0)
/-- `main_v65_0` as the body's window 11 finds or leaves it. -/
theorem val11_main_v65_0 (V0 : Valuation τ sig (Elt F)) : val11 V0 (no_index (Proc.devRef .tc main_v65_0)) = V0 (Proc.devRef .tc main_v65_0) :=
  (val11_keep V0 main_v65_0 (by decide)).trans (val10_main_v65_0 V0)
/-- `main_v65_3` as the body's window 11 finds or leaves it. -/
theorem val11_main_v65_3 (V0 : Valuation τ sig (Elt F)) : val11 V0 (no_index (Proc.devRef .tc main_v65_3)) = V0 (Proc.devRef .tc main_v65_3) :=
  (val11_keep V0 main_v65_3 (by decide)).trans (val10_main_v65_3 V0)
/-- `main_v65_1` as the body's window 11 finds or leaves it. -/
theorem val11_main_v65_1 (V0 : Valuation τ sig (Elt F)) : val11 V0 (no_index (Proc.devRef .tc main_v65_1)) = V0 (Proc.devRef .tc main_v65_1) :=
  (val11_keep V0 main_v65_1 (by decide)).trans (val10_main_v65_1 V0)
/-- `main_v65_4` as the body's window 11 finds or leaves it. -/
theorem val11_main_v65_4 (V0 : Valuation τ sig (Elt F)) : val11 V0 (no_index (Proc.devRef .tc main_v65_4)) = V0 (Proc.devRef .tc main_v65_4) :=
  (val11_keep V0 main_v65_4 (by decide)).trans (val10_main_v65_4 V0)
/-- `main_while0b_v158` as the body's window 11 finds or leaves it. -/
theorem val11_main_while0b_v158 (V0 : Valuation τ sig (Elt F)) : val11 V0 (no_index (Proc.devRef .tc main_while0b_v158)) = Host.scatter scatter_S400000_S1_S__n_0_0_0 (fun _ b => b) (select (cmpf .ogt (Host.divf (res_main_while0b_v122 V0) (addf (subf (addf (broadcastInDim S400000 ![] bcast_S_S400000 (mulf (subf (shapeCast S_ (extractStridedSlice S1 ![2] (res_main_while0b_v105 V0) slices_S4_S1_2) shapeCasts_S1_S_) (shapeCast S_ (extractStridedSlice S1 ![0] (res_main_while0b_v105 V0) slices_S4_S1_0) shapeCasts_S1_S_)) (subf (shapeCast S_ (extractStridedSlice S1 ![3] (res_main_while0b_v105 V0) slices_S4_S1_3) shapeCasts_S1_S_) (shapeCast S_ (extractStridedSlice S1 ![1] (res_main_while0b_v105 V0) slices_S4_S1_1) shapeCasts_S1_S_)))) (mulf (subf (shapeCast S400000 (extractStridedSlice S400000x1 ![0, 2] (V0 (Proc.devRef .tc main_v65_0)) slices_S400000x4_S400000x1_0_2) shapeCasts_S400000x1_S400000) (shapeCast S400000 (extractStridedSlice S400000x1 ![0, 0] (V0 (Proc.devRef .tc main_v65_0)) slices_S400000x4_S400000x1_0_0) shapeCasts_S400000x1_S400000)) (subf (shapeCast S400000 (extractStridedSlice S400000x1 ![0, 3] (V0 (Proc.devRef .tc main_v65_0)) slices_S400000x4_S400000x1_0_3) shapeCasts_S400000x1_S400000) (shapeCast S400000 (extractStridedSlice S400000x1 ![0, 1] (V0 (Proc.devRef .tc main_v65_0)) slices_S400000x4_S400000x1_0_1) shapeCasts_S400000x1_S400000)))) (res_main_while0b_v122 V0)) (broadcastInDim S400000 ![] bcast_S_S400000 (constant S_ .f32 0x3089705F#32)))) (broadcastInDim S400000 ![] bcast_S_S400000 (constant S_ .f32 0x3EE66666#32))) (broadcastInDim S400000 ![] bcast_S_S400000 (id (constant S_ .f32 0xF149F2CA#32))) (V0 (Proc.devRef .tc main_v65_2))) (broadcastInDim S1 ![] bcast_S_S1 (select (cmpi .slt (res_main_while0b_v91 V0) (constantI S_ 32 0#32)) (addi (res_main_while0b_v91 V0) (constantI S_ 32 400000#32)) (res_main_while0b_v91 V0))) (constant S_ .f32 0xF149F2CA#32) :=
  (val11_keep V0 main_while0b_v158 (by decide)).trans (val10_main_while0b_v158 V0)
/-- `main_while0b_v159` as the body's window 11 finds or leaves it. -/
theorem val11_main_while0b_v159 (V0 : Valuation τ sig (Elt F)) : val11 V0 (no_index (Proc.devRef .tc main_while0b_v159)) = Host.dynamicUpdateSlice (V0 (Proc.devRef .tc main_v65_3)) (broadcastInDim S1 ![] bcast_S_S1 (res_main_while0b_v91 V0)) (fun k => (((![V0 (Proc.devRef .tc main_v65_1)] : Fin 1 → (⟨S_, .i32⟩ : BufTy).Contents (Elt F))) k (Shape.Idx.first h_S_)).toInt) updateFits_S100_S1 :=
  (val11_keep V0 main_while0b_v159 (by decide)).trans (val10_main_while0b_v159 V0)
set_option maxRecDepth 8192 in
/-- `main_while0b_v160` as the body's window 11 finds or leaves it. -/
theorem val11_main_while0b_v160 (V0 : Valuation τ sig (Elt F)) : val11 V0 (no_index (Proc.devRef .tc main_while0b_v160)) = Host.dynamicUpdateSlice (V0 (Proc.devRef .tc main_v65_4)) (broadcastInDim S1 ![] bcast_S_S1 (cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32))) (fun k => (((![V0 (Proc.devRef .tc main_v65_1)] : Fin 1 → (⟨S_, .i32⟩ : BufTy).Contents (Elt F))) k (Shape.Idx.first h_S_)).toInt) updateFits_S100_S1 := by
  unfold val11
  simp only [trip_w10]
  after_results_entrywise [val10_main_v65_1, val10_main_while0b_v97, val10_main_v65_4, cast_eq]

set_option maxRecDepth 8192 in
/-- The body's stretches before `while0Ops0_8`, from any contents: their windows in order. -/
theorem trip_windows (V0 : Valuation τ sig (Elt F)) : after while0Ops0_7 (after while0Ops0_6 (after while0Ops0_5 (after while0Ops0_4 (after while0Ops0_3 (after while0Ops0_2 (after while0Ops0_1 (after while0Ops0 (V0)))))))) = val11 V0 := by
  simp only [while0Ops0_cut, while0Ops0_1_cut, while0Ops0_2_cut, while0Ops0_3_cut, while0Ops0_4_cut, while0Ops0_5_cut, while0Ops0_6_cut, while0Ops0_7_cut, after_append]
  rfl

set_option maxRecDepth 8192 in
set_option maxHeartbeats 2000000 in
/-- `main_v65_0` after one trip's body, from any contents. -/
theorem trip_main_v65_0 (V0 : Valuation τ sig (Elt F)) : afterL bodyI V0 (no_index (Proc.devRef .tc main_v65_0)) = V0 (Proc.devRef .tc main_v65_0) := by
  simp only [bodyI, afterL_cons, afterL_nil, trip_windows]
  after_results
  all_goals (try simp only [val11_main_while0b_v158, val11_main_while0b_v159, val11_main_while0b_v160, val11_main_v65_0, val11_main_v65_1, val11_main_v65_2, val11_main_v65_3, val11_main_v65_4]) <;> rfl
set_option maxRecDepth 8192 in
set_option maxHeartbeats 2000000 in
/-- `main_v65_1` after one trip's body, from any contents. -/
theorem trip_main_v65_1 (V0 : Valuation τ sig (Elt F)) : afterL bodyI V0 (no_index (Proc.devRef .tc main_v65_1)) = id (addi (V0 (Proc.devRef .tc main_v65_1)) (constantI S_ 32 1#32)) := by
  simp only [bodyI, afterL_cons, afterL_nil, trip_windows]
  after_results
  all_goals (try simp only [val11_main_while0b_v158, val11_main_while0b_v159, val11_main_while0b_v160, val11_main_v65_0, val11_main_v65_1, val11_main_v65_2, val11_main_v65_3, val11_main_v65_4]) <;> rfl
set_option maxRecDepth 8192 in
set_option maxHeartbeats 2000000 in
/-- `main_v65_2` after one trip's body, from any contents. -/
theorem trip_main_v65_2 (V0 : Valuation τ sig (Elt F)) : afterL bodyI V0 (no_index (Proc.devRef .tc main_v65_2)) = id (Host.scatter scatter_S400000_S1_S__n_0_0_0 (fun _ b => b) (select (cmpf .ogt (Host.divf (res_main_while0b_v122 V0) (addf (subf (addf (broadcastInDim S400000 ![] bcast_S_S400000 (mulf (subf (shapeCast S_ (extractStridedSlice S1 ![2] (res_main_while0b_v105 V0) slices_S4_S1_2) shapeCasts_S1_S_) (shapeCast S_ (extractStridedSlice S1 ![0] (res_main_while0b_v105 V0) slices_S4_S1_0) shapeCasts_S1_S_)) (subf (shapeCast S_ (extractStridedSlice S1 ![3] (res_main_while0b_v105 V0) slices_S4_S1_3) shapeCasts_S1_S_) (shapeCast S_ (extractStridedSlice S1 ![1] (res_main_while0b_v105 V0) slices_S4_S1_1) shapeCasts_S1_S_)))) (mulf (subf (shapeCast S400000 (extractStridedSlice S400000x1 ![0, 2] (V0 (Proc.devRef .tc main_v65_0)) slices_S400000x4_S400000x1_0_2) shapeCasts_S400000x1_S400000) (shapeCast S400000 (extractStridedSlice S400000x1 ![0, 0] (V0 (Proc.devRef .tc main_v65_0)) slices_S400000x4_S400000x1_0_0) shapeCasts_S400000x1_S400000)) (subf (shapeCast S400000 (extractStridedSlice S400000x1 ![0, 3] (V0 (Proc.devRef .tc main_v65_0)) slices_S400000x4_S400000x1_0_3) shapeCasts_S400000x1_S400000) (shapeCast S400000 (extractStridedSlice S400000x1 ![0, 1] (V0 (Proc.devRef .tc main_v65_0)) slices_S400000x4_S400000x1_0_1) shapeCasts_S400000x1_S400000)))) (res_main_while0b_v122 V0)) (broadcastInDim S400000 ![] bcast_S_S400000 (constant S_ .f32 0x3089705F#32)))) (broadcastInDim S400000 ![] bcast_S_S400000 (constant S_ .f32 0x3EE66666#32))) (broadcastInDim S400000 ![] bcast_S_S400000 (id (constant S_ .f32 0xF149F2CA#32))) (V0 (Proc.devRef .tc main_v65_2))) (broadcastInDim S1 ![] bcast_S_S1 (select (cmpi .slt (res_main_while0b_v91 V0) (constantI S_ 32 0#32)) (addi (res_main_while0b_v91 V0) (constantI S_ 32 400000#32)) (res_main_while0b_v91 V0))) (constant S_ .f32 0xF149F2CA#32)) := by
  simp only [bodyI, afterL_cons, afterL_nil, trip_windows]
  after_results
  all_goals (try simp only [val11_main_while0b_v158, val11_main_while0b_v159, val11_main_while0b_v160, val11_main_v65_0, val11_main_v65_1, val11_main_v65_2, val11_main_v65_3, val11_main_v65_4]) <;> rfl
set_option maxRecDepth 8192 in
set_option maxHeartbeats 2000000 in
/-- `main_v65_3` after one trip's body, from any contents. -/
theorem trip_main_v65_3 (V0 : Valuation τ sig (Elt F)) : afterL bodyI V0 (no_index (Proc.devRef .tc main_v65_3)) = id (Host.dynamicUpdateSlice (V0 (Proc.devRef .tc main_v65_3)) (broadcastInDim S1 ![] bcast_S_S1 (res_main_while0b_v91 V0)) (fun k => (((![V0 (Proc.devRef .tc main_v65_1)] : Fin 1 → (⟨S_, .i32⟩ : BufTy).Contents (Elt F))) k (Shape.Idx.first h_S_)).toInt) updateFits_S100_S1) := by
  simp only [bodyI, afterL_cons, afterL_nil, trip_windows]
  after_results
  all_goals (try simp only [val11_main_while0b_v158, val11_main_while0b_v159, val11_main_while0b_v160, val11_main_v65_0, val11_main_v65_1, val11_main_v65_2, val11_main_v65_3, val11_main_v65_4]) <;> rfl
set_option maxRecDepth 8192 in
set_option maxHeartbeats 2000000 in
/-- `main_v65_4` after one trip's body, from any contents. -/
theorem trip_main_v65_4 (V0 : Valuation τ sig (Elt F)) : afterL bodyI V0 (no_index (Proc.devRef .tc main_v65_4)) = id (Host.dynamicUpdateSlice (V0 (Proc.devRef .tc main_v65_4)) (broadcastInDim S1 ![] bcast_S_S1 (cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32))) (fun k => (((![V0 (Proc.devRef .tc main_v65_1)] : Fin 1 → (⟨S_, .i32⟩ : BufTy).Contents (Elt F))) k (Shape.Idx.first h_S_)).toInt) updateFits_S100_S1) := by
  simp only [bodyI, afterL_cons, afterL_nil, trip_windows]
  after_results
  all_goals (try simp only [val11_main_while0b_v158, val11_main_while0b_v159, val11_main_while0b_v160, val11_main_v65_0, val11_main_v65_1, val11_main_v65_2, val11_main_v65_3, val11_main_v65_4]) <;> rfl

/-- The loop's carried buffers. -/
abbrev carriedRefs : List (Ref sig .tc) := [main_v65_0, main_v65_1, main_v65_2, main_v65_3, main_v65_4]
/-- Two contents agree on the carried buffers: all that one trip reads. -/
def Agree (V V' : Valuation τ sig (Elt F)) : Prop := ∀ j ∈ carriedRefs, V (Proc.devRef .tc j) = V' (Proc.devRef .tc j)

set_option maxRecDepth 8192 in
/-- `res_main_while0b_call1_v0` reads the carried buffers only. -/
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
/-- `res_main_while0b_call1_cst` reads the carried buffers only. -/
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
/-- `res_main_while0b_call1_c` reads the carried buffers only. -/
theorem res_main_while0b_call1_c_congr {V0 V0' : Valuation τ sig (Elt F)} (h : Agree V0 V0') : res_main_while0b_call1_c V0 = res_main_while0b_call1_c V0' := by
  unfold res_main_while0b_call1_c
  rfl
set_option maxRecDepth 8192 in
/-- `res_main_while0b_v91` reads the carried buffers only. -/
theorem res_main_while0b_v91_congr {V0 V0' : Valuation τ sig (Elt F)} (h : Agree V0 V0') : res_main_while0b_v91 V0 = res_main_while0b_v91 V0' := by
  unfold res_main_while0b_v91
  rw [res_main_while0b_call1_v0_congr h, res_main_while0b_call1_cst_congr h, res_main_while0b_call1_c_congr h, h main_v65_2 (by decide)]
set_option maxRecDepth 8192 in
/-- `res_main_while0b_v105` reads the carried buffers only. -/
theorem res_main_while0b_v105_congr {V0 V0' : Valuation τ sig (Elt F)} (h : Agree V0 V0') : res_main_while0b_v105 V0 = res_main_while0b_v105 V0' := by
  unfold res_main_while0b_v105
  rw [res_main_while0b_v91_congr h, h main_v65_0 (by decide)]
set_option maxRecDepth 8192 in
/-- `res_main_while0b_v117` reads the carried buffers only. -/
theorem res_main_while0b_v117_congr {V0 V0' : Valuation τ sig (Elt F)} (h : Agree V0 V0') : res_main_while0b_v117 V0 = res_main_while0b_v117 V0' := by
  unfold res_main_while0b_v117
  rw [res_main_while0b_v105_congr h, h main_v65_0 (by decide)]
set_option maxRecDepth 8192 in
/-- `res_main_while0b_v122` reads the carried buffers only. -/
theorem res_main_while0b_v122_congr {V0 V0' : Valuation τ sig (Elt F)} (h : Agree V0 V0') : res_main_while0b_v122 V0 = res_main_while0b_v122 V0' := by
  unfold res_main_while0b_v122
  rw [res_main_while0b_v117_congr h]

set_option maxRecDepth 8192 in
/-- `main_v65_1` after one trip, of the contents before it. -/
def step_main_v65_1 (V0 : Valuation τ sig (Elt F)) : (Proc.devRef .tc main_v65_1 : DevRef τ sig).ty.Contents (Elt F) :=
  id (addi (V0 (Proc.devRef .tc main_v65_1)) (constantI S_ 32 1#32))
set_option maxRecDepth 8192 in
/-- `step_main_v65_1` reads the carried buffers only. -/
theorem step_main_v65_1_congr {V0 V0' : Valuation τ sig (Elt F)} (h : Agree V0 V0') : step_main_v65_1 V0 = step_main_v65_1 V0' := by
  unfold step_main_v65_1
  rw [h main_v65_1 (by decide)]
set_option maxRecDepth 8192 in
/-- `main_v65_2` after one trip, of the contents before it. -/
def step_main_v65_2 (V0 : Valuation τ sig (Elt F)) : (Proc.devRef .tc main_v65_2 : DevRef τ sig).ty.Contents (Elt F) :=
  id (Host.scatter scatter_S400000_S1_S__n_0_0_0 (fun _ b => b) (select (cmpf .ogt (Host.divf (res_main_while0b_v122 V0) (addf (subf (addf (broadcastInDim S400000 ![] bcast_S_S400000 (mulf (subf (shapeCast S_ (extractStridedSlice S1 ![2] (res_main_while0b_v105 V0) slices_S4_S1_2) shapeCasts_S1_S_) (shapeCast S_ (extractStridedSlice S1 ![0] (res_main_while0b_v105 V0) slices_S4_S1_0) shapeCasts_S1_S_)) (subf (shapeCast S_ (extractStridedSlice S1 ![3] (res_main_while0b_v105 V0) slices_S4_S1_3) shapeCasts_S1_S_) (shapeCast S_ (extractStridedSlice S1 ![1] (res_main_while0b_v105 V0) slices_S4_S1_1) shapeCasts_S1_S_)))) (mulf (subf (shapeCast S400000 (extractStridedSlice S400000x1 ![0, 2] (V0 (Proc.devRef .tc main_v65_0)) slices_S400000x4_S400000x1_0_2) shapeCasts_S400000x1_S400000) (shapeCast S400000 (extractStridedSlice S400000x1 ![0, 0] (V0 (Proc.devRef .tc main_v65_0)) slices_S400000x4_S400000x1_0_0) shapeCasts_S400000x1_S400000)) (subf (shapeCast S400000 (extractStridedSlice S400000x1 ![0, 3] (V0 (Proc.devRef .tc main_v65_0)) slices_S400000x4_S400000x1_0_3) shapeCasts_S400000x1_S400000) (shapeCast S400000 (extractStridedSlice S400000x1 ![0, 1] (V0 (Proc.devRef .tc main_v65_0)) slices_S400000x4_S400000x1_0_1) shapeCasts_S400000x1_S400000)))) (res_main_while0b_v122 V0)) (broadcastInDim S400000 ![] bcast_S_S400000 (constant S_ .f32 0x3089705F#32)))) (broadcastInDim S400000 ![] bcast_S_S400000 (constant S_ .f32 0x3EE66666#32))) (broadcastInDim S400000 ![] bcast_S_S400000 (id (constant S_ .f32 0xF149F2CA#32))) (V0 (Proc.devRef .tc main_v65_2))) (broadcastInDim S1 ![] bcast_S_S1 (select (cmpi .slt (res_main_while0b_v91 V0) (constantI S_ 32 0#32)) (addi (res_main_while0b_v91 V0) (constantI S_ 32 400000#32)) (res_main_while0b_v91 V0))) (constant S_ .f32 0xF149F2CA#32))
set_option maxRecDepth 8192 in
/-- `step_main_v65_2` reads the carried buffers only. -/
theorem step_main_v65_2_congr {V0 V0' : Valuation τ sig (Elt F)} (h : Agree V0 V0') : step_main_v65_2 V0 = step_main_v65_2 V0' := by
  unfold step_main_v65_2
  rw [res_main_while0b_v122_congr h, res_main_while0b_v105_congr h, res_main_while0b_v91_congr h, h main_v65_0 (by decide), h main_v65_2 (by decide)]
set_option maxRecDepth 8192 in
/-- `main_v65_3` after one trip, of the contents before it. -/
def step_main_v65_3 (V0 : Valuation τ sig (Elt F)) : (Proc.devRef .tc main_v65_3 : DevRef τ sig).ty.Contents (Elt F) :=
  id (Host.dynamicUpdateSlice (V0 (Proc.devRef .tc main_v65_3)) (broadcastInDim S1 ![] bcast_S_S1 (res_main_while0b_v91 V0)) (fun k => (((![V0 (Proc.devRef .tc main_v65_1)] : Fin 1 → (⟨S_, .i32⟩ : BufTy).Contents (Elt F))) k (Shape.Idx.first h_S_)).toInt) updateFits_S100_S1)
set_option maxRecDepth 8192 in
/-- `step_main_v65_3` reads the carried buffers only. -/
theorem step_main_v65_3_congr {V0 V0' : Valuation τ sig (Elt F)} (h : Agree V0 V0') : step_main_v65_3 V0 = step_main_v65_3 V0' := by
  unfold step_main_v65_3
  rw [res_main_while0b_v91_congr h, h main_v65_3 (by decide), h main_v65_1 (by decide)]
set_option maxRecDepth 8192 in
/-- `main_v65_4` after one trip, of the contents before it. -/
def step_main_v65_4 (V0 : Valuation τ sig (Elt F)) : (Proc.devRef .tc main_v65_4 : DevRef τ sig).ty.Contents (Elt F) :=
  id (Host.dynamicUpdateSlice (V0 (Proc.devRef .tc main_v65_4)) (broadcastInDim S1 ![] bcast_S_S1 (cmpf .ogt (shapeCast S_ (Host.dynamicSlice S1 (V0 (Proc.devRef .tc main_v65_2)) (fun k => (((![select (cmpi .slt (res_main_while0b_v91 V0) (constantI S_ 32 0#32)) (addi (res_main_while0b_v91 V0) (constantI S_ 32 400000#32)) (res_main_while0b_v91 V0)] : Fin 1 → (⟨S_, .i32⟩ : BufTy).Contents (Elt F))) k (Shape.Idx.first h_S_)).toInt) sliceFits_S400000_S1) shapeCasts_S1_S_) (constant S_ .f32 0xE0AD78EC#32))) (fun k => (((![V0 (Proc.devRef .tc main_v65_1)] : Fin 1 → (⟨S_, .i32⟩ : BufTy).Contents (Elt F))) k (Shape.Idx.first h_S_)).toInt) updateFits_S100_S1)
set_option maxRecDepth 8192 in
/-- `step_main_v65_4` reads the carried buffers only. -/
theorem step_main_v65_4_congr {V0 V0' : Valuation τ sig (Elt F)} (h : Agree V0 V0') : step_main_v65_4 V0 = step_main_v65_4 V0' := by
  unfold step_main_v65_4
  rw [res_main_while0b_v91_congr h, h main_v65_4 (by decide), h main_v65_2 (by decide), h main_v65_1 (by decide)]

/-- ONE TRIP on the carried buffers: the buffers the body writes step, everything else is as it was. -/
def STEP (V0 : Valuation τ sig (Elt F)) : Valuation τ sig (Elt F) :=
  Function.update (Function.update (Function.update (Function.update (V0) (Proc.devRef .tc main_v65_1) (step_main_v65_1 V0)) (Proc.devRef .tc main_v65_2) (step_main_v65_2 V0)) (Proc.devRef .tc main_v65_3) (step_main_v65_3 V0)) (Proc.devRef .tc main_v65_4) (step_main_v65_4 V0)

/-- `STEP` at `main_v65_0`. -/
theorem STEP_main_v65_0 (V0 : Valuation τ sig (Elt F)) : STEP V0 (Proc.devRef .tc main_v65_0) = V0 (Proc.devRef .tc main_v65_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
/-- `STEP` at `main_v65_1`. -/
theorem STEP_main_v65_1 (V0 : Valuation τ sig (Elt F)) : STEP V0 (Proc.devRef .tc main_v65_1) = step_main_v65_1 V0 := by
  unfold STEP; rw [Function.update_of_ne (devRef_ne_of_ne (by decide))]; rw [Function.update_of_ne (devRef_ne_of_ne (by decide))]; rw [Function.update_of_ne (devRef_ne_of_ne (by decide))]; rw [Function.update_self]
/-- `STEP` at `main_v65_2`. -/
theorem STEP_main_v65_2 (V0 : Valuation τ sig (Elt F)) : STEP V0 (Proc.devRef .tc main_v65_2) = step_main_v65_2 V0 := by
  unfold STEP; rw [Function.update_of_ne (devRef_ne_of_ne (by decide))]; rw [Function.update_of_ne (devRef_ne_of_ne (by decide))]; rw [Function.update_self]
/-- `STEP` at `main_v65_3`. -/
theorem STEP_main_v65_3 (V0 : Valuation τ sig (Elt F)) : STEP V0 (Proc.devRef .tc main_v65_3) = step_main_v65_3 V0 := by
  unfold STEP; rw [Function.update_of_ne (devRef_ne_of_ne (by decide))]; rw [Function.update_self]
/-- `STEP` at `main_v65_4`. -/
theorem STEP_main_v65_4 (V0 : Valuation τ sig (Elt F)) : STEP V0 (Proc.devRef .tc main_v65_4) = step_main_v65_4 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v65_0 (after condOps X)).trans ((hc main_v65_0 (by decide)).trans (STEP_main_v65_0 X).symm)
  · exact (trip_main_v65_1 (after condOps X)).trans ((step_main_v65_1_congr hc).trans (STEP_main_v65_1 X).symm)
  · exact (trip_main_v65_2 (after condOps X)).trans ((step_main_v65_2_congr hc).trans (STEP_main_v65_2 X).symm)
  · exact (trip_main_v65_3 (after condOps X)).trans ((step_main_v65_3_congr hc).trans (STEP_main_v65_3 X).symm)
  · exact (trip_main_v65_4 (after condOps X)).trans ((step_main_v65_4_congr hc).trans (STEP_main_v65_4 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v65_0, STEP_main_v65_0]; exact h main_v65_0 (by decide)
  · rw [STEP_main_v65_1, STEP_main_v65_1]; exact step_main_v65_1_congr h
  · rw [STEP_main_v65_2, STEP_main_v65_2]; exact step_main_v65_2_congr h
  · rw [STEP_main_v65_3, STEP_main_v65_3]; exact step_main_v65_3_congr h
  · rw [STEP_main_v65_4, STEP_main_v65_4]; exact step_main_v65_4_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.ReferenceIdeal.Run

end
-- ==== Proof.RefFrame.lean ====
/- What the reference's run leaves in place: the arguments through the whole program, and whatever the loop does not
   write through its trips. -/
module

public import proofs.«01_k».proof.Proof.RefTrip
public import Idealize.ShloMosaic.Lib.Quiescent

@[expose] public section

set_option maxRecDepth 2000

noncomputable section

namespace Cert.ReferenceIdeal.Run

open Cert.ReferenceIdeal Cert.ReferenceIdeal.Gen Cert.ReferenceIdeal.Ops
open Idealize.ShloMosaic Idealize.ShloMosaic.TcCoe
open Idealize.SL.Sem
open Idealize.ShloMosaic.StableHlo

variable {F : FTy → Type} [FloatOps F]

/-- The references that `hostOps0_3` writes, in order. -/
abbrev hostOps0_3_W : List (Ref sig .tc) := [main_v66, main_c_12, main_v67, main_v68, main_c_13, main_v69, main_v70, main_v71, main_v72, main_v73, main_cst_14]
/-- The operations of `hostOps0_3` write no other reference. -/
theorem hostOps0_3_writes : (hostOps0_3 : List (HloOp τ sig (Elt F))).Forall fun op => op.writes ⊆ (hostOps0_3_W.map (Proc.devRef (τ := τ) .tc)).toFinset :=
  StableHlo.forall_writes_sub_of_map rfl
/-- The references that `hostOps0_4` writes, in order. -/
abbrev hostOps0_4_W : List (Ref sig .tc) := [main_call6_v0, main_call6_v1, main_call6_v2, main_v74]
/-- The operations of `hostOps0_4` write no other reference. -/
theorem hostOps0_4_writes : (hostOps0_4 : List (HloOp τ sig (Elt F))).Forall fun op => op.writes ⊆ (hostOps0_4_W.map (Proc.devRef (τ := τ) .tc)).toFinset :=
  StableHlo.forall_writes_sub_of_map rfl
/-- The references that `hostOps0_5` writes, in order. -/
abbrev hostOps0_5_W : List (Ref sig .tc) := [main_c_15, main_v75, main_v76, main_c_16, main_v77, main_v78, main_v79, main_v80, main_v81, main_cst_17]
/-- The operations of `hostOps0_5` write no other reference. -/
theorem hostOps0_5_writes : (hostOps0_5 : List (HloOp τ sig (Elt F))).Forall fun op => op.writes ⊆ (hostOps0_5_W.map (Proc.devRef (τ := τ) .tc)).toFinset :=
  StableHlo.forall_writes_sub_of_map rfl
/-- The references that `hostOps0_6` writes, in order. -/
abbrev hostOps0_6_W : List (Ref sig .tc) := [main_call7_v0, main_call7_v1, main_v82]
/-- The operations of `hostOps0_6` write no other reference. -/
theorem hostOps0_6_writes : (hostOps0_6 : List (HloOp τ sig (Elt F))).Forall fun op => op.writes ⊆ (hostOps0_6_W.map (Proc.devRef (τ := τ) .tc)).toFinset :=
  StableHlo.forall_writes_sub_of_map rfl
/-- The references that `hostOps0_7` writes, in order. -/
abbrev hostOps0_7_W : List (Ref sig .tc) := [main_c_18, main_v83, main_v84, main_c_19, main_v85, main_v86, main_v87, main_v88, main_v89, main_c_20]
/-- The operations of `hostOps0_7` write no other reference. -/
theorem hostOps0_7_writes : (hostOps0_7 : List (HloOp τ sig (Elt F))).Forall fun op => op.writes ⊆ (hostOps0_7_W.map (Proc.devRef (τ := τ) .tc)).toFinset :=
  StableHlo.forall_writes_sub_of_map rfl
/-- The references that `hostOps0_8` writes, in order. -/
abbrev hostOps0_8_W : List (Ref sig .tc) := [main_call8_v0, main_call8_v1, main_v90]
/-- The operations of `hostOps0_8` write no other reference. -/
theorem hostOps0_8_writes : (hostOps0_8 : List (HloOp τ sig (Elt F))).Forall fun op => op.writes ⊆ (hostOps0_8_W.map (Proc.devRef (τ := τ) .tc)).toFinset :=
  StableHlo.forall_writes_sub_of_map rfl

/-- Every reference that a trip of the loop, its condition included, writes. -/
abbrev loopW : List (Ref sig .tc) := condOps_W ++ (while0Ops0_W ++ while0Ops0_1_W ++ while0Ops0_2_W ++ while0Ops0_3_W ++ while0Ops0_4_W ++ while0Ops0_5_W ++ while0Ops0_6_W ++ while0Ops0_7_W ++ while0Ops0_8_W)
/-- Every reference written before the loop. -/
abbrev preW : List (Ref sig .tc) := hostOps0_W ++ hostOps0_1_W ++ hostOps0_2_W
/-- Every reference written after the loop. -/
abbrev postW : List (Ref sig .tc) := hostOps0_3_W ++ hostOps0_4_W ++ hostOps0_5_W ++ hostOps0_6_W ++ hostOps0_7_W ++ hostOps0_8_W

variable (m : (ℓ : Loc nD τ sig) → Buf (Elt F) ℓ)

/-- A buffer no operation before the loop writes is, at the loop's entry, as launched. -/
theorem entry_keeps {b : Ref sig .tc} (hb : b ∉ preW) (c : Dev nD) :
    entryContents preI m c (Proc.devRef .tc b) = m ((c.tc : Thread nD τ).loc b) := by
  simp only [List.mem_append, not_or] at hb
  obtain ⟨⟨h0, h1⟩, h2⟩ := hb
  show afterL preI (launchContents m c) (Proc.devRef .tc b) = _
  simp only [afterL_cons, afterL_nil]
  rw [after_of_writes_sub _ _ hostOps0_2_writes h2, after_of_writes_sub _ _ hostOps0_1_writes h1,
    after_of_writes_sub _ _ hostOps0_writes h0]

/-- A buffer the loop does not write is the same before every trip. -/
theorem loop_keeps {b : Ref sig .tc} (hb : b ∉ loopW) (c : Dev nD) :
    ∀ k, atK m k c (Proc.devRef .tc b) = entryContents preI m c (Proc.devRef .tc b)
  | 0 => rfl
  | k + 1 => by
    have ih := loop_keeps hb c k
    simp only [List.mem_append, not_or] at hb
    obtain ⟨hc, ⟨⟨⟨⟨⟨⟨⟨⟨h0, h1⟩, h2⟩, h3⟩, h4⟩, h5⟩, h6⟩, h7⟩, h8⟩⟩ := hb
    rw [show atK m (k + 1) c = afterL bodyI (after condOps (atK m k c)) from rfl, ← ih]
    simp only [afterL_cons, afterL_nil]
    rw [after_of_writes_sub _ _ while0Ops0_8_writes h8, after_of_writes_sub _ _ while0Ops0_7_writes h7,
      after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc]

/-- A buffer the operations after the loop do not write keeps its contents through them. -/
theorem post_keeps {b : Ref sig .tc} (hb : b ∉ postW) (V : Valuation τ sig (Elt F)) :
    afterL postI V (Proc.devRef .tc b) = V (Proc.devRef .tc b) := by
  simp only [List.mem_append, not_or] at hb
  obtain ⟨⟨⟨⟨⟨h3, h4⟩, h5⟩, h6⟩, h7⟩, h8⟩ := hb
  simp only [afterL_cons, afterL_nil]
  rw [after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3]

/-- A buffer nothing writes ends as launched. -/
theorem final_keeps {b : Ref sig .tc} (h0 : b ∉ preW) (h1 : b ∉ loopW) (h2 : b ∉ postW) (c : Dev nD) :
    finalContents condOps preI bodyI postI 100 m c (Proc.devRef .tc b) = m ((c.tc : Thread nD τ).loc b) := by
  show afterL postI (after condOps (atK m 100 c)) (Proc.devRef .tc b) = _
  rw [post_keeps h2, after_of_writes_sub _ _ condOps_writes (fun h => h1 (List.mem_append_left _ h)), loop_keeps m h1,
    entry_keeps m h0]

/-- No argument is written before the loop, in it, or after it. -/
theorem arg_kept : ∀ b ∈ [main_arg0, main_arg1, main_arg2], b ∉ preW ∧ b ∉ loopW ∧ b ∉ postW := by decide +kernel

/-- The contents the run ends with at an argument are the launched ones. -/
theorem final_arg {b : Ref sig .tc} (hb : b ∈ [main_arg0, main_arg1, main_arg2]) (c : Dev nD) :
    finalContents condOps preI bodyI postI 100 m c (Proc.devRef .tc b) = m ((c.tc : Thread nD τ).loc b) :=
  final_keeps m (arg_kept b hb).1 (arg_kept b hb).2.1 (arg_kept b hb).2.2 c

/-- Every run of the reference ends with its arguments as launched and no counter up. -/
theorem quiescent (ρ : Dev nD → PrngReg) : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) (onTc (τ := τ) (main (F := F))) ⟨m, fun _ => 0, ρ⟩).mono (fun r h =>
    ⟨fun c => ⟨(h c main_arg0 rfl).trans (final_arg m (by decide) c), (h c main_arg1 rfl).trans (final_arg m (by decide) c),
      (h c main_arg2 rfl).trans (final_arg m (by decide) c)⟩,
     sem_eq_zero_of_no_sems (by decide) r.2⟩) (run_fold m ρ)

end Cert.ReferenceIdeal.Run

end
-- ==== Proof.Greedy.lean ====
/- Greedy suppression over the extended reals, free of any program: the entry a round takes, the overlap of two boxes,
   what a round leaves, and why a finite shift of two boxes does not matter to their overlap. -/
module

public import Idealize.ShloMosaic.PureOps.Ideal.Laws
public import Idealize.ShloMosaic.Lib.IdealHost

@[expose] public section

noncomputable section

namespace Cert.Greedy

open Idealize.ShloMosaic

/-- One number for each candidate. -/
abbrev Row : Type := Fin 400000 → EReal

/-- `n` is the least index at which `T` is at its maximum. -/
structure First (T : Row) (n : Fin 400000) : Prop where
  top : ∀ i, T i ≤ T n
  least : ∀ i, T i = T n → n ≤ i

/-- A function on a finite range has a least index at which it is at its maximum. -/
theorem exists_least_max {N : ℕ} [Nonempty (Fin N)] (T : Fin N → EReal) :
    ∃ n, (∀ i, T i ≤ T n) ∧ ∀ i, T i = T n → n ≤ i := by
  obtain ⟨x, hx⟩ := Finite.exists_max T
  obtain ⟨n, hn, hl⟩ : ∃ n, T n = T x ∧ ∀ i, T i = T x → n ≤ i := by
    have hne : (Finset.univ.filter fun i => T i = T x).Nonempty := ⟨x, by simp⟩
    exact ⟨_, (Finset.mem_filter.mp (Finset.min'_mem _ hne)).2,
      fun i hi => Finset.min'_le _ i (Finset.mem_filter.mpr ⟨Finset.mem_univ i, hi⟩)⟩
  exact ⟨n, fun i => hn.symm ▸ hx i, fun i hi => hl i (hi.trans hn)⟩

/-- There is such an index. -/
theorem exists_first (T : Row) : ∃ n, First T n := by
  haveI : Nonempty (Fin 400000) := ⟨0⟩
  obtain ⟨n, h, h'⟩ := exists_least_max T
  exact ⟨n, h, h'⟩

/-- There is only one. -/
theorem First.unique {T : Row} {a b : Fin 400000} (ha : First T a) (hb : First T b) : a = b :=
  have h : T a = T b := le_antisymm (hb.top a) (ha.top b)
  le_antisymm (ha.least b h.symm) (hb.least a h)

/-- The index a round takes. -/
def best (T : Row) : Fin 400000 := (exists_first T).choose

/-- `best` is the least index of the maximum. -/
theorem best_first (T : Row) : First T (best T) := (exists_first T).choose_spec

/-- A box's area, from its four sides (left, top, right, bottom). -/
def area (b : Fin 4 → Row) (n : Fin 400000) : EReal := (b 2 n - b 0 n) * (b 3 n - b 1 n)

/-- How far two boxes overlap along one axis, the sides being `lo` and `hi`. -/
def span (lo hi : Row) (q n : Fin 400000) : EReal := max (min (hi q) (hi n) - max (lo q) (lo n)) 0

/-- The area two boxes share. -/
def shared (b : Fin 4 → Row) (q n : Fin 400000) : EReal := span (b 0) (b 2) q n * span (b 1) (b 3) q n

/-- The intersection of two boxes over their union, the union a little enlarged. -/
def overlap (b : Fin 4 → Row) (q n : Fin 400000) : EReal :=
  Ideal.div (shared b q n) (area b q + area b n - shared b q n + Ideal.ofBits .f32 0x3089705F#32)

/-- How far the boxes of candidate `n`'s class are moved: its class number times 2048. -/
def offset (n : Fin 400000) : ℝ := ((n.val % 20 : ℕ) + 1 : ℝ) * 2048

/-- The boxes, each moved by its class's offset. -/
def moved (b : Fin 4 → Row) : Fin 4 → Row := fun k n => b k n + (offset n : EReal)

/-- What a round leaves: the entry it takes and every entry of too large an overlap with it are masked. -/
def next (b : Fin 4 → Row) (T : Row) : Row := fun n =>
  if Ideal.ofBits .f32 0x3EE66666#32 < overlap (moved b) (best T) n ∨ n = best T then ⊥ else T n

/-- The scores a round may still take, before round `k`. -/
def left (b : Fin 4 → Row) (T : Row) (k : ℕ) : Row := (next b)^[k] T

/-- A round more is `next` of what the rounds before leave. -/
theorem left_succ (b : Fin 4 → Row) (T : Row) (k : ℕ) : left b T (k + 1) = next b (left b T k) :=
  Function.iterate_succ_apply' _ _ _

/-- The scores at and below the threshold masked. -/
def masked (s : Row) : Row := fun n => if Ideal.ofBits .f32 0x3C23D70A#32 < s n then s n else ⊥

/-- The index round `k` takes. -/
def taken (b : Fin 4 → Row) (s : Row) (k : ℕ) : Fin 400000 := best (left b (masked s) k)

/-- Whether what round `k` takes is a score that was not masked. -/
def Kept (b : Fin 4 → Row) (s : Row) (k : ℕ) : Prop :=
  Ideal.ofBits .f32 0xE0AD78EC#32 < left b (masked s) k (taken b s k)

/-! ## What stays true of the remaining scores -/

/-- An entry is masked, or the original score, which is above the threshold. -/
theorem left_cases (b : Fin 4 → Row) (s : Row) (k : ℕ) (n : Fin 400000) :
    left b (masked s) k n = ⊥ ∨ (left b (masked s) k n = s n ∧ Ideal.ofBits .f32 0x3C23D70A#32 < s n) := by
  induction k with
  | zero =>
    show masked s n = ⊥ ∨ (masked s n = s n ∧ _)
    unfold masked
    split
    · exact .inr ⟨rfl, by assumption⟩
    · exact .inl rfl
  | succ k ih =>
    rw [left_succ]
    unfold next
    split
    · exact .inl rfl
    · exact ih

/-! ## The reference's mask is a number -/

/-- The reference's mask as a real number. -/
theorem neg_eq : Ideal.ofBits .f32 0xF149F2CA#32 = ((-(13234890 * 2 ^ 76) : ℝ) : EReal) := by
  simp [Ideal.ofBits, Ideal.ieee, -EReal.coe_mul, -EReal.coe_neg]

/-- The bound that a kept score exceeds, as a real number. -/
theorem low_eq : Ideal.ofBits .f32 0xE0AD78EC#32 = ((-(11368684 * 2 ^ 43) : ℝ) : EReal) := by
  simp [Ideal.ofBits, Ideal.ieee, -EReal.coe_mul, -EReal.coe_neg]

/-- The confidence threshold as a real number. -/
theorem threshold_eq : Ideal.ofBits .f32 0x3C23D70A#32 = ((10737418 / 2 ^ 30 : ℝ) : EReal) := by
  simp [Ideal.ofBits, Ideal.ieee, -EReal.coe_mul, -EReal.coe_neg]; norm_num

/-- The constant one half. -/
theorem half_eq : Ideal.ofBits .f32 0x3F000000#32 = ((1 / 2 : ℝ) : EReal) := by
  simp [Ideal.ofBits, Ideal.ieee, -EReal.coe_mul, -EReal.coe_neg]; norm_num

/-- The constant two. -/
theorem two_eq : Ideal.ofBits .f32 0x40000000#32 = ((2 : ℝ) : EReal) := by
  simp [Ideal.ofBits, Ideal.ieee, -EReal.coe_mul, -EReal.coe_neg]; norm_num

/-- The constant 2048. -/
theorem step_eq : Ideal.ofBits .f32 0x45000000#32 = ((2048 : ℝ) : EReal) := by
  simp [Ideal.ofBits, Ideal.ieee, -EReal.coe_mul, -EReal.coe_neg]; norm_num

/-- It lies below the threshold … -/
theorem neg_lt : Ideal.ofBits .f32 0xF149F2CA#32 < Ideal.ofBits .f32 0x3C23D70A#32 := by
  rw [neg_eq, threshold_eq]
  exact EReal.coe_lt_coe_iff.mpr (by norm_num)

/-- … and not above the bound that a kept score exceeds. -/
theorem not_lt_neg : ¬ Ideal.ofBits .f32 0xE0AD78EC#32 < Ideal.ofBits .f32 0xF149F2CA#32 := by
  rw [neg_eq, low_eq, EReal.coe_lt_coe_iff]
  norm_num

/-- Minus infinity replaced by the reference's mask. -/
def shown (t : EReal) : EReal := if t = ⊥ then Ideal.ofBits .f32 0xF149F2CA#32 else t

/-- Over entries that are masked or above the threshold, that replacement keeps the order. -/
theorem shown_le {t u : EReal} (ht : t = ⊥ ∨ Ideal.ofBits .f32 0x3C23D70A#32 < t)
    (hu : u = ⊥ ∨ Ideal.ofBits .f32 0x3C23D70A#32 < u) : shown t ≤ shown u ↔ t ≤ u := by
  unfold shown
  have hn := neg_lt
  rcases ht with rfl | ht <;> rcases hu with rfl | hu
  · simp
  · have : u ≠ ⊥ := fun h => by rw [h] at hu; exact not_lt_bot hu
    simp only [if_pos, if_neg this, bot_le, iff_true]
    exact (hn.trans hu).le
  · have : t ≠ ⊥ := fun h => by rw [h] at ht; exact not_lt_bot ht
    simp only [if_pos, if_neg this, le_bot_iff, this, iff_false, not_le]
    exact hn.trans ht
  · have h1 : u ≠ ⊥ := fun h => by rw [h] at hu; exact not_lt_bot hu
    have h2 : t ≠ ⊥ := fun h => by rw [h] at ht; exact not_lt_bot ht
    rw [if_neg h1, if_neg h2]

/-- So the least index of the maximum is the same under either mask. -/
theorem first_shown {T : Row} (hT : ∀ i, T i = ⊥ ∨ Ideal.ofBits .f32 0x3C23D70A#32 < T i) {n : Fin 400000}
    (h : First (fun i => shown (T i)) n) : First T n :=
  ⟨fun i => (shown_le (hT i) (hT n)).mp (h.top i), fun i hi => h.least i (by show shown _ = shown _; rw [hi])⟩

/-- What is left is masked or above the threshold. -/
theorem left_ok (b : Fin 4 → Row) (s : Row) (k : ℕ) (i : Fin 400000) :
    left b (masked s) k i = ⊥ ∨ Ideal.ofBits .f32 0x3C23D70A#32 < left b (masked s) k i := by
  rcases left_cases b s k i with h | ⟨h, h'⟩
  · exact .inl h
  · exact .inr (h ▸ h')

/-- A kept entry is the original score. -/
theorem kept_score (b : Fin 4 → Row) (s : Row) (k : ℕ) (h : Kept b s k) :
    left b (masked s) k (taken b s k) = s (taken b s k) := by
  rcases left_cases b s k (taken b s k) with h' | ⟨h', _⟩
  · unfold Kept at h; rw [h'] at h; exact absurd h not_lt_bot
  · exact h'

/-- Under the reference's mask the same entries are kept. -/
theorem kept_shown (b : Fin 4 → Row) (s : Row) (k : ℕ) :
    Ideal.ofBits .f32 0xE0AD78EC#32 < shown (left b (masked s) k (taken b s k)) ↔ Kept b s k := by
  unfold Kept shown
  split
  · rename_i h
    rw [h]
    exact ⟨fun h' => absurd h' not_lt_neg, fun h' => absurd h' not_lt_bot⟩
  · exact Iff.rfl

/-! ## A finite shift cancels -/

/-- A finite number added to both terms of a difference cancels. -/
theorem add_sub_add_coe (a b : EReal) (o : ℝ) : (a + o) - (b + o) = a - b := by
  induction a using EReal.rec <;> induction b using EReal.rec <;> simp [← EReal.coe_add, ← EReal.coe_sub]

/-- A shift split into a difference of shifts and the other shift. -/
theorem add_shift (a : EReal) (o p : ℝ) : a + (o : EReal) = (a + ((o : EReal) - p)) + p := by
  induction a using EReal.rec
  · simp
  · norm_cast; ring_nf
  · norm_cast

/-- The area of a box does not change under its shift. -/
theorem area_moved (b : Fin 4 → Row) (n : Fin 400000) : area (moved b) n = area b n := by
  unfold area moved
  rw [add_sub_add_coe, add_sub_add_coe]

/-- The overlap along an axis of two shifted boxes is that of one box shifted by the difference, and the other. -/
theorem span_moved (lo hi : Row) (q n : Fin 400000) :
    span (fun i => lo i + (offset i : EReal)) (fun i => hi i + (offset i : EReal)) q n
      = max (min (hi q + ((offset q : EReal) - offset n)) (hi n) - max (lo q + ((offset q : EReal) - offset n)) (lo n)) 0 := by
  unfold span
  congr 1
  beta_reduce
  rw [add_shift (hi q) (offset q) (offset n), add_shift (lo q) (offset q) (offset n), min_add_add_right,
    max_add_add_right, add_sub_add_coe]

/-- The overlap of two shifted boxes, from the boxes themselves and the difference of their shifts. -/
theorem overlap_moved (b : Fin 4 → Row) (q n : Fin 400000) :
    overlap (moved b) q n =
      let I := max (min (b 2 q + ((offset q : EReal) - offset n)) (b 2 n) - max (b 0 q + ((offset q : EReal) - offset n)) (b 0 n)) 0
        * max (min (b 3 q + ((offset q : EReal) - offset n)) (b 3 n) - max (b 1 q + ((offset q : EReal) - offset n)) (b 1 n)) 0
      Ideal.div I (area b q + area b n - I + Ideal.ofBits .f32 0x3089705F#32) := by
  unfold overlap shared
  rw [area_moved, area_moved]
  show Ideal.div (span (fun i => b 0 i + (offset i : EReal)) (fun i => b 2 i + (offset i : EReal)) q n
    * span (fun i => b 1 i + (offset i : EReal)) (fun i => b 3 i + (offset i : EReal)) q n) (_ - span (fun i => b 0 i + (offset i : EReal)) (fun i => b 2 i + (offset i : EReal)) q n
    * span (fun i => b 1 i + (offset i : EReal)) (fun i => b 3 i + (offset i : EReal)) q n + _) = _
  rw [span_moved, span_moved]

end Cert.Greedy

end
-- ==== Proof.Inputs.lean ====
/- What both programs compute before and after greedy suppression, as functions of the three arguments: each candidate's
   score and box, and the three results from what the rounds take. -/
module

public import proofs.«01_k».proof.Proof.Greedy

@[expose] public section

noncomputable section

namespace Cert.Greedy

open Idealize.ShloMosaic

/-- A box's largest class logit. -/
def peak (L : Fin 20000 → Fin 21 → EReal) (p : Fin 20000) : EReal :=
  Finset.fold max (Ideal.ofBits .f32 0xFF800000#32) (fun x => L p x) Finset.univ

/-- The softmax over a box's classes. -/
def softmax (L : Fin 20000 → Fin 21 → EReal) (p : Fin 20000) (x : Fin 21) : EReal :=
  Ideal.div (Ideal.exp (L p x - peak L p)) (∑ y : Fin 21, Ideal.exp (L p y - peak L p))

/-- A candidate's score: the softmax at its class, the background class left out. -/
def score (L : Fin 20000 → Fin 21 → EReal) : Row := fun n =>
  softmax L ⟨n.val / 20, by omega⟩ ⟨1 + n.val % 20, by omega⟩

/-- A box's centre along axis `k`. -/
def centre (D P : Fin 20000 → Fin 4 → EReal) (k : Fin 2) (p : Fin 20000) : EReal :=
  D p ⟨k.val, by omega⟩ * Ideal.ofBits .f32 0x3DCCCCCD#32 * P p ⟨2 + k.val, by omega⟩ + P p ⟨k.val, by omega⟩

/-- A box's size along axis `k`. -/
def size (D P : Fin 20000 → Fin 4 → EReal) (k : Fin 2) (p : Fin 20000) : EReal :=
  Ideal.exp (D p ⟨2 + k.val, by omega⟩ * Ideal.ofBits .f32 0x3E4CCCCD#32) * P p ⟨2 + k.val, by omega⟩

/-- A box's low side along axis `k`, in pixels. -/
def low (D P : Fin 20000 → Fin 4 → EReal) (k : Fin 2) (p : Fin 20000) : EReal :=
  (centre D P k p - size D P k p * Ideal.ofBits .f32 0x3F000000#32) * Ideal.ofBits .f32 0x44000000#32

/-- A box's high side along axis `k`, in pixels. -/
def high (D P : Fin 20000 → Fin 4 → EReal) (k : Fin 2) (p : Fin 20000) : EReal :=
  (centre D P k p + size D P k p * Ideal.ofBits .f32 0x3F000000#32) * Ideal.ofBits .f32 0x44000000#32

/-- The four sides of every candidate's box. -/
def corners (D P : Fin 20000 → Fin 4 → EReal) : Fin 4 → Row :=
  ![fun n => low D P 0 ⟨n.val / 20, by omega⟩, fun n => low D P 1 ⟨n.val / 20, by omega⟩,
    fun n => high D P 0 ⟨n.val / 20, by omega⟩, fun n => high D P 1 ⟨n.val / 20, by omega⟩]

open Classical in
/-- The boxes of what the rounds keep. -/
def boxOut (b : Fin 4 → Row) (s : Row) (j : Fin 100) (k : Fin 4) : EReal := if Kept b s j.val then b k (taken b s j.val) else 0

open Classical in
/-- Their scores. -/
def scoreOut (b : Fin 4 → Row) (s : Row) (j : Fin 100) : EReal := if Kept b s j.val then s (taken b s j.val) else 0

open Classical in
/-- Their labels. -/
def labelOut (b : Fin 4 → Row) (s : Row) (j : Fin 100) : BitVec 32 :=
  if Kept b s j.val then BitVec.ofNat 32 ((taken b s j.val).val % 20) + 1#32 else 0#32

end Cert.Greedy

end
-- ==== Proof.KernelPick.lean ====
/- One round of the kernel, its reductions read: the entry it takes is the least one of the maximum, and the box it
   reads is that entry's. -/
module

public import proofs.«01_k».proof.Proof.KernelIdealRun
public import proofs.«01_k».proof.Proof.Greedy
public import Idealize.ShloMosaic.Lib.Pointwise
public import Idealize.ShloMosaic.Lib.Routing.Words
public import Idealize.ShloMosaic.PureOps.Reduce

@[expose] public section

set_option maxRecDepth 16384

noncomputable section

namespace Cert.KernelIdeal.Nms

open Cert.KernelIdeal Cert.KernelIdeal.Gen Cert.Greedy Idealize.ShloMosaic

/-- Candidate `n`'s place in the kernel's block: its class the row, its box the column. -/
def place (n : Fin 400000) : S20x20000.Idx := ix2 (⟨n.val % 20, by omega⟩ : Fin 20) (⟨n.val / 20, by omega⟩ : Fin 20000)

/-- The candidate of a class and a box. -/
def flat (r : Fin 20) (p : Fin 20000) : Fin 400000 := ⟨p.val * 20 + r.val, by omega⟩

/-- The place of the candidate of a class and a box is that class's row and that box's column. -/
theorem place_flat (r : Fin 20) (p : Fin 20000) : place (flat r p) = ix2 r p := by
  unfold place flat
  congr 1 <;> (apply Fin.ext; dsimp only; omega)

/-- Every place is the place of a candidate. -/
theorem exists_flat (i : S20x20000.Idx) : ∃ n, place n = i := by
  obtain ⟨r, p, rfl⟩ : ∃ (r : Fin 20) (p : Fin 20000), i = ix2 r p := ⟨i 0, i 1, eq_ix2 i⟩
  exact ⟨flat r p, place_flat r p⟩

/-- The block as one number for each candidate. -/
def rowOf (S : FVec Ideal S20x20000 .f32) : Row := fun n => S (place n)

/-- A fold of the maximum over a set is the value at an element that no other exceeds. -/
theorem fold_max_at {ι : Type} (s : Finset ι) (f : ι → EReal) (b : EReal) (i : ι) (hi : i ∈ s) (hb : b ≤ f i)
    (h : ∀ j ∈ s, f j ≤ f i) : s.fold max b f = f i :=
  le_antisymm (Finset.fold_max_le _ |>.mpr ⟨hb, h⟩) (Finset.le_fold_max _ |>.mpr (.inr ⟨i, hi, le_rfl⟩))

/-- The same of the signed minimum of words. -/
theorem fold_minsi_at {ι : Type} (s : Finset ι) (f : ι → BitVec 32) (b : BitVec 32) (i : ι) (hi : i ∈ s)
    (hb : (f i).toInt ≤ b.toInt) (h : ∀ j ∈ s, (f i).toInt ≤ (f j).toInt) : s.fold IntOp.minsi b f = f i := by
  have hle : ∀ {x y z : BitVec 32}, x.toInt ≤ (IntOp.minsi y z).toInt ↔ x.toInt ≤ y.toInt ∧ x.toInt ≤ z.toInt := by
    intro x y z
    unfold IntOp.minsi
    split <;> rename_i h <;> simp only [BitVec.slt_iff_toInt_lt] at h <;> omega
  have hge : ∀ {x y z : BitVec 32}, (IntOp.minsi y z).toInt ≤ x.toInt ↔ y.toInt ≤ x.toInt ∨ z.toInt ≤ x.toInt := by
    intro x y z
    unfold IntOp.minsi
    split <;> rename_i h <;> simp only [BitVec.slt_iff_toInt_lt] at h <;> omega
  have h1 : (f i).toInt ≤ (s.fold IntOp.minsi b f).toInt :=
    (Finset.fold_op_rel_iff_and (r := fun x y : BitVec 32 => x.toInt ≤ y.toInt) hle).mpr ⟨hb, h⟩
  have h2 : (s.fold IntOp.minsi b f).toInt ≤ (f i).toInt :=
    (Finset.fold_op_rel_iff_or (r := fun x y : BitVec 32 => y.toInt ≤ x.toInt) hge).mpr (.inr ⟨i, hi, le_rfl⟩)
  exact BitVec.eq_of_toInt_eq (le_antisymm h2 h1)

/-- The maximum's start is minus infinity. -/
theorem start_bot : Ideal.ofBits .f32 0xFF800000#32 = ⊥ := by simp [Ideal.ofBits, Ideal.ieee]

/-- The kernel's mask, named. -/
theorem mask_bot : Named.named (F := Ideal) (φ := .f32) κ "neg" 0xF149F2CA#32 = (⊥ : EReal) :=
  IdealRules.named_const.ideal_named_scalar _ _ _ _ rfl

/-- The one element of a one-element block. -/
theorem extract_one {α : Type} (v : S1x1x1.Idx → α) : extractAt ![0, 0, 0] v inpos_S1x1x1_p0_0_0 = v (ix3 0 0 0) := by
  unfold extractAt
  congr 1
  funext a
  match a with
  | ⟨0, _⟩ => rfl
  | ⟨1, _⟩ => rfl
  | ⟨2, _⟩ => rfl

/-- Every index of a block of one element is that element's. -/
theorem idx_one (i j : S1.Idx) : i = j := by
  funext a
  match a with
  | ⟨0, _⟩ => exact Fin.ext (by have := (i 0).isLt; have := (j 0).isLt; simp at *; omega)

/-- The maximum of a block over all its elements, read where one element is at least every other. -/
theorem max_all (v : FVec Ideal S1x20x20000 .f32) (i : S1x20x20000.Idx) (h : ∀ j, v j ≤ v i) :
    shapeCast S1x1x1 (multiReduction .maximumf [1, 2] S1 v 0xFF800000#32 reduces_S1x20x20000_S1 (.inl rfl) rfl)
      shapeCasts_S1_S1x1x1 (ix3 0 0 0) = v i := by
  show multiReduction .maximumf [1, 2] S1 v 0xFF800000#32 reduces_S1x20x20000_S1 (.inl rfl) rfl _ = v i
  refine (multiReduction_maximumf_eq_fold v _ _ _ _ _).trans ?_
  refine fold_max_at _ v _ i (Finset.mem_filter.mpr ⟨Finset.mem_univ _, idx_one _ _⟩) ?_ fun j _ => h j
  exact le_of_eq_of_le start_bot bot_le

/-- The signed minimum of a block over all its elements, read where one element is at most every other. -/
theorem min_all (v : IVec S1x20x20000 32) (i : S1x20x20000.Idx) (h : ∀ j, (v i).toInt ≤ (v j).toInt) :
    shapeCast S1x1x1 (multiReductionI .minsi [1, 2] S1 v 2147483647#32 reduces_S1x20x20000_S1 rfl)
      shapeCasts_S1_S1x1x1 (ix3 0 0 0) = v i := by
  show multiReductionI .minsi [1, 2] S1 v 2147483647#32 reduces_S1x20x20000_S1 rfl _ = v i
  refine (multiReductionI_eq_fold _ v _ _ _ _).trans ?_
  refine fold_minsi_at _ v _ i (Finset.mem_filter.mpr ⟨Finset.mem_univ _, idx_one _ _⟩) ?_ fun j _ => h j
  have := BitVec.toInt_lt (x := v i)
  have e : (2147483647#32 : BitVec 32).toInt = 2147483647 := by decide
  rw [e]
  omega

/-- The kernel's maximum is the score at the entry the round takes. -/
theorem max_value (S : FVec Ideal S20x20000 .f32) {n : Fin 400000} (h : First (rowOf S) n) : k0_pay1 S = rowOf S n := by
  unfold k0_pay1
  dsimp only
  rw [extract_one]
  have e : shapeCast S1x20x20000 S shapeCasts_S20x20000_S1x20x20000
      ((Shape.reshapeEquiv shapeCasts_S20x20000_S1x20x20000).symm (place n)) = rowOf S n := by
    unfold shapeCast rowOf
    rw [Equiv.apply_symm_apply]
  rw [← e]
  refine max_all _ _ fun j => ?_
  rw [e]
  obtain ⟨n', hn'⟩ := exists_flat (Shape.reshapeEquiv shapeCasts_S20x20000_S1x20x20000 j)
  have := h.top n'
  unfold rowOf at this ⊢
  rw [hn'] at this
  exact this

/-- The number of the candidate in a place. -/
theorem number_place (n : Fin 400000) : k0_pay30 (place n) = BitVec.ofNat 32 n.val := by
  unfold place
  pointwise [k0_pay30]
  apply BitVec.eq_of_toNat_eq
  simp only [IntOp.addi, IntOp.muli, BitVec.toNat_add, BitVec.toNat_mul, BitVec.toNat_ofNat]
  omega

/-- A candidate's number as a word, read signed, is the number. -/
theorem toInt_number (n : Fin 400000) : (BitVec.ofNat 32 n.val).toInt = (n.val : Int) := by
  have := n.isLt
  rw [BitVec.toInt_eq_toNat_of_lt (by rw [BitVec.toNat_ofNat]; omega), BitVec.toNat_ofNat]
  omega

/-- The flat index the kernel takes is the least one of the maximum. -/
theorem pick_value (S : FVec Ideal S20x20000 .f32) {n : Fin 400000} (h : First (rowOf S) n) :
    pick S = BitVec.ofNat 32 n.val := by
  unfold pick k0_pay2
  dsimp only
  rw [extract_one, max_value S h]
  set w : IVec S20x20000 32 := select (cmpf .oeq S (broadcast S20x20000 (rowOf S n))) k0_pay30 (broadcast S20x20000 1073741824#32)
    with hw
  have at_place : ∀ j, w (place j) = if rowOf S j = rowOf S n then BitVec.ofNat 32 j.val else 1073741824#32 := by
    intro j
    rw [hw, ← number_place j]
    show Scalar.select (BitVec.ofBool (decide (S (place j) = rowOf S n))) _ _ = _
    by_cases hj : rowOf S j = rowOf S n
    · rw [if_pos hj, decide_eq_true (show S (place j) = rowOf S n from hj)]; rfl
    · rw [if_neg hj, decide_eq_false (show ¬ S (place j) = rowOf S n from hj)]; rfl
  have e : shapeCast S1x20x20000 w shapeCasts_S20x20000_S1x20x20000
      ((Shape.reshapeEquiv shapeCasts_S20x20000_S1x20x20000).symm (place n)) = BitVec.ofNat 32 n.val := by
    unfold shapeCast
    rw [Equiv.apply_symm_apply, at_place, if_pos rfl]
  rw [← e]
  refine min_all _ _ fun j => ?_
  rw [e]
  obtain ⟨n', hn'⟩ := exists_flat (Shape.reshapeEquiv shapeCasts_S20x20000_S1x20x20000 j)
  show _ ≤ (w (Shape.reshapeEquiv shapeCasts_S20x20000_S1x20x20000 j)).toInt
  rw [← hn', at_place, toInt_number]
  have := n.isLt
  split
  · rename_i he
    rw [toInt_number]
    exact_mod_cast h.least n' he
  · rw [show (1073741824#32 : BitVec 32).toInt = 1073741824 by decide]
    omega

end Cert.KernelIdeal.Nms

end
-- ==== Proof.KernelTrip.lean ====
/- One round of the kernel, read at each element: what it leaves of the scores is a round of greedy suppression, and it
   writes its lane of each output row. -/
module

public import proofs.«01_k».proof.Proof.KernelPick

@[expose] public section

set_option maxRecDepth 16384

noncomputable section

namespace Cert.KernelIdeal.Nms

open Cert.KernelIdeal Cert.KernelIdeal.Gen Cert.Greedy Idealize.ShloMosaic

/-- A candidate's box. -/
def boxOf (n : Fin 400000) : Fin 20000 := ⟨n.val / 20, by omega⟩

/-- A row of numbers, one for each box, as one for each candidate. -/
def spread (a : FVec Ideal S1x20000 .f32) : Row := fun n => a (ix2 0 (boxOf n))

/-- The column that the kernel selects by: the taken candidate's box. -/
theorem column_value (S : FVec Ideal S20x20000 .f32) {n : Fin 400000} (h : First (rowOf S) n) (p : Fin 20000) :
    k0_pay4 k0_pay30 S (ix2 0 p) = BitVec.ofNat 32 (boxOf n).val := by
  have hp : extractAt ![0, 0, 0] (k0_pay2 k0_pay30 S) inpos_S1x1x1_p0_0_0 = BitVec.ofNat 32 n.val := pick_value S h
  have hn := n.isLt
  unfold k0_pay4
  rw [hp]
  show Scalar.select (Scalar.andi (Scalar.cmpi .ne (Scalar.subi (Scalar.extui (Scalar.cmpi .sgt (BitVec.ofNat 32 n.val) 0#32))
      (Scalar.extui (Scalar.cmpi .slt (BitVec.ofNat 32 n.val) 0#32)))
        (Scalar.subi (Scalar.extui (Scalar.cmpi .sgt 20#32 0#32)) (Scalar.extui (Scalar.cmpi .slt 20#32 0#32))))
      (Scalar.cmpi .ne (IntOp.remsi .scalar (BitVec.ofNat 32 n.val) (BitVec.ofNat 32 20)) 0#32))
      (Scalar.subi (IntOp.divsi .scalar (BitVec.ofNat 32 n.val) (BitVec.ofNat 32 20)) 1#32)
      (IntOp.divsi .scalar (BitVec.ofNat 32 n.val) (BitVec.ofNat 32 20)) = _
  rw [Routing.divsi_word .scalar (by omega) (by omega) (by omega), Routing.remsi_word .scalar (by omega) (by omega) (by omega)]
  rcases Nat.eq_zero_or_pos n.val with h0 | h0
  · unfold boxOf
    simp only [h0]
    decide
  · have e1 : Scalar.cmpi .sgt (BitVec.ofNat 32 n.val) 0#32 = 1#1 := by
      show BitVec.ofBool (BitVec.slt 0#32 (BitVec.ofNat 32 n.val)) = 1#1
      rw [show BitVec.slt 0#32 (BitVec.ofNat 32 n.val) = true by
        rw [BitVec.slt_iff_toInt_lt, toInt_number]; simp; omega]
      rfl
    have e2 : Scalar.cmpi .slt (BitVec.ofNat 32 n.val) 0#32 = 0#1 := by
      show BitVec.ofBool (BitVec.slt (BitVec.ofNat 32 n.val) 0#32) = 0#1
      rw [show BitVec.slt (BitVec.ofNat 32 n.val) 0#32 = false by
        rw [Bool.eq_false_iff, ne_eq, BitVec.slt_iff_toInt_lt, toInt_number]; simp]
      rfl
    rw [e1, e2]
    have e3 : Scalar.cmpi .ne (Scalar.subi (Scalar.extui 1#1) (Scalar.extui 0#1))
      (Scalar.subi (Scalar.extui (Scalar.cmpi .sgt 20#32 0#32)) (Scalar.extui (Scalar.cmpi .slt 20#32 0#32))) = 0#1 := by decide
    rw [e3]
    show Scalar.select (0#1 &&& _) _ _ = _
    rw [BitVec.zero_and]
    rfl

/-- The class that the kernel takes is the taken candidate's. -/
theorem class_value (S : FVec Ideal S20x20000 .f32) {n : Fin 400000} (h : First (rowOf S) n) :
    clsOf (pick S) = BitVec.ofNat 32 (n.val % 20) := by
  have hn := n.isLt
  rw [pick_value S h]
  have e : IntOp.remsi .scalar (BitVec.ofNat 32 n.val) 20#32 = BitVec.ofNat 32 (n.val % 20) :=
    Routing.remsi_word .scalar (a := n.val) (b := 20) (by omega) (by omega) (by omega)
  have hall : ∀ r : Fin 20, (let v123 : BitVec 32 := BitVec.ofNat 32 r.val
    Scalar.select (Scalar.andi (Scalar.xori (Scalar.cmpi .slt v123 0#32) (Scalar.cmpi .slt 20#32 0#32)) (Scalar.cmpi .ne v123 0#32))
      (Scalar.addi v123 20#32) v123) = BitVec.ofNat 32 r.val := by decide
  have := hall ⟨n.val % 20, by omega⟩
  rw [← e] at this ⊢
  exact this

/-- A row's largest entry among the taken candidate's column and masks: the row at that candidate. -/
theorem side_fold (S : FVec Ideal S20x20000 .f32) {n : Fin 400000} (h : First (rowOf S) n) (a : FVec Ideal S1x20000 .f32) :
    Finset.fold max (Ideal.ofBits .f32 0xFF800000#32) (fun x : Fin 1 × Fin 20000 =>
        Scalar.select (IntOp.cmpi .eq (k0_pay3 cols (ix2 0 x.2)) (k0_pay4 k0_pay30 S (ix2 0 x.2))) (a (ix2 0 x.2))
          (Named.named (F := Ideal) (φ := .f32) κ "neg" 0xF149F2CA#32)) Finset.univ = spread a n := by
  have hval : ∀ x : Fin 1 × Fin 20000, Scalar.select (IntOp.cmpi .eq (k0_pay3 cols (ix2 0 x.2)) (k0_pay4 k0_pay30 S (ix2 0 x.2)))
      (a (ix2 0 x.2)) (Named.named (F := Ideal) (φ := .f32) κ "neg" 0xF149F2CA#32)
        = if x.2 = boxOf n then spread a n else ⊥ := by
    intro x
    rw [column_value S h, mask_bot]
    have hc : k0_pay3 cols (ix2 0 x.2) = BitVec.ofNat 32 x.2.val := by pointwise [k0_pay3, cols]
    rw [hc]
    have h1 := x.2.isLt
    have h2 := (boxOf n).isLt
    show Scalar.select (BitVec.ofBool (BitVec.ofNat 32 x.2.val == BitVec.ofNat 32 (boxOf n).val)) _ _ = _
    by_cases hx : x.2 = boxOf n
    · rw [if_pos hx, hx, beq_self_eq_true]
      rfl
    · rw [if_neg hx, beq_false_of_ne]
      · rfl
      · intro he
        have := congrArg BitVec.toNat he
        simp only [BitVec.toNat_ofNat] at this
        exact hx (Fin.ext (by omega))
  rw [Finset.fold_congr (g := fun x : Fin 1 × Fin 20000 => if x.2 = boxOf n then spread a n else ⊥) fun x _ => hval x]
  have := fold_max_at (Finset.univ : Finset (Fin 1 × Fin 20000)) (fun x => if x.2 = boxOf n then spread a n else ⊥)
    (Ideal.ofBits .f32 0xFF800000#32) (0, boxOf n) (Finset.mem_univ _) (start_bot ▸ bot_le) (fun x _ => by
      dsimp only
      rw [if_pos rfl]
      split
      · exact le_rfl
      · exact bot_le)
  rw [this, if_pos rfl]

section
variable (S : FVec Ideal S20x20000 .f32) {n : Fin 400000} (h : First (rowOf S) n) (a b c d : FVec Ideal S1x20000 .f32)
include h

/-- The sides of the taken candidate's box. -/
theorem side6 : k0_pay6 a (k0_pay3 cols) (k0_pay4 k0_pay30 S) = spread a n := by
  rw [← side_fold S h a]; pointwise [k0_pay6, k0_pay5]
/-- The side of the box taken that payload 7 reads. -/
theorem side7 : k0_pay7 a (k0_pay3 cols) (k0_pay4 k0_pay30 S) = spread a n := by
  rw [← side_fold S h a]; pointwise [k0_pay7, k0_pay5]
/-- The side of the box taken that payload 8 reads. -/
theorem side8 : k0_pay8 a (k0_pay3 cols) (k0_pay4 k0_pay30 S) = spread a n := by
  rw [← side_fold S h a]; pointwise [k0_pay8, k0_pay5]
/-- The side of the box taken that payload 9 reads. -/
theorem side9 : k0_pay9 a (k0_pay3 cols) (k0_pay4 k0_pay30 S) = spread a n := by
  rw [← side_fold S h a]; pointwise [k0_pay9, k0_pay5]

end

/-- The offset of a class, as the kernel computes it. -/
theorem offset_row (n : Fin 400000) :
    (((((BitVec.ofNat 32 (n.val % 20)).toInt : ℝ) : EReal) + 1) * Ideal.ofBits .f32 0x45000000#32 : EReal) = (offset n : EReal) := by
  rw [step_eq]
  unfold offset
  have e : (BitVec.ofNat 32 (n.val % 20)).toInt = ((n.val % 20 : ℕ) : Int) :=
    toInt_number ⟨n.val % 20, by omega⟩
  rw [e]
  norm_cast

/-- The kernel's row of class shifts. -/
theorem offset_row' (r : Fin 20) (p : Fin 20000) : k0_pay31 (F := Ideal) (ix2 r 0) = (offset (flat r p) : EReal) := by
  rw [← offset_row]
  pointwise [k0_pay31]
  have : (flat r p).val % 20 = r.val := by unfold flat; dsimp only; omega
  rw [this]
  rfl

/-- The four sides of every candidate's box, from the six rows computed before the loop. -/
def sides (v22 v29 v35 v41 v44 v45 : FVec Ideal S1x20000 .f32) : Fin 4 → Row :=
  ![spread (k0_pay25 v44 v45), spread (k0_pay26 v29 v41), spread (k0_pay27 v22 v35), spread (k0_pay28 v29 v41)]

/-- The flat index equals a candidate's number exactly at that candidate. -/
theorem number_eq (n q : Fin 400000) :
    IntOp.cmpi .eq (IntOp.addi (IntOp.muli (BitVec.ofNat 32 (n.val / 20)) 20#32) (BitVec.ofNat 32 (n.val % 20))) (BitVec.ofNat 32 q.val)
      = BitVec.ofBool (decide (n = q)) := by
  have e : IntOp.addi (IntOp.muli (BitVec.ofNat 32 (n.val / 20)) 20#32) (BitVec.ofNat 32 (n.val % 20)) = BitVec.ofNat 32 n.val := by
    apply BitVec.eq_of_toNat_eq
    simp only [IntOp.addi, IntOp.muli, BitVec.toNat_add, BitVec.toNat_mul, BitVec.toNat_ofNat]
    omega
  rw [e]
  show BitVec.ofBool (BitVec.ofNat 32 n.val == BitVec.ofNat 32 q.val) = _
  congr 1
  rw [Bool.eq_iff_iff, beq_iff_eq, decide_eq_true_iff]
  constructor
  · intro he
    have := congrArg BitVec.toNat he
    simp only [BitVec.toNat_ofNat] at this
    exact Fin.ext (by omega)
  · rintro rfl; rfl

end Cert.KernelIdeal.Nms

end
-- ==== Proof.KernelRound.lean ====
/- What a round of the kernel leaves of the scores: a round of greedy suppression. -/
module

public import proofs.«01_k».proof.Proof.KernelTrip

@[expose] public section

set_option maxRecDepth 16384

noncomputable section

namespace Cert.KernelIdeal.Nms

open Cert.KernelIdeal Cert.KernelIdeal.Gen Cert.Greedy Idealize.ShloMosaic

section
variable (a : FVec Ideal S1x20000 .f32) (o : FVec Ideal S20x1 .f32) (cls : BitVec 32) (j i : IVec S1x20000 32) (r : Fin 20) (p : Fin 20000)

/-- A class's shift against the taken one's. -/
def shiftBy (o : FVec Ideal S20x1 .f32) (cls : BitVec 32) (r : Fin 20) : EReal :=
  (((cls.toInt : ℝ) : EReal) + 1) * Ideal.ofBits .f32 0x45000000#32 - o (ix2 r 0)

/-- The larger of the two low sides, the box taken being shifted between the classes. -/
theorem pay12_at : k0_pay12 a o cls j i (ix2 r p) = max (k0_pay6 a j i + shiftBy o cls r) (a (ix2 0 p)) := by
  pointwise [k0_pay12, k0_pay11]
  rfl
/-- The larger of the two low sides, the box taken being shifted between the classes. -/
theorem pay13_at : k0_pay13 a o cls j i (ix2 r p) = max (k0_pay7 a j i + shiftBy o cls r) (a (ix2 0 p)) := by
  pointwise [k0_pay13, k0_pay11]
  rfl
/-- The smaller of the two high sides, the box taken being shifted between the classes. -/
theorem pay14_at : k0_pay14 a o cls j i (ix2 r p) = min (k0_pay8 a j i + shiftBy o cls r) (a (ix2 0 p)) := by
  pointwise [k0_pay14, k0_pay11]
  rfl
/-- The box taken's other high side, shifted between the classes. -/
theorem pay15_at : k0_pay15 a o cls j i (ix2 r 0) = k0_pay9 a j i + shiftBy o cls r := by
  pointwise [k0_pay15, k0_pay11]
  rfl
end

/-- A score after the round: masked at the entry taken and where the overlap is too large, else as before. -/
theorem pay34_at (v22 v29 v35 v41 v44 v45 : FVec Ideal S1x20000 .f32) (S : FVec Ideal S20x20000 .f32) (w : BitVec 32) (z : EReal)
    (x0 x1 x2 : FVec Ideal S20x20000 .f32) (x3 : FVec Ideal S20x1 .f32) (r : Fin 20) (p : Fin 20000) :
    k0_pay34 v22 v29 v35 v41 v44 v45 S w z x0 x1 x2 x3 (ix2 r p) =
      let I := max (x2 (ix2 r p) - x0 (ix2 r p)) 0 * max (min (x3 (ix2 r 0)) (k0_pay28 v29 v41 (ix2 0 p)) - x1 (ix2 r p)) 0
      Scalar.select (IntOp.ori (BitVec.ofBool (decide (Ideal.ofBits .f32 0x3EE66666#32 < Ideal.div I
          (z + (k0_pay27 v22 v35 (ix2 0 p) - k0_pay25 v44 v45 (ix2 0 p)) * (k0_pay28 v29 v41 (ix2 0 p) - k0_pay26 v29 v41 (ix2 0 p))
            - I + Ideal.ofBits .f32 0x3089705F#32))))
        (IntOp.cmpi .eq (IntOp.addi (IntOp.muli (BitVec.ofNat 32 p.val) 20#32) (BitVec.ofNat 32 r.val)) w))
        ⊥ (S (ix2 r p)) := by
  dsimp only
  rw [← mask_bot]
  pointwise [k0_pay34, k0_pay30]

end Cert.KernelIdeal.Nms

end
-- ==== Proof.KernelLoop.lean ====
/- The kernel's loop: after its hundred rounds each output row holds, lane by lane, what each round took. -/
module

public import proofs.«01_k».proof.Proof.KernelRound

@[expose] public section

set_option maxRecDepth 16384

noncomputable section

namespace Cert.KernelIdeal.Nms

open Cert.KernelIdeal Cert.KernelIdeal.Gen Cert.Greedy Idealize.ShloMosaic

/-- A selection by either of two bits is a selection by their disjunction. -/
theorem select_or {α : Type} (P Q : Prop) [Decidable P] [Decidable Q] [Decidable (P ∨ Q)] (x y : α) :
    Scalar.select (IntOp.ori (BitVec.ofBool (decide P)) (BitVec.ofBool (decide Q))) x y = if P ∨ Q then x else y := by
  by_cases hP : P <;> by_cases hQ : Q <;> simp [hP, hQ] <;> rfl

/-- The area of the box taken, at the box's own coordinates. -/
theorem pay10_at (a b c d : FVec Ideal S1x20000 .f32) (j i : IVec S1x20000 32) :
    k0_pay10 a b c d j i = ((k0_pay8 c j i : EReal) - k0_pay6 a j i) * ((k0_pay9 d j i : EReal) - k0_pay7 b j i) := rfl

/-- The shift between a candidate's class and the taken one's. -/
theorem shift_value (S : FVec Ideal S20x20000 .f32) {q : Fin 400000} (h : First (rowOf S) q) (n : Fin 400000) :
    shiftBy k0_pay31 (clsOf (pick S)) ⟨n.val % 20, by omega⟩ = (offset q : EReal) - offset n := by
  unfold shiftBy
  rw [class_value S h, offset_row, offset_row' _ (boxOf n)]
  congr 2
  unfold flat boxOf
  congr 1
  exact Fin.ext (by dsimp only; omega)

/-- What a round leaves of the scores is a round of greedy suppression. -/
theorem trip_scores (v22 v29 v35 v41 v44 v45 : FVec Ideal S1x20000 .f32) (k : Fin k0_t1_loop.trips) (a : Carry Ideal) :
    rowOf (trip v22 v29 v35 v41 v44 v45 k a).1 = next (sides v22 v29 v35 v41 v44 v45) (rowOf a.1) := by
  have h := best_first (rowOf a.1)
  generalize hq : best (rowOf a.1) = q at h
  funext n
  unfold next
  rw [hq, overlap_moved]
  dsimp only
  show k0_pay34 v22 v29 v35 v41 v44 v45 _ _ _ _ _ _ _ (ix2 (⟨n.val % 20, by omega⟩ : Fin 20) (boxOf n)) = _
  rw [pay34_at]
  dsimp only
  rw [pay10_at, pay12_at, pay13_at, pay14_at, pay15_at, shift_value a.1 h n, side6 a.1 h, side7 a.1 h, side8 a.1 h, side9 a.1 h,
    pick_value a.1 h]
  have hb : (boxOf n).val = n.val / 20 := rfl
  rw [hb, number_eq]
  exact select_or _ _ _ _

/-! ## The lanes of the rows -/

/-- A lane is the round's own exactly when their numbers agree. -/
theorem lane_eq (l : Fin 128) (k : Fin k0_t1_loop.trips) :
    IntOp.cmpi .eq (BitVec.ofNat 32 l.val) (Scf.iv 0#32 1#32 k) = BitVec.ofBool (decide (l.val = k.val)) := by
  have e : Scf.iv 0#32 1#32 k = BitVec.ofNat 32 k.val := by
    apply BitVec.eq_of_toNat_eq
    simp [Scf.iv]
  have hk : k.val < 100 := k.isLt
  rw [e]
  show BitVec.ofBool (BitVec.ofNat 32 l.val == BitVec.ofNat 32 k.val) = _
  congr 1
  rw [Bool.eq_iff_iff, beq_iff_eq, decide_eq_true_iff]
  constructor
  · intro he
    have := congrArg BitVec.toNat he
    simp only [BitVec.toNat_ofNat] at this
    omega
  · intro he; rw [he]

/-- A selection by the bit of a proposition is the `if` of it. -/
theorem select_dec {α : Type} (P : Prop) [Decidable P] (x y : α) :
    Scalar.select (BitVec.ofBool (decide P)) x y = if P then x else y := by
  by_cases hP : P <;> simp [hP] <;> rfl

section
variable (acc : FVec Ideal S1x128 .f32) (cacc : IVec S1x128 32) (k : Fin k0_t1_loop.trips) (P : Prop) [Decidable P] (v : EReal) (c : BitVec 32) (l : Fin 128)

/-- A result row's lane after a round: this round's lane is written, the others keep theirs. -/
theorem pay36_at : k0_pay36 acc (Scf.iv 0#32 1#32 k) v (BitVec.ofBool (decide P)) (ix2 0 l) = if l.val = k.val then (if P then v else 0) else acc (ix2 0 l) := by
  rw [← select_dec (l.val = k.val), ← lane_eq, ← select_dec P]
  pointwise [k0_pay36, k0_pay35]
/-- A result row's lane after a round: this round's lane is written, the others keep theirs. -/
theorem pay37_at : k0_pay37 cacc (Scf.iv 0#32 1#32 k) (BitVec.ofBool (decide P)) c (ix2 0 l) = if l.val = k.val then (if P then c + 1#32 else 0#32) else cacc (ix2 0 l) := by
  rw [← select_dec (l.val = k.val), ← lane_eq, ← select_dec P]
  pointwise [k0_pay37, k0_pay35]
  rfl
/-- A result row's lane after a round: this round's lane is written, the others keep theirs. -/
theorem pay38_at : k0_pay38 acc (Scf.iv 0#32 1#32 k) (BitVec.ofBool (decide P)) v (ix2 0 l) = if l.val = k.val then (if P then v else 0) else acc (ix2 0 l) := by
  rw [← select_dec (l.val = k.val), ← lane_eq, ← select_dec P]
  pointwise [k0_pay38, k0_pay35]
/-- A result row's lane after a round: this round's lane is written, the others keep theirs. -/
theorem pay39_at : k0_pay39 acc (Scf.iv 0#32 1#32 k) (BitVec.ofBool (decide P)) v (ix2 0 l) = if l.val = k.val then (if P then v else 0) else acc (ix2 0 l) := by
  rw [← select_dec (l.val = k.val), ← lane_eq, ← select_dec P]
  pointwise [k0_pay39, k0_pay35]
/-- A result row's lane after a round: this round's lane is written, the others keep theirs. -/
theorem pay40_at : k0_pay40 acc (Scf.iv 0#32 1#32 k) (BitVec.ofBool (decide P)) v (ix2 0 l) = if l.val = k.val then (if P then v else 0) else acc (ix2 0 l) := by
  rw [← select_dec (l.val = k.val), ← lane_eq, ← select_dec P]
  pointwise [k0_pay40, k0_pay35]
/-- A result row's lane after a round: this round's lane is written, the others keep theirs. -/
theorem pay41_at : k0_pay41 acc (Scf.iv 0#32 1#32 k) (BitVec.ofBool (decide P)) v (ix2 0 l) = if l.val = k.val then (if P then v else 0) else acc (ix2 0 l) := by
  rw [← select_dec (l.val = k.val), ← lane_eq, ← select_dec P]
  pointwise [k0_pay41, k0_pay35]
end

open Classical in
/-- Whether the score taken exceeds the bound. -/
theorem live_value (S : FVec Ideal S20x20000 .f32) {q : Fin 400000} (h : First (rowOf S) q) :
    live S = BitVec.ofBool (decide (Ideal.ofBits .f32 0xE0AD78EC#32 < rowOf S q)) := by
  unfold live
  rw [max_value S h]
  show BitVec.ofBool (decide _) = _
  congr 1

/-! ## The fold -/

open Classical in
/-- What the loop holds before round `j`: the remaining scores, and in each lane below `j` what that round took if it was kept. -/
structure Holds (b : Fin 4 → Row) (s : Row) (j : ℕ) (a : Carry Ideal) : Prop where
  scores : rowOf a.1 = left b (masked s) j
  score : ∀ l : Fin 128, l.val < j → a.2.1 (ix2 0 l) = if Kept b s l.val then s (taken b s l.val) else 0
  label : ∀ l : Fin 128, l.val < j → a.2.2.1 (ix2 0 l) = if Kept b s l.val then BitVec.ofNat 32 ((taken b s l.val).val % 20) + 1#32 else 0#32
  side0 : ∀ l : Fin 128, l.val < j → a.2.2.2.1 (ix2 0 l) = if Kept b s l.val then b 0 (taken b s l.val) else 0
  side1 : ∀ l : Fin 128, l.val < j → a.2.2.2.2.1 (ix2 0 l) = if Kept b s l.val then b 1 (taken b s l.val) else 0
  side2 : ∀ l : Fin 128, l.val < j → a.2.2.2.2.2.1 (ix2 0 l) = if Kept b s l.val then b 2 (taken b s l.val) else 0
  side3 : ∀ l : Fin 128, l.val < j → a.2.2.2.2.2.2 (ix2 0 l) = if Kept b s l.val then b 3 (taken b s l.val) else 0

open Classical in
/-- One trip of the loop takes the state after `k` rounds to the state after `k + 1`. -/
theorem holds_trip (v22 v29 v35 v41 v44 v45 : FVec Ideal S1x20000 .f32) (s : Row) (k : Fin k0_t1_loop.trips) (a : Carry Ideal)
    (h : Holds (sides v22 v29 v35 v41 v44 v45) s k.val a) :
    Holds (sides v22 v29 v35 v41 v44 v45) s (k.val + 1) (trip v22 v29 v35 v41 v44 v45 k a) := by
  have hf : First (rowOf a.1) (taken (sides v22 v29 v35 v41 v44 v45) s k.val) := by
    unfold taken; rw [← h.scores]; exact best_first _
  have hlive := live_value a.1 hf
  have hmax := max_value a.1 hf
  have hkept : rowOf a.1 (taken (sides v22 v29 v35 v41 v44 v45) s k.val) = left (sides v22 v29 v35 v41 v44 v45) (masked s) k.val (taken (sides v22 v29 v35 v41 v44 v45) s k.val) := by
    rw [h.scores]
  rw [hkept] at hlive hmax
  refine ⟨by rw [trip_scores, h.scores, left_succ], ?_, ?_, ?_, ?_, ?_, ?_⟩ <;> intro l hl <;> unfold trip <;> dsimp only
  · rw [hlive, hmax, pay36_at]
    by_cases e : l.val = k.val
    · rw [if_pos e, e]
      split
      · rename_i hk; rw [if_pos (show Kept _ _ _ from hk)]; exact kept_score _ _ _ hk
      · rename_i hk; rw [if_neg (show ¬ Kept _ _ _ from hk)]
    · rw [if_neg e]; exact h.score l (by omega)
  · rw [hlive, class_value a.1 hf, pay37_at]
    by_cases e : l.val = k.val
    · rw [if_pos e, e]; exact if_congr Iff.rfl rfl rfl
    · rw [if_neg e]; exact h.label l (by omega)
  · rw [hlive, side6 a.1 hf, pay38_at]
    by_cases e : l.val = k.val
    · rw [if_pos e, e]; exact if_congr Iff.rfl rfl rfl
    · rw [if_neg e]; exact h.side0 l (by omega)
  · rw [hlive, side7 a.1 hf, pay39_at]
    by_cases e : l.val = k.val
    · rw [if_pos e, e]; exact if_congr Iff.rfl rfl rfl
    · rw [if_neg e]; exact h.side1 l (by omega)
  · rw [hlive, side8 a.1 hf, pay40_at]
    by_cases e : l.val = k.val
    · rw [if_pos e, e]; exact if_congr Iff.rfl rfl rfl
    · rw [if_neg e]; exact h.side2 l (by omega)
  · rw [hlive, side9 a.1 hf, pay41_at]
    by_cases e : l.val = k.val
    · rw [if_pos e, e]; exact if_congr Iff.rfl rfl rfl
    · rw [if_neg e]; exact h.side3 l (by omega)

/-- The scores the loop starts from. -/
theorem start_scores (v11 : FVec Ideal S20x20000 .f32) : rowOf (k0_pay29 v11) = masked (rowOf v11) := by
  funext n
  unfold masked
  rw [← select_dec, ← mask_bot]
  unfold rowOf place
  pointwise [k0_pay29]

/-- A fold over the numbers below `N` keeps an invariant counted by the round. -/
theorem fold_counted {C : Type} {N : ℕ} (g : Fin N → C → C) (Inv : ℕ → C → Prop) (a : C) (h0 : Inv 0 a)
    (hs : ∀ (k : Fin N) (c : C), Inv k.val c → Inv (k.val + 1) (g k c)) : Inv N (Scf.fold g a) := by
  induction N generalizing a Inv with
  | zero => rw [Scf.fold_eq]; exact h0
  | succ N ih =>
    rw [Scf.fold_eq, List.finRange_succ, List.foldl_cons, List.foldl_map]
    have := ih (fun k c => g k.succ c) (fun j => Inv (j + 1)) (g 0 a) (hs 0 a h0) (fun k c h => hs k.succ c h)
    rwa [Scf.fold_eq] at this

/-- So the state after all the trips. -/
theorem holds_fold (v11 : FVec Ideal S20x20000 .f32) (v22 v29 v35 v41 v44 v45 : FVec Ideal S1x20000 .f32) :
    Holds (sides v22 v29 v35 v41 v44 v45) (rowOf v11) k0_t1_loop.trips (Scf.fold (trip v22 v29 v35 v41 v44 v45) (start v11)) := by
  refine fold_counted (trip v22 v29 v35 v41 v44 v45) (fun j a => Holds (sides v22 v29 v35 v41 v44 v45) (rowOf v11) j a) (start v11) ?_ ?_
  · exact ⟨start_scores _, fun _ h => absurd h (Nat.not_lt_zero _), fun _ h => absurd h (Nat.not_lt_zero _), fun _ h => absurd h (Nat.not_lt_zero _),
      fun _ h => absurd h (Nat.not_lt_zero _), fun _ h => absurd h (Nat.not_lt_zero _), fun _ h => absurd h (Nat.not_lt_zero _)⟩
  · exact fun k c h => holds_trip v22 v29 v35 v41 v44 v45 (rowOf v11) k c h

/-- The loop makes 100 trips. -/
theorem trips_eq : k0_t1_loop.trips = 100 := rfl

/-- The state after a number of rounds, that number rewritten. -/
theorem holds_at {b : Fin 4 → Row} {s : Row} {N M : ℕ} {a : Carry Ideal} (e : N = M) (h : Holds b s N a) : Holds b s M a := e ▸ h

/-- What the loop leaves, from the three input blocks. -/
theorem holds_final (x0 : FVec Ideal S21x20000 .f32) (x1 x2 : FVec Ideal S4x20000 .f32) :
    Holds (sides (k0_pay19 x1 x2) (k0_pay20 x1 x2) (k0_pay21 x1 x2) (k0_pay22 x1 x2) (k0_pay23 x1 x2) k0_pay24) (rowOf (k0_pay16 x0))
      100 (final x0 x1 x2) := by
  have := holds_fold (k0_pay16 x0) (k0_pay19 x1 x2) (k0_pay20 x1 x2) (k0_pay21 x1 x2) (k0_pay22 x1 x2) (k0_pay23 x1 x2) k0_pay24
  unfold final
  exact holds_at trips_eq this

end Cert.KernelIdeal.Nms

end
-- ==== Proof.KernelIdealValue.lean ====
/- What the kernel's run leaves in its three results, from its arguments. -/
module

public import proofs.«01_k».proof.Proof.KernelLoop
public import Idealize.ShloMosaic.Lib.Pipeline.Value
public import Idealize.ShloMosaic.Lib.Pipeline.ValueKit
public import Idealize.ShloMosaic.Lib.Claim
public import Idealize.ShloMosaic.Lib.Tactic.CleanTypes

@[expose] public section

set_option maxRecDepth 16384

noncomputable section

namespace Cert.KernelIdeal.Nms

open Cert.KernelIdeal Cert.KernelIdeal.Gen Cert.Greedy Idealize.ShloMosaic Idealize.ShloMosaic.TcCoe
open Idealize.ShloMosaic.Pipeline (Dat)

variable (m : (ℓ : Loc nD τ sig) → Buf (Elt Ideal) ℓ) (ρ : Dev nD → PrngReg)

/-- The one point of the grid. -/
abbrev pt : Fin cfg0.N := ⟨0, by decide⟩

/-- The block of input 0 is the whole array. -/
theorem iblk_0 (c : Dev nD) (t : Fin cfg0.N) : iblk m c 0 t = V m c main_call0_v1 := by
  funext y
  blk_simp [iblk]
  congr 1
  funext a
  apply Fin.ext
  show _ = (y a).val
  blk_simp
  have e : win0_0.index t a = 0 := rfl
  rw [e, Nat.zero_mul, Nat.zero_add]

/-- The block of input 1 is the whole array. -/
theorem iblk_1 (c : Dev nD) (t : Fin cfg0.N) : iblk m c 1 t = V m c main_call0_v3 := by
  funext y
  blk_simp [iblk]
  congr 1
  funext a
  apply Fin.ext
  show _ = (y a).val
  blk_simp
  have e : win0_1.index t a = 0 := rfl
  rw [e, Nat.zero_mul, Nat.zero_add]

/-- The block of input 2 is the whole array. -/
theorem iblk_2 (c : Dev nD) (t : Fin cfg0.N) : iblk m c 2 t = V m c main_call0_v4 := by
  funext y
  blk_simp [iblk]
  congr 1
  funext a
  apply Fin.ext
  show _ = (y a).val
  blk_simp
  have e : win0_2.index t a = 0 := rfl
  rw [e, Nat.zero_mul, Nat.zero_add]

/-- The array of input 0, from the argument. -/
theorem entry_0 (c : Dev nD) (x : Fin 21) (p : Fin 20000) :
    V m c main_call0_v1 (ix2 x p) = m ((c.tc : Thread nD τ).loc main_arg0) (ix3 0 p x) := by
  show StableHlo.after hostOps0 (fun b => m (c, b)) (Proc.devRef .tc _) _ = _
  after_results
  simp only [StableHlo.TRef.toBuf, StableHlo.TRef.ofBuf, cast_cast, cast_eq]
  pointwise []
/-- The array of input 1, from the argument. -/
theorem entry_1 (c : Dev nD) (x : Fin 4) (p : Fin 20000) :
    V m c main_call0_v3 (ix2 x p) = m ((c.tc : Thread nD τ).loc main_arg1) (ix3 0 p x) := by
  show StableHlo.after hostOps0 (fun b => m (c, b)) (Proc.devRef .tc _) _ = _
  after_results
  simp only [StableHlo.TRef.toBuf, StableHlo.TRef.ofBuf, cast_cast, cast_eq]
  pointwise []
/-- The array of input 2, from the argument. -/
theorem entry_2 (c : Dev nD) (x : Fin 4) (p : Fin 20000) :
    V m c main_call0_v4 (ix2 x p) = m ((c.tc : Thread nD τ).loc main_arg2) (ix2 p x) := by
  show StableHlo.after hostOps0 (fun b => m (c, b)) (Proc.devRef .tc _) _ = _
  after_results
  simp only [StableHlo.TRef.toBuf, StableHlo.TRef.ofBuf, cast_cast, cast_eq]
  pointwise []

/-- What the region leaves in array 3. -/
theorem arr_3 (c : Dev nD) : (dats m 0 c).arrAt 3 cfg0.N = (finalAt m c pt).2.1 := by
  refine (dats m 0 c).arrAt_eq_of_after_last 3 pt (by decide +kernel) _ fun y => ?_
  blk_simp
  exact congrFun (after_3 m c pt) y
/-- What the region leaves in array 4. -/
theorem arr_4 (c : Dev nD) : (dats m 0 c).arrAt 4 cfg0.N = (finalAt m c pt).2.2.1 := by
  refine (dats m 0 c).arrAt_eq_of_after_last 4 pt (by decide +kernel) _ fun y => ?_
  blk_simp
  exact congrFun (after_4 m c pt) y
/-- What the region leaves in array 5. -/
theorem arr_5 (c : Dev nD) : (dats m 0 c).arrAt 5 cfg0.N = (finalAt m c pt).2.2.2.1 := by
  refine (dats m 0 c).arrAt_eq_of_after_last 5 pt (by decide +kernel) _ fun y => ?_
  blk_simp
  exact congrFun (after_5 m c pt) y
/-- What the region leaves in array 6. -/
theorem arr_6 (c : Dev nD) : (dats m 0 c).arrAt 6 cfg0.N = (finalAt m c pt).2.2.2.2.1 := by
  refine (dats m 0 c).arrAt_eq_of_after_last 6 pt (by decide +kernel) _ fun y => ?_
  blk_simp
  exact congrFun (after_6 m c pt) y
/-- What the region leaves in array 7. -/
theorem arr_7 (c : Dev nD) : (dats m 0 c).arrAt 7 cfg0.N = (finalAt m c pt).2.2.2.2.2.1 := by
  refine (dats m 0 c).arrAt_eq_of_after_last 7 pt (by decide +kernel) _ fun y => ?_
  blk_simp
  exact congrFun (after_7 m c pt) y
/-- What the region leaves in array 8. -/
theorem arr_8 (c : Dev nD) : (dats m 0 c).arrAt 8 cfg0.N = (finalAt m c pt).2.2.2.2.2.2 := by
  refine (dats m 0 c).arrAt_eq_of_after_last 8 pt (by decide +kernel) _ fun y => ?_
  blk_simp
  exact congrFun (after_8 m c pt) y

/-- Different windows have different arrays. -/
theorem arr_inj : Function.Injective (Pipeline.arrRef spec0) := launch0.win.arr_inj

/-- A result row is its array's first hundred lanes. -/
theorem tail_1 (W : Valuation τ sig (Elt Ideal)) (j : Fin 100) :
    StableHlo.after hostOps1 W (Proc.devRef .tc main_v0_1) (ix1 j) = W (Proc.devRef .tc main_call0_v5_0) (ix2 0 (⟨j.val, by omega⟩ : Fin 128)) := by
  after_results
  simp only [StableHlo.TRef.toBuf, StableHlo.TRef.ofBuf, cast_cast, cast_eq]
  pointwise []
/-- The labels after the region: the first 100 lanes of the row of labels. -/
theorem tail_2 (W : Valuation τ sig (Elt Ideal)) (j : Fin 100) :
    StableHlo.after hostOps1 W (Proc.devRef .tc main_v0_2) (ix1 j) = W (Proc.devRef .tc main_call0_v5_1) (ix2 0 (⟨j.val, by omega⟩ : Fin 128)) := by
  after_results
  simp only [StableHlo.TRef.toBuf, StableHlo.TRef.ofBuf, cast_cast, cast_eq]
  pointwise []
/-- The boxes after the region: the four rows of sides, their first 100 lanes. -/
theorem tail_0 (W : Valuation τ sig (Elt Ideal)) (j : Fin 100) (k : Fin 4) :
    StableHlo.after hostOps1 W (Proc.devRef .tc main_v0_0) (ix2 j k) = ![W (Proc.devRef .tc main_call0_v5_2) (ix2 0 (⟨j.val, by omega⟩ : Fin 128)), W (Proc.devRef .tc main_call0_v5_3) (ix2 0 (⟨j.val, by omega⟩ : Fin 128)), W (Proc.devRef .tc main_call0_v5_4) (ix2 0 (⟨j.val, by omega⟩ : Fin 128)), W (Proc.devRef .tc main_call0_v5_5) (ix2 0 (⟨j.val, by omega⟩ : Fin 128))] k := by
  have h18 : StableHlo.after hostOps1.dropLast W (Proc.devRef .tc main_call0_v18) (ix2 j 0) = W (Proc.devRef .tc main_call0_v5_2) (ix2 0 (⟨j.val, by omega⟩ : Fin 128)) := by
    dsimp only [hostOps1, List.dropLast]
    after_results
    simp only [StableHlo.TRef.toBuf, StableHlo.TRef.ofBuf, cast_cast, cast_eq]
    pointwise []
  have h19 : StableHlo.after hostOps1.dropLast W (Proc.devRef .tc main_call0_v19) (ix2 j 0) = W (Proc.devRef .tc main_call0_v5_3) (ix2 0 (⟨j.val, by omega⟩ : Fin 128)) := by
    dsimp only [hostOps1, List.dropLast]
    after_results
    simp only [StableHlo.TRef.toBuf, StableHlo.TRef.ofBuf, cast_cast, cast_eq]
    pointwise []
  have h20 : StableHlo.after hostOps1.dropLast W (Proc.devRef .tc main_call0_v20) (ix2 j 0) = W (Proc.devRef .tc main_call0_v5_4) (ix2 0 (⟨j.val, by omega⟩ : Fin 128)) := by
    dsimp only [hostOps1, List.dropLast]
    after_results
    simp only [StableHlo.TRef.toBuf, StableHlo.TRef.ofBuf, cast_cast, cast_eq]
    pointwise []
  have h21 : StableHlo.after hostOps1.dropLast W (Proc.devRef .tc main_call0_v21) (ix2 j 0) = W (Proc.devRef .tc main_call0_v5_5) (ix2 0 (⟨j.val, by omega⟩ : Fin 128)) := by
    dsimp only [hostOps1, List.dropLast]
    after_results
    simp only [StableHlo.TRef.toBuf, StableHlo.TRef.ofBuf, cast_cast, cast_eq]
    pointwise []
  have hl : StableHlo.after hostOps1 W (Proc.devRef .tc main_v0_0)
      = concatenate S100x4 1 [⟨S100x1, StableHlo.after hostOps1.dropLast W (Proc.devRef .tc main_call0_v18)⟩, ⟨S100x1, StableHlo.after hostOps1.dropLast W (Proc.devRef .tc main_call0_v19)⟩,
        ⟨S100x1, StableHlo.after hostOps1.dropLast W (Proc.devRef .tc main_call0_v20)⟩, ⟨S100x1, StableHlo.after hostOps1.dropLast W (Proc.devRef .tc main_call0_v21)⟩] concatenates_S100x1_S100x1_S100x1_S100x1_S100x4_d1 := by
    generalize hX : StableHlo.after hostOps1.dropLast W = X
    have : StableHlo.after hostOps1 W = (hostOps1.getLast (by simp [hostOps1])).result X := by rw [← hX]; rfl
    rw [this]
    dsimp only [hostOps1, List.getLast]
    exact StableHlo.nary_result' _ _ _ _ _
  rw [hl]
  generalize StableHlo.after hostOps1.dropLast W = X at *
  rw [← h18, ← h19, ← h20, ← h21]
  match k with
  | 0 => pointwise []
  | 1 => pointwise []
  | 2 => pointwise []
  | 3 => pointwise []

end Cert.KernelIdeal.Nms

end
-- ==== Proof.KernelResult.lean ====
/- The kernel's three results, as greedy suppression of its arguments' scores and boxes. -/
module

public import proofs.«01_k».proof.Proof.Inputs
public import proofs.«01_k».proof.Proof.KernelIdealValue

@[expose] public section

set_option maxRecDepth 16384

noncomputable section

namespace Cert.KernelIdeal.Nms

open Cert.KernelIdeal Cert.KernelIdeal.Gen Cert.Greedy Idealize.ShloMosaic Idealize.ShloMosaic.TcCoe
open Idealize.SL.Sem
open Idealize.ShloMosaic.Pipeline (Dat)

section
variable (L : Fin 20000 → Fin 21 → EReal) (D P : Fin 20000 → Fin 4 → EReal)
variable (x0 : FVec Ideal S21x20000 .f32) (x1 x2 : FVec Ideal S4x20000 .f32)

/-- The kernel's scores are the candidates' scores. -/
theorem scores_value (h0 : ∀ x p, x0 (ix2 x p) = L p x) : rowOf (k0_pay16 x0) = score L := by
  funext n
  unfold rowOf place score softmax peak
  pointwise [k0_pay16]
  simp only [h0]

/-- The kernel's rows of sides are the candidates' corners. -/
theorem sides_value (h1 : ∀ x p, x1 (ix2 x p) = D p x) (h2 : ∀ x p, x2 (ix2 x p) = P p x) :
    sides (k0_pay19 x1 x2) (k0_pay20 x1 x2) (k0_pay21 x1 x2) (k0_pay22 x1 x2) (k0_pay23 x1 x2) k0_pay24 = corners D P := by
  have e0 : ∀ p, k0_pay25 (F := Ideal) (k0_pay23 x1 x2) k0_pay24 (ix2 0 p) = low D P 0 p := by
    intro p
    unfold low centre size
    pointwise [k0_pay25, k0_pay23, k0_pay24, k0_pay19, k0_pay21, k0_pay17, k0_pay18]
    simp only [h1, h2]
  have e1 : ∀ p, k0_pay26 (F := Ideal) (k0_pay20 x1 x2) (k0_pay22 x1 x2) (ix2 0 p) = low D P 1 p := by
    intro p
    unfold low centre size
    pointwise [k0_pay26, k0_pay20, k0_pay22, k0_pay17, k0_pay18]
    simp only [h1, h2]
  have e2 : ∀ p, k0_pay27 (F := Ideal) (k0_pay19 x1 x2) (k0_pay21 x1 x2) (ix2 0 p) = high D P 0 p := by
    intro p
    unfold high centre size
    pointwise [k0_pay27, k0_pay19, k0_pay21, k0_pay17, k0_pay18]
    simp only [h1, h2]
  have e3 : ∀ p, k0_pay28 (F := Ideal) (k0_pay20 x1 x2) (k0_pay22 x1 x2) (ix2 0 p) = high D P 1 p := by
    intro p
    unfold high centre size
    pointwise [k0_pay28, k0_pay20, k0_pay22, k0_pay17, k0_pay18]
    simp only [h1, h2]
  unfold sides corners
  funext k n
  match k with
  | 0 => exact e0 _
  | 1 => exact e1 _
  | 2 => exact e2 _
  | 3 => exact e3 _

end

variable (m : (ℓ : Loc nD τ sig) → Buf (Elt Ideal) ℓ) (ρ : Dev nD → PrngReg)

/-- The arguments, at coordinates. -/
def logits (c : Dev nD) : Fin 20000 → Fin 21 → EReal := fun p x => m ((c.tc : Thread nD τ).loc main_arg0) (ix3 0 p x)
/-- The box offsets, at coordinates. -/
def deltas (c : Dev nD) : Fin 20000 → Fin 4 → EReal := fun p x => m ((c.tc : Thread nD τ).loc main_arg1) (ix3 0 p x)
/-- The prior boxes, at coordinates. -/
def priors (c : Dev nD) : Fin 20000 → Fin 4 → EReal := fun p x => m ((c.tc : Thread nD τ).loc main_arg2) (ix2 p x)

/-- The candidates' scores and boxes, from the arguments. -/
abbrev argScore (c : Dev nD) : Row := score (logits m c)
/-- The candidates' boxes, from the arguments. -/
abbrev argCorners (c : Dev nD) : Fin 4 → Row := corners (deltas m c) (priors m c)

/-- The state after all rounds, from the arguments. -/
theorem holds_arg (c : Dev nD) : Holds (argCorners m c) (argScore m c) 100 (finalAt m c pt) := by
  have := holds_final (iblk m c 0 pt) (iblk m c 1 pt) (iblk m c 2 pt)
  rw [scores_value (logits m c) (iblk m c 0 pt) fun x p => (congrFun (iblk_0 m c pt) _).trans (entry_0 m c x p),
    sides_value (deltas m c) (priors m c) (iblk m c 1 pt) (iblk m c 2 pt) (fun x p => (congrFun (iblk_1 m c pt) _).trans (entry_1 m c x p))
      (fun x p => (congrFun (iblk_2 m c pt) _).trans (entry_2 m c x p))] at this
  exact this

/-- What the run leaves of the region's arrays, as the lines after the region find them. -/
abbrev atTail (c : Dev nD) : Valuation τ sig (Elt Ideal) :=
  Pipeline.withArrays spec0 c (V0 m c) fun w => (dats m 0 c).arrAt w cfg0.N

/-- The results are what the lines after the region compute from what the region leaves. -/
theorem tail_eq (c : Dev nD) (b : Ref sig .tc) :
    Pipeline.afterTail₀ cfgs (dats m) 0 (V0 m) [hostOps1] c b = StableHlo.after hostOps1 (atTail m c) (Proc.devRef .tc b) := rfl

/-- There each of the region's arrays holds what the region has written to it. -/
theorem atTail_arr (c : Dev nD) (w : Fin cfg0.W) : atTail m c (Proc.devRef .tc (Pipeline.arrRef spec0 w)) = (dats m 0 c).arrAt w cfg0.N :=
  Pipeline.withArrays_arr spec0 arr_inj c (V0 m c) _ w

/-- The boxes. -/
theorem result_0 (c : Dev nD) (j : Fin 100) (k : Fin 4) :
    Pipeline.afterTail₀ cfgs (dats m) 0 (V0 m) [hostOps1] c main_v0_0 (ix2 j k) = boxOut (argCorners m c) (argScore m c) j k := by
  have h := holds_arg m c
  rw [tail_eq, tail_0, show atTail m c (Proc.devRef .tc main_call0_v5_2) = _ from (atTail_arr m c 5).trans (arr_5 m c),
    show atTail m c (Proc.devRef .tc main_call0_v5_3) = _ from (atTail_arr m c 6).trans (arr_6 m c),
    show atTail m c (Proc.devRef .tc main_call0_v5_4) = _ from (atTail_arr m c 7).trans (arr_7 m c),
    show atTail m c (Proc.devRef .tc main_call0_v5_5) = _ from (atTail_arr m c 8).trans (arr_8 m c)]
  unfold boxOut
  match k with
  | 0 => exact h.side0 _ j.isLt
  | 1 => exact h.side1 _ j.isLt
  | 2 => exact h.side2 _ j.isLt
  | 3 => exact h.side3 _ j.isLt

/-- The scores. -/
theorem result_1 (c : Dev nD) (j : Fin 100) :
    Pipeline.afterTail₀ cfgs (dats m) 0 (V0 m) [hostOps1] c main_v0_1 (ix1 j) = scoreOut (argCorners m c) (argScore m c) j := by
  rw [tail_eq, tail_1, show atTail m c (Proc.devRef .tc main_call0_v5_0) = _ from (atTail_arr m c 3).trans (arr_3 m c)]
  exact (holds_arg m c).score _ j.isLt

/-- The labels. -/
theorem result_2 (c : Dev nD) (j : Fin 100) :
    Pipeline.afterTail₀ cfgs (dats m) 0 (V0 m) [hostOps1] c main_v0_2 (ix1 j) = labelOut (argCorners m c) (argScore m c) j := by
  rw [tail_eq, tail_2, show atTail m c (Proc.devRef .tc main_call0_v5_1) = _ from (atTail_arr m c 4).trans (arr_4 m c)]
  exact (holds_arg m c).label _ j.isLt

/-- Every run of the kernel ends with the boxes, scores and labels of greedy suppression, its arguments kept. -/
theorem run_value : θ_run defs (onTc (τ := τ) (main (F := Ideal))) ⟨m, fun _ => 0, ρ⟩ (fun r => ∀ c : Dev nD,
      (∀ j k, r.2.mem ((c.tc : Thread nD τ).loc main_v0_0) (ix2 j k) = boxOut (argCorners m c) (argScore m c) j k)
      ∧ (∀ j, r.2.mem ((c.tc : Thread nD τ).loc main_v0_1) (ix1 j) = scoreOut (argCorners m c) (argScore m c) j)
      ∧ (∀ j, r.2.mem ((c.tc : Thread nD τ).loc main_v0_2) (ix1 j) = labelOut (argCorners m c) (argScore m c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨fun j k => (congrFun ((h.1 c).2 main_v0_0 (Pipeline.mem_restRefs_of main_v0_0 (by decide) (by decide))) _).trans (result_0 m c j k),
      fun j => (congrFun ((h.1 c).2 main_v0_1 (Pipeline.mem_restRefs_of main_v0_1 (by decide) (by decide))) _).trans (result_1 m c j),
      fun j => (congrFun ((h.1 c).2 main_v0_2 (Pipeline.mem_restRefs_of main_v0_2 (by decide) (by decide))) _).trans (result_2 m c j),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩) (run_main m ρ)

end Cert.KernelIdeal.Nms

end
-- ==== Proof.RefPick.lean ====
/- The index a round of the reference takes: its arg-max is the least index of the maximum. -/
module

public import proofs.«01_k».proof.Proof.RefTrip
public import proofs.«01_k».proof.Proof.Greedy
public import Idealize.ShloMosaic.Lib.Pointwise
public import Idealize.ShloMosaic.Lib.Routing.OpsSet
public import Idealize.ShloMosaic.Lib.WordCmp
public import Idealize.ShloMosaic.PureOps.Reduce

@[expose] public section

set_option maxRecDepth 16384

noncomputable section

namespace Cert.ReferenceIdeal.Run

open Cert.ReferenceIdeal Cert.ReferenceIdeal.Gen Cert.Greedy Idealize.ShloMosaic

/-- A candidate's number as a word, read signed, is the number. -/
theorem toInt_index (n : Fin 400000) : (BitVec.ofNat 32 n.val).toInt = (n.val : Int) :=
  WordCmp.toInt_ofNat_of_lt (by have := n.isLt; omega)

open Classical in
/-- One step of the arg-max keeps the pair of the larger value, and of equal values the one of the smaller index. -/
theorem argmax_step (p r : EReal × BitVec 32) :
    reducer_argmax_f32_i32 (F := Ideal) p r = if r.1 < p.1 ∨ (p.1 = r.1 ∧ p.2.toInt < r.2.toInt) then p else r := by
  obtain ⟨a, i⟩ := p
  obtain ⟨b, j⟩ := r
  have hlt : i.slt j = decide (i.toInt < j.toInt) := by
    by_cases h : i.toInt < j.toInt
    · rw [decide_eq_true h]; exact BitVec.slt_iff_toInt_lt.mpr h
    · rw [decide_eq_false h]; exact Bool.eq_false_iff.mpr fun h' => h (BitVec.slt_iff_toInt_lt.mp h')
  unfold reducer_argmax_f32_i32
  simp only [Ideal.cmpf_def, Ideal.cmp, IntOp.cmpi, IntOp.ori, IntOp.andi, hlt]
  by_cases h1 : b < a
  · have h2 : a ≠ b := ne_of_gt h1
    simp [h1, h2, Scalar.select]
  · by_cases h2 : a = b
    · subst h2
      by_cases h3 : i.toInt < j.toInt <;> simp [h3, Scalar.select]
    · simp [h1, h2, Scalar.select]

/-- The arg-max's fold over a list of pairs is the pair that is best among them and the starting pair. -/
theorem argmax_fold (l : List (EReal × BitVec 32)) : ∀ (p q : EReal × BitVec 32), q ∈ p :: l →
    (∀ r ∈ p :: l, r.1 < q.1 ∨ (r.1 = q.1 ∧ q.2.toInt ≤ r.2.toInt)) →
    l.foldl (reducer_argmax_f32_i32 (F := Ideal)) p = q := by
  induction l with
  | nil => intro p q hq _; exact (List.mem_singleton.mp hq).symm
  | cons r l ih =>
    intro p q hq h
    rw [List.foldl_cons]
    have hp := h p (by simp)
    have hr := h r (by simp)
    have hc := argmax_step p r
    refine ih _ q ?_ ?_
    · rw [hc]
      rcases List.mem_cons.mp hq with rfl | hq
      · split
        · simp
        · rename_i hn
          rcases hr with hr | ⟨h1, h2⟩
          · exact absurd (Or.inl hr) hn
          · have : q = r := by
              refine Prod.ext h1.symm (BitVec.eq_of_toInt_eq ?_)
              have : ¬ q.2.toInt < r.2.toInt := fun h' => hn (.inr ⟨h1.symm, h'⟩)
              omega
            rw [this]; simp
      · rcases List.mem_cons.mp hq with rfl | hq
        · split
          · rename_i hn
            exfalso
            rcases hn with hn | ⟨h1, h2⟩
            · rcases hp with hp | ⟨hp, _⟩
              · exact absurd hp (not_lt.mpr hn.le)
              · exact absurd hp (ne_of_gt hn)
            · rcases hp with hp | ⟨_, hp⟩
              · exact absurd h1 (ne_of_lt hp)
              · omega
          · simp
        · exact List.mem_cons_of_mem _ hq
    · intro x hx
      rcases List.mem_cons.mp hx with rfl | hx
      · rw [hc]; split <;> assumption
      · exact h x (by simp [hx])

/-- The arg-max of a vector of numbers is the least index of its maximum. -/
theorem argmax_value (T : FVec Ideal S400000 .f32) (y : IVec S400000 32) (hy : ∀ n : Fin 400000, y (ix1 n) = BitVec.ofNat 32 n.val)
    (ix : FVec Ideal S_ .f32) (iy : IVec S_ 32) (hix : ∀ j, ix j = (⊥ : EReal)) (hiy : ∀ j, iy j = 0#32)
    {n : Fin 400000} (h : First (fun n => T (ix1 n)) n) (j : S_.Idx) :
    (Host.argReduce reducer_argmax_f32_i32 T y ix iy reducesTo_S400000_S_d0 h_S_ j).2 = BitVec.ofNat 32 n.val := by
  rw [Ideal.argReduce_eq_reduce2, Host.reduce2_eq_foldl_fiber]
  rw [argmax_fold _ _ (T (ix1 n), BitVec.ofNat 32 n.val)]
  · refine List.mem_cons_of_mem _ ?_
    unfold Host.argReduceFiber
    refine List.mem_map.mpr ⟨S400000.rowMajor (ix1 n), List.mem_filter.mpr ⟨List.mem_finRange _, ?_⟩, ?_⟩
    · exact decide_eq_true (funext fun i => i.elim0)
    · rw [Equiv.symm_apply_apply, hy]
  · intro r hr
    have h0 : (BitVec.ofNat 32 n.val).toInt = (n.val : Int) := toInt_index n
    rcases List.mem_cons.mp hr with rfl | hr
    · rw [hix, hiy]
      dsimp only
      rcases eq_or_ne (T (ix1 n)) (⊥ : EReal) with e | e
      · have e0 : T (ix1 (0 : Fin 400000)) = T (ix1 n) := le_antisymm (h.top 0) (e ▸ bot_le)
        have := h.least 0 e0
        have e1 : n = 0 := le_antisymm this (Fin.zero_le _)
        refine .inr ⟨e.symm, ?_⟩
        rw [h0, e1]
        exact le_refl (0 : Int)
      · exact .inl (bot_lt_iff_ne_bot.mpr e)
    · unfold Host.argReduceFiber at hr
      obtain ⟨i, -, rfl⟩ := List.mem_map.mp hr
      obtain ⟨x, hx⟩ : ∃ x : Fin 400000, S400000.rowMajor.symm i = ix1 x := ⟨_, eq_ix1 _⟩
      rw [hx, hy]
      dsimp only
      rw [toInt_index, toInt_index]
      rcases lt_or_eq_of_le (h.top x) with hl | he
      · exact .inl hl
      · exact .inr ⟨he, by exact_mod_cast h.least x he⟩

/-- The index the reference's round takes. -/
theorem pick (V : Valuation τ sig (Elt Ideal)) {n : Fin 400000}
    (h : First (fun n => V (Proc.devRef .tc main_v65_2) (ix1 n)) n) (j : S_.Idx) :
    res_main_while0b_v91 V j = BitVec.ofNat 32 n.val := by
  unfold res_main_while0b_v91
  refine argmax_value (V (Proc.devRef .tc main_v65_2)) (res_main_while0b_call1_v0 V) (fun _ => rfl)
    (res_main_while0b_call1_cst V) (res_main_while0b_call1_c V) (fun _ => ?_) (fun _ => rfl) h j
  show Ideal.ofBits .f32 0xFF800000#32 = ⊥
  simp [Ideal.ofBits, Ideal.ieee]

end Cert.ReferenceIdeal.Run

end
-- ==== Proof.RefStep.lean ====
/- One round of the reference read at elements: the box taken, the overlap with every candidate, the scores left, and
   what the round writes of its index and of its score. -/
module

public import proofs.«01_k».proof.Proof.RefPick

@[expose] public section

set_option maxRecDepth 16384

noncomputable section

namespace Cert.ReferenceIdeal.Run

open Cert.ReferenceIdeal Cert.ReferenceIdeal.Gen Cert.Greedy Idealize.ShloMosaic

/-! ## Reads and writes at a computed index -/

/-- A row sliced out at a computed index. -/
theorem slice_row (B : FVec Ideal S400000x4 .f32) (st : Fin 2 → Int) (q : Fin 400000) (h0 : st 0 = (q.val : Int)) (h1 : st 1 = 0)
    (k : Fin 4) : Host.dynamicSlice S1x4 B st sliceFits_S400000x4_S1x4 (ix2 0 k) = B (ix2 q k) := by
  rw [WordCmp.dynamicSlice_eq_extract S1x4 B st _ ![q.val, 0] ⟨rfl, fun a => by
    match a with
    | ⟨0, _⟩ => exact q.isLt
    | ⟨1, _⟩ => exact le_refl 4⟩ fun a => by
    match a with
    | ⟨0, _⟩ => exact h0
    | ⟨1, _⟩ => exact h1]
  unfold extractStridedSlice
  congr 1
  funext a
  match a with
  | ⟨0, _⟩ => rfl
  | ⟨1, _⟩ => exact Fin.ext (Nat.zero_add _)

/-- An entry sliced out at a computed index. -/
theorem slice_entry (B : FVec Ideal S400000 .f32) (st : Fin 1 → Int) (q : Fin 400000) (h0 : st 0 = (q.val : Int)) :
    Host.dynamicSlice S1 B st sliceFits_S400000_S1 (ix1 0) = B (ix1 q) := by
  rw [WordCmp.dynamicSlice_eq_extract S1 B st _ ![q.val] ⟨rfl, fun a => by
    match a with
    | ⟨0, _⟩ => exact q.isLt⟩ fun a => by
    match a with
    | ⟨0, _⟩ => exact h0]
  unfold extractStridedSlice
  congr 1
  funext a
  match a with
  | ⟨0, _⟩ => rfl

/-- A lane overwritten at a computed index. -/
theorem update_lane {α : Type} (x : S100.Idx → α) (u : S1.Idx → α) (st : Fin 1 → Int) (k : ℕ) (hk : k < 100) (h0 : st 0 = (k : Int))
    (j : Fin 100) : Host.dynamicUpdateSlice x u st updateFits_S100_S1 (ix1 j) = if j.val = k then u (ix1 0) else x (ix1 j) := by
  rw [WordCmp.dynamicUpdateSlice_eq_update x u st _ ![k] ⟨rfl, fun a => by
    match a with
    | ⟨0, _⟩ => exact hk⟩ fun a => by
    match a with
    | ⟨0, _⟩ => exact h0]
  unfold updateSlice
  split
  · rename_i h
    have h := h 0
    have h' : k ≤ j.val ∧ j.val < k + 1 := h
    rw [if_pos (by omega)]
    congr 1
    funext a
    match a with
    | ⟨0, _⟩ => exact Fin.ext (by show j.val - k = 0; omega)
  · rename_i h
    rw [if_neg]
    rintro rfl
    refine h fun a => ?_
    match a with
    | ⟨0, _⟩ => exact ⟨le_refl j.val, Nat.lt_succ_self j.val⟩

/-- An entry overwritten by a scatter at a computed index. -/
theorem scatter_entry (x : FVec Ideal S400000 .f32) (i : IVec S1 32) (u : FVec Ideal S_ .f32) (q : Fin 400000)
    (h : ∀ j, i j = BitVec.ofNat 32 q.val) (n : Fin 400000) :
    Host.scatter scatter_S400000_S1_S__n_0_0_0 (fun _ b => b) x i u (ix1 n) = if n = q then u ix0 else x (ix1 n) := by
  have hs : ∀ k, scatter_S400000_S1_S__n_0_0_0.start k i 0 = (q.val : Int) := fun k => by
    unfold ScatterDims.start
    split
    · rw [h]
      exact toInt_index q
    · rename_i hn
      exact absurd (List.mem_singleton.mpr rfl) hn
  have hw : ∀ k, scatter_S400000_S1_S__n_0_0_0.window k 0 = 0 := fun k => by
    unfold ScatterDims.window
    split
    · rename_i hin
      exact absurd hin (by decide)
    · rfl
  have hl : ∀ k, scatter_S400000_S1_S__n_0_0_0.resultIdx? k i = some (ix1 n) ↔ n = q := fun k => by
    rw [ix1_eq_valueIdx]
    refine (Routing.resultIdx?_ix1 scatter_S400000_S1_S__n_0_0_0 k i n).trans ?_
    rw [hs, hw]
    constructor
    · intro h'
      exact Fin.ext (by omega)
    · rintro rfl
      rfl
  split
  · rename_i e
    refine Routing.scatter_set_hit _ _ _ _ _ _ (fun k _ => congrArg u (Subsingleton.elim _ _)) ix0 ((hl _).mpr e)
  · rename_i e
    exact Routing.scatter_set_miss _ _ _ _ _ fun k h' => e ((hl k).mp h')

open Classical in
/-- The bit that says whether an entry is above the bound of a kept score. -/
theorem above_bit (D : FVec Ideal S1 .f32) :
    broadcastInDim S1 ![] bcast_S_S1 (cmpf .ogt (shapeCast S_ D shapeCasts_S1_S_) (constant S_ .f32 0xE0AD78EC#32)) (ix1 0)
      = if Ideal.ofBits .f32 0xE0AD78EC#32 < D (ix1 0) then 1#1 else 0#1 := by
  pointwise []
  split
  · rename_i h
    rw [decide_eq_true h]
    rfl
  · rename_i h
    rw [decide_eq_false h]
    rfl

/-! ## The round -/

section
variable (V : Valuation τ sig (Elt Ideal)) (b : Fin 4 → Row) (q : Fin 400000)

/-- The index a round takes is not negative: its wrap is itself. -/
theorem wrapped (hv : ∀ j, res_main_while0b_v91 V j = BitVec.ofNat 32 q.val) (j : S_.Idx) :
    select (cmpi .slt (res_main_while0b_v91 V) (constantI S_ 32 0#32)) (addi (res_main_while0b_v91 V) (constantI S_ 32 400000#32))
      (res_main_while0b_v91 V) j = BitVec.ofNat 32 q.val := by
  show Scalar.select (IntOp.cmpi .slt (res_main_while0b_v91 V j) 0#32) _ (res_main_while0b_v91 V j) = _
  rw [hv, Routing.wrap_of_lt]
  rw [BitVec.toNat_ofNat]
  have := q.isLt
  omega

/-- The box taken. -/
theorem box_value (hv : ∀ j, res_main_while0b_v91 V j = BitVec.ofNat 32 q.val)
    (hb : ∀ n k, V (Proc.devRef .tc main_v65_0) (ix2 n k) = b k n) (k : Fin 4) :
    res_main_while0b_v105 V (ix1 k) = b k q := by
  have e : res_main_while0b_v105 V (ix1 k) = Host.dynamicSlice S1x4 (V (Proc.devRef .tc main_v65_0)) (fun k => (((![select (cmpi .slt (res_main_while0b_v91 V) (constantI S_ 32 0#32)) (addi (res_main_while0b_v91 V) (constantI S_ 32 400000#32)) (res_main_while0b_v91 V), select (cmpi .slt (constantI S_ 32 0#32) (constantI S_ 32 0#32)) (addi (constantI S_ 32 0#32) (constantI S_ 32 4#32)) (constantI S_ 32 0#32)] : Fin 2 → (⟨S_, .i32⟩ : BufTy).Contents (Elt Ideal))) k (Shape.Idx.first h_S_)).toInt) sliceFits_S400000x4_S1x4 (ix2 0 k) := by
    unfold res_main_while0b_v105
    generalize (Host.dynamicSlice S1x4 _ _ _ : FVec Ideal S1x4 .f32) = X
    pointwise []
  have key : ∀ st : Fin 2 → Int, st 0 = (q.val : Int) → st 1 = 0 →
      Host.dynamicSlice S1x4 (V (Proc.devRef .tc main_v65_0)) st sliceFits_S400000x4_S1x4 (ix2 0 k) = b k q :=
    fun st h0 h1 => (slice_row (V (Proc.devRef .tc main_v65_0)) st q h0 h1 k).trans (hb q k)
  rw [e]
  refine key _ ?_ ?_
  · have h := wrapped V q hv (Shape.Idx.first h_S_)
    simp only [Matrix.cons_val_zero]
    rw [h]
    exact toInt_index q
  · rfl

/-- The overlap, along each axis, of the box taken with another. -/
theorem span_value (hv : ∀ j, res_main_while0b_v91 V j = BitVec.ofNat 32 q.val)
    (hb : ∀ n k, V (Proc.devRef .tc main_v65_0) (ix2 n k) = b k n) (n : Fin 400000) :
    res_main_while0b_v117 V (ix2 n 0) = span (b 0) (b 2) q n ∧ res_main_while0b_v117 V (ix2 n 1) = span (b 1) (b 3) q n := by
  have h0 : (id (constant (F := Ideal) S_ FTy.f32 0#32) ix0 : EReal) = 0 := by
    show Ideal.ofBits .f32 0#32 = 0
    simp [Ideal.ofBits, Ideal.ieee]
  constructor
  · unfold res_main_while0b_v117
    pointwise []
    rw [h0, box_value V b q hv hb, box_value V b q hv hb, hb, hb]
    unfold span
    rw [max_comm]
  · unfold res_main_while0b_v117
    pointwise []
    rw [h0, box_value V b q hv hb, box_value V b q hv hb, hb, hb]
    unfold span
    rw [max_comm]

/-- The area shared. -/
theorem shared_value (hv : ∀ j, res_main_while0b_v91 V j = BitVec.ofNat 32 q.val)
    (hb : ∀ n k, V (Proc.devRef .tc main_v65_0) (ix2 n k) = b k n) (n : Fin 400000) :
    res_main_while0b_v122 V (ix1 n) = shared b q n := by
  unfold res_main_while0b_v122
  pointwise []
  rw [(span_value V b q hv hb n).1, (span_value V b q hv hb n).2]
  rfl

open Classical in
/-- The scores after the round: the entry taken, and those of too large an overlap, hold the mask. -/
theorem scores_value (hv : ∀ j, res_main_while0b_v91 V j = BitVec.ofNat 32 q.val)
    (hb : ∀ n k, V (Proc.devRef .tc main_v65_0) (ix2 n k) = b k n) (n : Fin 400000) :
    step_main_v65_2 V (ix1 n) = if Ideal.ofBits .f32 0x3EE66666#32 < overlap b q n ∨ n = q then Ideal.ofBits .f32 0xF149F2CA#32
      else V (Proc.devRef .tc main_v65_2) (ix1 n) := by
  unfold step_main_v65_2
  rw [id_eq]
  refine (scatter_entry _ _ _ q (fun j => wrapped V q hv _) n).trans ?_
  by_cases e : n = q
  · rw [if_pos e, if_pos (.inr e)]
    rfl
  · rw [if_neg e]
    pointwise []
    rw [shared_value V b q hv hb, box_value V b q hv hb, box_value V b q hv hb, box_value V b q hv hb,
      box_value V b q hv hb, hb, hb, hb, hb]
    refine if_congr ?_ rfl rfl
    exact (or_iff_left e).symm

/-- The kept indices after the round. -/
theorem index_value (hv : ∀ j, res_main_while0b_v91 V j = BitVec.ofNat 32 q.val) (k : ℕ) (hk : k < 100)
    (hc : ∀ j, V (Proc.devRef .tc main_v65_1) j = BitVec.ofNat 32 k) (j : Fin 100) :
    step_main_v65_3 V (ix1 j) = if j.val = k then BitVec.ofNat 32 q.val else V (Proc.devRef .tc main_v65_3) (ix1 j) := by
  unfold step_main_v65_3
  refine (update_lane _ _ _ k hk ?_ j).trans (if_congr Iff.rfl (hv _) rfl)
  show BitVec.toInt (V (Proc.devRef .tc main_v65_1) _) = _
  rw [hc]
  exact WordCmp.toInt_ofNat_of_lt (by omega)

open Classical in
/-- Whether each index is kept, after the round. -/
theorem valid_value (hv : ∀ j, res_main_while0b_v91 V j = BitVec.ofNat 32 q.val) (k : ℕ) (hk : k < 100)
    (hc : ∀ j, V (Proc.devRef .tc main_v65_1) j = BitVec.ofNat 32 k) (j : Fin 100) :
    step_main_v65_4 V (ix1 j) = if j.val = k then
        (if Ideal.ofBits .f32 0xE0AD78EC#32 < V (Proc.devRef .tc main_v65_2) (ix1 q) then 1#1 else 0#1)
      else V (Proc.devRef .tc main_v65_4) (ix1 j) := by
  unfold step_main_v65_4
  refine (update_lane _ _ _ k hk ?_ j).trans (if_congr Iff.rfl ?_ rfl)
  · show BitVec.toInt (V (Proc.devRef .tc main_v65_1) _) = _
    rw [hc]
    exact WordCmp.toInt_ofNat_of_lt (by omega)
  · refine (above_bit _).trans (if_congr ?_ rfl rfl)
    have key : ∀ st : Fin 1 → Int, st 0 = (q.val : Int) →
        Host.dynamicSlice S1 (V (Proc.devRef .tc main_v65_2)) st sliceFits_S400000_S1 (ix1 0) = V (Proc.devRef .tc main_v65_2) (ix1 q) :=
      fun st h0 => slice_entry (V (Proc.devRef .tc main_v65_2)) st q h0
    rw [key]
    have h := wrapped V q hv (Shape.Idx.first h_S_)
    simp only [Matrix.cons_val_zero]
    rw [h]
    exact toInt_index q

end

end Cert.ReferenceIdeal.Run

end
-- ==== Proof.RefLoop.lean ====
/- The reference's loop: after `k` rounds the scores are those that `k` rounds of greedy suppression leave, and the
   first `k` lanes of its results say what those rounds take and keep. -/
module

public import proofs.«01_k».proof.Proof.RefStep

@[expose] public section

set_option maxRecDepth 16384

noncomputable section

namespace Cert.ReferenceIdeal.Run

open Cert.ReferenceIdeal Cert.ReferenceIdeal.Gen Cert.Greedy Idealize.ShloMosaic

open Classical in
/-- What the buffers hold before round `k`. -/
structure Holds (b : Fin 4 → Row) (s : Row) (k : ℕ) (V : Valuation τ sig (Elt Ideal)) : Prop where
  boxes : ∀ n x, V (Proc.devRef .tc main_v65_0) (ix2 n x) = moved b x n
  count : ∀ j, V (Proc.devRef .tc main_v65_1) j = BitVec.ofNat 32 k
  rest : ∀ n, V (Proc.devRef .tc main_v65_2) (ix1 n) = shown (left b (masked s) k n)
  index : ∀ j : Fin 100, j.val < k → V (Proc.devRef .tc main_v65_3) (ix1 j) = BitVec.ofNat 32 (taken b s j.val).val
  valid : ∀ j : Fin 100, j.val < k → V (Proc.devRef .tc main_v65_4) (ix1 j) = if Kept b s j.val then 1#1 else 0#1

variable (b : Fin 4 → Row) (s : Row)

/-- The round takes greedy suppression's entry. -/
theorem Holds.pick {k : ℕ} {V : Valuation τ sig (Elt Ideal)} (h : Holds b s k V) (j : S_.Idx) :
    res_main_while0b_v91 V j = BitVec.ofNat 32 (taken b s k).val := by
  obtain ⟨q, hq⟩ := exists_first fun n => V (Proc.devRef .tc main_v65_2) (ix1 n)
  have hq' : First (fun n => shown (left b (masked s) k n)) q := by
    rw [show (fun n => shown (left b (masked s) k n)) = fun n => V (Proc.devRef .tc main_v65_2) (ix1 n) from
      funext fun n => (h.rest n).symm]
    exact hq
  have e : q = taken b s k := (first_shown (left_ok b s k) hq').unique (best_first _)
  rw [← e]
  exact Run.pick V hq j

open Classical in
/-- One round more. -/
theorem Holds.step {k : ℕ} (hk : k < 100) {V : Valuation τ sig (Elt Ideal)} (h : Holds b s k V) : Holds b s (k + 1) (STEP V) where
  boxes n x := by rw [STEP_main_v65_0]; exact h.boxes n x
  count j := by
    rw [STEP_main_v65_1]
    unfold step_main_v65_1
    rw [id_eq]
    show IntOp.addi (V (Proc.devRef .tc main_v65_1) j) 1#32 = _
    rw [h.count]
    unfold IntOp.addi
    apply BitVec.eq_of_toNat_eq
    simp only [BitVec.toNat_add, BitVec.toNat_ofNat]
    omega
  rest n := by
    rw [STEP_main_v65_2, scores_value V (moved b) (taken b s k) h.pick h.boxes, left_succ]
    unfold next
    by_cases e : Ideal.ofBits .f32 0x3EE66666#32 < overlap (moved b) (taken b s k) n ∨ n = taken b s k
    · rw [if_pos e]
      refine (if_pos ?_).symm
      exact if_pos e
    · rw [if_neg e, h.rest]
      refine congrArg shown ?_
      exact (if_neg e).symm
  index j hj := by
    rw [STEP_main_v65_3, index_value V (taken b s k) h.pick k hk h.count]
    split
    · rename_i e; rw [e]
    · exact h.index j (by omega)
  valid j hj := by
    rw [STEP_main_v65_4, valid_value V (taken b s k) h.pick k hk h.count]
    split
    · rename_i e
      rw [h.rest, e]
      exact if_congr (kept_shown b s k) rfl rfl
    · exact h.valid j (by omega)

/-- So after `k` rounds. -/
theorem Holds.iterate {V : Valuation τ sig (Elt Ideal)} (h : Holds b s 0 V) : ∀ k ≤ 100, Holds b s k (STEP^[k] V)
  | 0, _ => h
  | k + 1, hk => by
    rw [Function.iterate_succ_apply']
    exact (Holds.iterate h k (by omega)).step b s (by omega)

/-- What buffers that agree hold is the same. -/
theorem Holds.congr {k : ℕ} {V V' : Valuation τ sig (Elt Ideal)} (e : Agree V V') (h : Holds b s k V') : Holds b s k V where
  boxes n x := by rw [e main_v65_0 (by decide)]; exact h.boxes n x
  count j := by rw [e main_v65_1 (by decide)]; exact h.count j
  rest n := by rw [e main_v65_2 (by decide)]; exact h.rest n
  index j hj := by rw [e main_v65_3 (by decide)]; exact h.index j hj
  valid j hj := by rw [e main_v65_4 (by decide)]; exact h.valid j hj

end Cert.ReferenceIdeal.Run

end
-- ==== Proof.RefEntry.lean ====
/- What the reference computes before its loop, read at candidates: scores, labels and boxes. -/
module

public import proofs.«01_k».proof.Proof.RefLoop
public import proofs.«01_k».proof.Proof.RefFrame
public import proofs.«01_k».proof.Proof.Inputs
public import Idealize.ShloMosaic.Lib.Tactic.CleanTypes

@[expose] public section

set_option maxRecDepth 16384

noncomputable section

namespace Cert.ReferenceIdeal.Run

open Cert.ReferenceIdeal Cert.ReferenceIdeal.Gen Cert.ReferenceIdeal.Ops Cert.Greedy
open Idealize.ShloMosaic Idealize.ShloMosaic.StableHlo

variable (W : Valuation τ sig (Elt Ideal))

/-- A maximum's start does not add to it. -/
theorem max_start (f : Fin 21 → EReal) : max (Ideal.ofBits .f32 0xFF800000#32) (Finset.fold max (Ideal.ofBits .f32 0xFF800000#32) f Finset.univ)
    = Finset.fold max (Ideal.ofBits .f32 0xFF800000#32) f Finset.univ :=
  max_eq_right (Finset.le_fold_max _ |>.mpr (.inl le_rfl))

/-- A candidate's score. -/
theorem entry_score (n : Fin 400000) :
    after hostOps0 W (Proc.devRef .tc main_v51) (ix1 n) = score (fun p x => W (Proc.devRef .tc main_arg0) (ix3 0 p x)) n := by
  after_results
  clean_types
  pointwise []
  simp only [max_start]
  rfl

/-- A candidate's label. -/
theorem entry_label (n : Fin 400000) :
    after hostOps0 W (Proc.devRef .tc main_v49) (ix1 n) = BitVec.ofNat 32 (1 + n.val % 20) := by
  after_results
  clean_types
  pointwise []

/-- A half of a size is the size times a half. -/
theorem half_size (a : EReal) : Ideal.div a (Ideal.ofBits .f32 0x40000000#32) = a * Ideal.ofBits .f32 0x3F000000#32 := by
  rw [two_eq, half_eq]
  exact Ideal.div_coe (by norm_num) a

/-- A candidate's box. -/
theorem entry_box (n : Fin 400000) (k : Fin 4) :
    after hostOps0 W (Proc.devRef .tc main_v53) (ix2 n k) = corners (fun p x => W (Proc.devRef .tc main_arg1) (ix3 0 p x))
      (fun p x => W (Proc.devRef .tc main_arg2) (ix2 p x)) k n := by
  after_results
  clean_types
  match k with
  | 0 =>
    pointwise []
    simp only [half_size]
    rfl
  | 1 =>
    pointwise []
    simp only [half_size]
    rfl
  | 2 =>
    pointwise []
    simp only [half_size]
    rfl
  | 3 =>
    pointwise []
    simp only [half_size]
    rfl

/-- Whether a score is above the threshold. -/
theorem entry_above (n : Fin 400000) :
    after hostOps0 W (Proc.devRef .tc main_v55) (ix1 n)
      = Ideal.cmp .ogt (score (fun p x => W (Proc.devRef .tc main_arg0) (ix3 0 p x)) n) (Ideal.ofBits .f32 0x3C23D70A#32) := by
  after_results
  clean_types
  pointwise []
  simp only [max_start]
  rfl

/-- The reference's mask. -/
theorem entry_mask (j : S_.Idx) : after hostOps0 W (Proc.devRef .tc main_cst_8) j = Ideal.ofBits .f32 0xF149F2CA#32 := by
  after_results
  rfl

/-- The scores the loop starts from. -/
theorem entry_masked (n : Fin 400000) :
    after hostOps0_1 W (Proc.devRef .tc main_v56) (ix1 n)
      = Scalar.select (W (Proc.devRef .tc main_v55) (ix1 n)) (W (Proc.devRef .tc main_v51) (ix1 n)) (W (Proc.devRef .tc main_cst_8) ix0) := by
  after_results
  simp only [StableHlo.TRef.toBuf, StableHlo.TRef.ofBuf, cast_cast, cast_eq]
  pointwise []
  rfl

/-- The boxes the loop starts from. -/
theorem entry_moved (n : Fin 400000) (k : Fin 4) :
    (after hostOps0_2 W (Proc.devRef .tc main_v65_0) (ix2 n k) : EReal) = HAdd.hAdd (α := EReal) (W (Proc.devRef .tc main_v53) (ix2 n k))
      (((BitVec.toInt (n := 32) (W (Proc.devRef .tc main_v49) (ix1 n)) : ℝ) : EReal) * Ideal.ofBits .f32 0x45000000#32) := by
  after_results
  clean_types
  rw [id_eq]
  pointwise []
  rfl

/-- The round the loop starts from. -/
theorem entry_count (j : S_.Idx) : after hostOps0_2 W (Proc.devRef .tc main_v65_1) j = 0#32 := by
  after_results
  rfl

/-- The loop starts from the masked scores. -/
theorem entry_rest : after hostOps0_2 W (Proc.devRef .tc main_v65_2) = W (Proc.devRef .tc main_v56) := by
  after_results
  rfl

/-- A label as a number, times its step: the candidate's shift. -/
theorem shift_value (n : Fin 400000) :
    ((((BitVec.ofNat 32 (1 + n.val % 20)).toInt : ℝ) : EReal) * Ideal.ofBits .f32 0x45000000#32 : EReal) = (offset n : EReal) := by
  rw [step_eq, WordCmp.toInt_ofNat_of_lt (by omega)]
  unfold offset
  rw [add_comm (1 : ℕ)]
  norm_cast

/-- A score that is not above the threshold is masked. -/
theorem masked_value (s : Row) (n : Fin 400000) :
    Scalar.select (Ideal.cmp .ogt (s n) (Ideal.ofBits .f32 0x3C23D70A#32)) (s n) (Ideal.ofBits .f32 0xF149F2CA#32) = shown (masked s n) := by
  have e : ∀ h : Ideal.ofBits .f32 0x3C23D70A#32 < s n, s n ≠ ⊥ := fun h e => by rw [e] at h; exact not_lt_bot h
  unfold masked shown
  by_cases h : Ideal.ofBits .f32 0x3C23D70A#32 < s n
  · rw [if_pos h, if_neg (e h)]
    simp [Ideal.cmp, Scalar.select, h]
  · rw [if_neg h, if_pos rfl]
    simp [Ideal.cmp, Scalar.select, h]

variable (m : (ℓ : Loc nD τ sig) → Buf (Elt Ideal) ℓ)

/-- The arguments, at coordinates. -/
def logits (c : Dev nD) : Fin 20000 → Fin 21 → EReal := fun p x => m ((c.tc : Thread nD τ).loc main_arg0) (ix3 0 p x)
/-- The box offsets, at coordinates. -/
def deltas (c : Dev nD) : Fin 20000 → Fin 4 → EReal := fun p x => m ((c.tc : Thread nD τ).loc main_arg1) (ix3 0 p x)
/-- The prior boxes, at coordinates. -/
def priors (c : Dev nD) : Fin 20000 → Fin 4 → EReal := fun p x => m ((c.tc : Thread nD τ).loc main_arg2) (ix2 p x)

/-- The candidates' scores and boxes, from the arguments. -/
abbrev argScore (c : Dev nD) : Row := score (logits m c)
/-- The candidates' boxes, from the arguments. -/
abbrev argCorners (c : Dev nD) : Fin 4 → Row := corners (deltas m c) (priors m c)

/-- The loop's entry, stretch by stretch. -/
theorem entry_eq (c : Dev nD) : entryContents preI m c = after hostOps0_2 (after hostOps0_1 (after hostOps0 (launchContents m c))) := rfl

/-- What the two later stretches do not write. -/
theorem entry_first {r : Ref sig .tc} (h1 : r ∉ hostOps0_1_W) (h2 : r ∉ hostOps0_2_W) (c : Dev nD) :
    entryContents preI m c (Proc.devRef .tc r) = after hostOps0 (launchContents m c) (Proc.devRef .tc r) := by
  rw [entry_eq, after_of_writes_sub _ _ hostOps0_2_writes h2, after_of_writes_sub _ _ hostOps0_1_writes h1]

/-- At the loop's entry: the scores, the labels and the boxes. -/
theorem entryScore (c : Dev nD) (n : Fin 400000) : entryContents preI m c (Proc.devRef .tc main_v51) (ix1 n) = argScore m c n := by
  rw [entry_first m (by decide +kernel) (by decide +kernel)]
  exact entry_score _ n

/-- At the loop's entry: the labels. -/
theorem entryLabel (c : Dev nD) (n : Fin 400000) :
    entryContents preI m c (Proc.devRef .tc main_v49) (ix1 n) = BitVec.ofNat 32 (1 + n.val % 20) := by
  rw [entry_first m (by decide +kernel) (by decide +kernel)]
  exact entry_label _ n

/-- At the loop's entry: the boxes. -/
theorem entryBox (c : Dev nD) (n : Fin 400000) (k : Fin 4) :
    entryContents preI m c (Proc.devRef .tc main_v53) (ix2 n k) = argCorners m c k n := by
  rw [entry_first m (by decide +kernel) (by decide +kernel)]
  exact entry_box _ n k

/-- Before the first round. -/
theorem entry_holds (c : Dev nD) : Holds (argCorners m c) (argScore m c) 0 (entryContents preI m c) where
  boxes n x := by
    rw [entry_eq]
    refine (entry_moved _ n x).trans ?_
    rw [after_of_writes_sub _ _ hostOps0_1_writes (show main_v53 ∉ hostOps0_1_W by decide +kernel),
      after_of_writes_sub _ _ hostOps0_1_writes (show main_v49 ∉ hostOps0_1_W by decide +kernel), entry_label, entry_box]
    rw [shift_value]
    rfl
  count j := by rw [entry_eq]; exact entry_count _ j
  rest n := by
    rw [entry_eq, entry_rest, entry_masked, entry_above, entry_mask, entry_score]
    exact masked_value _ n
  index j hj := absurd hj (Nat.not_lt_zero _)
  valid j hj := absurd hj (Nat.not_lt_zero _)

/-- After the loop. -/
theorem loop_holds (c : Dev nD) : Holds (argCorners m c) (argScore m c) 100 (atK m 100 c) :=
  Holds.congr _ _ (atK_agree m c 100) (Holds.iterate _ _ (entry_holds m c) 100 le_rfl)

end Cert.ReferenceIdeal.Run

end
-- ==== Proof.RefResult.lean ====
/- The reference's results: what its rounds keep, gathered from the boxes, the scores and the labels. -/
module

public import proofs.«01_k».proof.Proof.RefEntry
public import Idealize.ShloMosaic.Lib.Routing.Ops
public import Idealize.ShloMosaic.Lib.Pointwise.IndexBridge

@[expose] public section

set_option maxRecDepth 16384

noncomputable section

namespace Cert.ReferenceIdeal.Run

open Cert.ReferenceIdeal Cert.ReferenceIdeal.Gen Cert.ReferenceIdeal.Ops Cert.Greedy
open Idealize.ShloMosaic Idealize.ShloMosaic.StableHlo Idealize.ShloMosaic.TcCoe
open Idealize.SL.Sem

/-! ## Gathers by the kept indices -/

/-- A gathered row. -/
theorem gather_box (B : FVec Ideal S400000x4 .f32) (i : IVec S100x1 32) (j : Fin 100) (k : Fin 4) (q : Fin 400000)
    (h : i (ix2 j 0) = BitVec.ofNat 32 q.val) :
    Host.gather gather_S400000x4_S100x1_S100x4_1_0_n_n_0_1_14 B i (ix2 j k) = B (ix2 q k) := by
  rw [ix2_eq_valueIdx, ix2_eq_valueIdx]
  refine Routing.gather_row gather_S400000x4_S100x1_S100x4_1_0_n_n_0_1_14 rfl rfl rfl rfl rfl B i j k q ?_ (by norm_num)
  rw [← ix2_eq_valueIdx]
  exact h

/-- A gathered entry. -/
theorem gather_entry {α : Type} (B : S400000.Idx → α) (i : IVec S100x1 32) (j : Fin 100) (q : Fin 400000)
    (h : i (ix2 j 0) = BitVec.ofNat 32 q.val) :
    Host.gather gather_S400000_S100x1_S100_n_0_n_n_0_1_1 B i (ix1 j) = B (ix1 q) := by
  rw [ix1_eq_valueIdx, ix1_eq_valueIdx]
  refine Routing.gather_take1 gather_S400000_S100x1_S100_n_0_n_n_0_1_1 rfl rfl rfl rfl B i j q ?_ (by norm_num)
  rw [← ix2_eq_valueIdx]
  exact h

/-- The kept indices as the gathers take them: none is negative, so each is itself. -/
theorem wrapped_lane (X : IVec S100 32) (j : Fin 100) (q : Fin 400000) (h : X (ix1 j) = BitVec.ofNat 32 q.val) :
    broadcastInDim S100x1 ![0] bcast_S100_S100x1_0 (select (cmpi .slt X (broadcastInDim S100 ![] bcast_S_S100 (constantI S_ 32 0#32)))
      (addi X (broadcastInDim S100 ![] bcast_S_S100 (constantI S_ 32 400000#32))) X) (ix2 j 0) = BitVec.ofNat 32 q.val := by
  pointwise []
  rw [h]
  refine Routing.wrap_of_lt _ _ ?_
  rw [BitVec.toNat_ofNat]
  have := q.isLt
  omega

variable (W : Valuation τ sig (Elt Ideal))

/-- The constant zero. -/
theorem zero_value : Ideal.ofBits .f32 0x00000000#32 = 0 := by simp [Ideal.ofBits, Ideal.ieee]

/-! ## The stretches after the loop -/

/-- The gathered box is the box of the kept index. -/
theorem post3_box (j : Fin 100) (k : Fin 4) (q : Fin 400000) (h : W (Proc.devRef .tc main_v65_3) (ix1 j) = BitVec.ofNat 32 q.val) :
    after hostOps0_3 W (Proc.devRef .tc main_v73) (ix2 j k) = W (Proc.devRef .tc main_v53) (ix2 q k) := by
  after_results
  exact gather_box _ _ j k q (wrapped_lane _ j q h)

/-- The bit of each lane, as the selection of the boxes takes it. -/
theorem post3_valid (j : Fin 100) : after hostOps0_3 W (Proc.devRef .tc main_v66) (ix2 j 0) = W (Proc.devRef .tc main_v65_4) (ix1 j) := by
  after_results
  clean_types
  pointwise []

/-- What an unkept box is replaced by is zero. -/
theorem post3_zero (j : S_.Idx) : (after hostOps0_3 W (Proc.devRef .tc main_cst_14) j : EReal) = (0 : EReal) := by
  after_results
  exact zero_value

/-- A box is the gathered one if its lane is kept, else zero. -/
theorem post4 (j : Fin 100) (k : Fin 4) : after hostOps0_4 W (Proc.devRef .tc main_v74) (ix2 j k)
      = Scalar.select (W (Proc.devRef .tc main_v66) (ix2 j 0)) (W (Proc.devRef .tc main_v73) (ix2 j k)) (W (Proc.devRef .tc main_cst_14) ix0) := by
  after_results
  simp only [StableHlo.TRef.toBuf, StableHlo.TRef.ofBuf, cast_cast, cast_eq]
  pointwise []
  rfl

/-- The gathered score is the score of the kept index. -/
theorem post5_score (j : Fin 100) (q : Fin 400000) (h : W (Proc.devRef .tc main_v65_3) (ix1 j) = BitVec.ofNat 32 q.val) :
    after hostOps0_5 W (Proc.devRef .tc main_v81) (ix1 j) = W (Proc.devRef .tc main_v51) (ix1 q) := by
  after_results
  exact gather_entry _ _ j q (wrapped_lane _ j q h)

/-- What an unkept score is replaced by is zero. -/
theorem post5_zero (j : S_.Idx) : (after hostOps0_5 W (Proc.devRef .tc main_cst_17) j : EReal) = (0 : EReal) := by
  after_results
  exact zero_value

/-- A score is the gathered one if its lane is kept, else zero. -/
theorem post6 (j : Fin 100) : after hostOps0_6 W (Proc.devRef .tc main_v82) (ix1 j)
      = Scalar.select (W (Proc.devRef .tc main_v65_4) (ix1 j)) (W (Proc.devRef .tc main_v81) (ix1 j)) (W (Proc.devRef .tc main_cst_17) ix0) := by
  after_results
  simp only [StableHlo.TRef.toBuf, StableHlo.TRef.ofBuf, cast_cast, cast_eq]
  pointwise []
  rfl

/-- The gathered label is the label of the kept index. -/
theorem post7_label (j : Fin 100) (q : Fin 400000) (h : W (Proc.devRef .tc main_v65_3) (ix1 j) = BitVec.ofNat 32 q.val) :
    after hostOps0_7 W (Proc.devRef .tc main_v89) (ix1 j) = W (Proc.devRef .tc main_v49) (ix1 q) := by
  after_results
  exact gather_entry _ _ j q (wrapped_lane _ j q h)

/-- What an unkept label is replaced by is zero. -/
theorem post7_zero (j : S_.Idx) : after hostOps0_7 W (Proc.devRef .tc main_c_20) j = 0#32 := by
  after_results
  rfl

/-- A label is the gathered one if its lane is kept, else zero. -/
theorem post8 (j : Fin 100) : after hostOps0_8 W (Proc.devRef .tc main_v90) (ix1 j)
      = Scalar.select (W (Proc.devRef .tc main_v65_4) (ix1 j)) (W (Proc.devRef .tc main_v89) (ix1 j)) (W (Proc.devRef .tc main_c_20) ix0) := by
  after_results
  simp only [StableHlo.TRef.toBuf, StableHlo.TRef.ofBuf, cast_cast, cast_eq]
  pointwise []
  rfl

/-! ## The results -/

variable (m : (ℓ : Loc nD τ sig) → Buf (Elt Ideal) ℓ) (ρ : Dev nD → PrngReg)

/-- The contents the operations after the loop start from. -/
abbrev atEnd (c : Dev nD) : Valuation τ sig (Elt Ideal) := after condOps (atK m 100 c)

/-- The contents the run ends with, stretch by stretch. -/
theorem final_eq (c : Dev nD) : finalContents condOps preI bodyI postI 100 m c
    = after hostOps0_8 (after hostOps0_7 (after hostOps0_6 (after hostOps0_5 (after hostOps0_4 (after hostOps0_3 (atEnd m c)))))) := rfl

/-- There the loop's results are what the rounds take and keep … -/
theorem end_holds (c : Dev nD) : Holds (argCorners m c) (argScore m c) 100 (atEnd m c) :=
  Holds.congr _ _ (cond_keeps _) (loop_holds m c)

/-- … and what was computed before the loop is still there. -/
theorem end_keeps {r : Ref sig .tc} (h : r ∉ loopW) (c : Dev nD) :
    atEnd m c (Proc.devRef .tc r) = entryContents preI m c (Proc.devRef .tc r) := by
  show after condOps (atK m 100 c) (Proc.devRef .tc r) = _
  rw [after_of_writes_sub _ _ condOps_writes (fun h' => h (List.mem_append_left _ h')), loop_keeps m h]

/-- A buffer that stretches of the operations do not write. -/
theorem keeps3 {r : Ref sig .tc} (h : r ∉ hostOps0_3_W) : after hostOps0_3 W (Proc.devRef .tc r) = W (Proc.devRef .tc r) :=
  after_of_writes_sub _ _ hostOps0_3_writes h
/-- A buffer that stretch 4 does not write. -/
theorem keeps4 {r : Ref sig .tc} (h : r ∉ hostOps0_4_W) : after hostOps0_4 W (Proc.devRef .tc r) = W (Proc.devRef .tc r) :=
  after_of_writes_sub _ _ hostOps0_4_writes h
/-- A buffer that stretch 5 does not write. -/
theorem keeps5 {r : Ref sig .tc} (h : r ∉ hostOps0_5_W) : after hostOps0_5 W (Proc.devRef .tc r) = W (Proc.devRef .tc r) :=
  after_of_writes_sub _ _ hostOps0_5_writes h
/-- A buffer that stretch 6 does not write. -/
theorem keeps6 {r : Ref sig .tc} (h : r ∉ hostOps0_6_W) : after hostOps0_6 W (Proc.devRef .tc r) = W (Proc.devRef .tc r) :=
  after_of_writes_sub _ _ hostOps0_6_writes h
/-- A buffer that stretch 7 does not write. -/
theorem keeps7 {r : Ref sig .tc} (h : r ∉ hostOps0_7_W) : after hostOps0_7 W (Proc.devRef .tc r) = W (Proc.devRef .tc r) :=
  after_of_writes_sub _ _ hostOps0_7_writes h
/-- A buffer that stretch 8 does not write. -/
theorem keeps8 {r : Ref sig .tc} (h : r ∉ hostOps0_8_W) : after hostOps0_8 W (Proc.devRef .tc r) = W (Proc.devRef .tc r) :=
  after_of_writes_sub _ _ hostOps0_8_writes h

open Classical in
/-- A selection by a bit that states something. -/
theorem select_bit {α : Type} (p : Prop) (x y : α) : Scalar.select (if p then 1#1 else 0#1) x y = if p then x else y := by
  by_cases h : p
  · rw [if_pos h, if_pos h]; rfl
  · rw [if_neg h, if_neg h]; rfl

/-- The boxes. -/
theorem result_0 (c : Dev nD) (j : Fin 100) (k : Fin 4) :
    finalContents condOps preI bodyI postI 100 m c (Proc.devRef .tc main_v74) (ix2 j k) = boxOut (argCorners m c) (argScore m c) j k := by
  have h := end_holds m c
  rw [final_eq, keeps8 _ (by decide +kernel), keeps7 _ (by decide +kernel), keeps6 _ (by decide +kernel), keeps5 _ (by decide +kernel),
    post4, post3_valid, post3_box _ j k _ (h.index j j.isLt), h.valid j j.isLt, post3_zero, end_keeps m (by decide +kernel), entryBox]
  exact select_bit _ _ _

/-- The scores. -/
theorem result_1 (c : Dev nD) (j : Fin 100) :
    finalContents condOps preI bodyI postI 100 m c (Proc.devRef .tc main_v82) (ix1 j) = scoreOut (argCorners m c) (argScore m c) j := by
  have h := end_holds m c
  have hi : after hostOps0_4 (after hostOps0_3 (atEnd m c)) (Proc.devRef .tc main_v65_3) (ix1 j)
      = BitVec.ofNat 32 (taken (argCorners m c) (argScore m c) j.val).val := by
    rw [keeps4 _ (by decide +kernel), keeps3 _ (by decide +kernel)]
    exact h.index j j.isLt
  rw [final_eq, keeps8 _ (by decide +kernel), keeps7 _ (by decide +kernel), post6, post5_score _ j _ hi, post5_zero,
    keeps5 _ (by decide +kernel), keeps4 _ (by decide +kernel), keeps3 _ (by decide +kernel), h.valid j j.isLt,
    keeps4 _ (by decide +kernel), keeps3 _ (by decide +kernel), end_keeps m (by decide +kernel), entryScore]
  exact select_bit _ _ _

open Classical in
/-- The labels. -/
theorem result_2 (c : Dev nD) (j : Fin 100) :
    finalContents condOps preI bodyI postI 100 m c (Proc.devRef .tc main_v90) (ix1 j) = labelOut (argCorners m c) (argScore m c) j := by
  have h := end_holds m c
  have hi : after hostOps0_6 (after hostOps0_5 (after hostOps0_4 (after hostOps0_3 (atEnd m c)))) (Proc.devRef .tc main_v65_3) (ix1 j)
      = BitVec.ofNat 32 (taken (argCorners m c) (argScore m c) j.val).val := by
    rw [keeps6 _ (by decide +kernel), keeps5 _ (by decide +kernel), keeps4 _ (by decide +kernel), keeps3 _ (by decide +kernel)]
    exact h.index j j.isLt
  rw [final_eq, post8, post7_label _ j _ hi, post7_zero,
    keeps7 _ (by decide +kernel), keeps6 _ (by decide +kernel), keeps5 _ (by decide +kernel), keeps4 _ (by decide +kernel),
    keeps3 _ (by decide +kernel), h.valid j j.isLt, keeps6 _ (by decide +kernel), keeps5 _ (by decide +kernel),
    keeps4 _ (by decide +kernel), keeps3 _ (by decide +kernel), end_keeps m (by decide +kernel), entryLabel]
  refine (select_bit _ _ _).trans (if_congr Iff.rfl ?_ rfl)
  apply BitVec.eq_of_toNat_eq
  simp only [BitVec.toNat_add, BitVec.toNat_ofNat]
  omega

/-- Every run of the reference ends with the boxes, scores and labels of greedy suppression, its arguments kept. -/
theorem run_value : θ_run (defs (F := Ideal)) (onTc (τ := τ) (main (F := Ideal))) ⟨m, fun _ => 0, ρ⟩ (fun r => ∀ c : Dev nD,
      (∀ j k, r.2.mem ((c.tc : Thread nD τ).loc main_v74) (ix2 j k) = boxOut (argCorners m c) (argScore m c) j k)
      ∧ (∀ j, r.2.mem ((c.tc : Thread nD τ).loc main_v82) (ix1 j) = scoreOut (argCorners m c) (argScore m c) j)
      ∧ (∀ j, r.2.mem ((c.tc : Thread nD τ).loc main_v90) (ix1 j) = labelOut (argCorners m c) (argScore m c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨fun j k => (congrFun (h c main_v74 rfl) _).trans (result_0 m c j k), fun j => (congrFun (h c main_v82 rfl) _).trans (result_1 m c j),
      fun j => (congrFun (h c main_v90 rfl) _).trans (result_2 m c j), (h c main_arg0 rfl).trans (final_arg m (by decide) c),
      (h c main_arg1 rfl).trans (final_arg m (by decide) c), (h c main_arg2 rfl).trans (final_arg m (by decide) c)⟩) (run_fold m ρ)

end Cert.ReferenceIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelIdealRun
public import proofs.«01_k».proof.Proof.RefFrame
public import proofs.«01_k».proof.Proof.KernelResult
public import proofs.«01_k».proof.Proof.RefResult
public import Idealize.ShloMosaic.Adequacy
public import Idealize.ShloMosaic.Init

@[expose] public section

noncomputable section

namespace Cert.Proof

open Idealize.ShloMosaic Idealize.ShloMosaic.TcCoe
open Idealize.SL.Sem

/-- On memories that agree on the three arguments the kernel's idealization and the reference end with the same boxes,
    scores and labels: those of greedy suppression. -/
theorem same_results : Cert.algebraic_KernelIdeal_ReferenceIdeal (hKernelIdeal := Cert.KernelIdeal.Gen.facts)
    (hReferenceIdeal := Cert.ReferenceIdeal.Gen.facts) := by
  intro m g m' g' _ hargs
  have hs : ∀ c, Cert.ReferenceIdeal.Run.argScore m' c = Cert.KernelIdeal.Nms.argScore m c := fun c =>
    congrArg Cert.Greedy.score (funext fun p => funext fun x => congrFun (hargs c).1 (ix3 0 p x))
  have hb : ∀ c, Cert.ReferenceIdeal.Run.argCorners m' c = Cert.KernelIdeal.Nms.argCorners m c := fun c =>
    congrArg₂ Cert.Greedy.corners (funext fun p => funext fun x => congrFun (hargs c).2.1 (ix3 0 p x))
      (funext fun p => funext fun x => congrFun (hargs c).2.2 (ix2 p x))
  refine ⟨fun c i => Cert.Greedy.boxOut (Cert.KernelIdeal.Nms.argCorners m c) (Cert.KernelIdeal.Nms.argScore m c) (i 0) (i 1),
    fun c i => Cert.Greedy.scoreOut (Cert.KernelIdeal.Nms.argCorners m c) (Cert.KernelIdeal.Nms.argScore m c) (i 0),
    fun c i => Cert.Greedy.labelOut (Cert.KernelIdeal.Nms.argCorners m c) (Cert.KernelIdeal.Nms.argScore m c) (i 0), ?_, ?_⟩
  · refine (θ_run _ _ _).mono (fun r h c => ?_) (Cert.KernelIdeal.Nms.run_value m g)
    obtain ⟨h0, h1, h2, ha⟩ := h c
    refine ⟨funext fun i => ?_, funext fun i => ?_, funext fun i => ?_, ha⟩
    · exact (congrArg _ (eq_ix2 i)).trans (h0 (i 0) (i 1))
    · exact (congrArg _ (eq_ix1 i)).trans (h1 (i 0))
    · exact (congrArg _ (eq_ix1 i)).trans (h2 (i 0))
  · refine (θ_run _ _ _).mono (fun r h c => ?_) (Cert.ReferenceIdeal.Run.run_value m' g')
    obtain ⟨h0, h1, h2, ha⟩ := h c
    rw [hs, hb] at h0 h1 h2
    refine ⟨funext fun i => ?_, funext fun i => ?_, funext fun i => ?_, ha⟩
    · exact (congrArg _ (eq_ix2 i)).trans (h0 (i 0) (i 1))
    · exact (congrArg _ (eq_ix1 i)).trans (h1 (i 0))
    · exact (congrArg _ (eq_ix1 i)).trans (h2 (i 0))

/-- The certificate's claim. -/
theorem claim : Cert.Claim :=
  ⟨Cert.Kernel.Gen.facts, Cert.KernelIdeal.Gen.facts, Cert.ReferenceIdeal.Gen.facts,
    fun m g _ => Cert.Kernel.Nms.quiescent m g,
    fun m g _ => Cert.KernelIdeal.Nms.quiescent m g,
    fun m g _ => Cert.ReferenceIdeal.Run.quiescent m g,
    IdealRules.named_const.statement Cert.KernelIdeal.κ "neg" .f32 0xF149F2CA#32 ⊥ rfl, same_results⟩

end Cert.Proof

end
